-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v46)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v46) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v129) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)) →
    ∃ (v0 : (c : Dev Cert.PreIdeal.nD) → Buf (Elt Ideal) ((c.tc : Thread Cert.PreIdeal.nD Cert.PreIdeal.τ).loc Cert.PreIdeal.main_v8_0)) (v1 : (c : Dev Cert.PreIdeal.nD) → Buf (Elt Ideal) ((c.tc : Thread Cert.PreIdeal.nD Cert.PreIdeal.τ).loc Cert.PreIdeal.main_v8_1)) (v2 : (c : Dev Cert.PreIdeal.nD) → Buf (Elt Ideal) ((c.tc : Thread Cert.PreIdeal.nD Cert.PreIdeal.τ).loc Cert.PreIdeal.main_v8_2)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v8_0) = v0 c
          ∧ r.2.mem ((c.tc : Thread Cert.PreIdeal.nD Cert.PreIdeal.τ).loc Cert.PreIdeal.main_v8_1) = v1 c
          ∧ r.2.mem ((c.tc : Thread Cert.PreIdeal.nD Cert.PreIdeal.τ).loc Cert.PreIdeal.main_v8_2) = v2 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v20) = v0 c
          ∧ r.2.mem ((c.tc : Thread Cert.PreRefIdeal.nD Cert.PreRefIdeal.τ).loc Cert.PreRefIdeal.main_v72) = v1 c
          ∧ r.2.mem ((c.tc : Thread Cert.PreRefIdeal.nD Cert.PreRefIdeal.τ).loc Cert.PreRefIdeal.main_v73) = v2 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8))

def Claim : Prop :=
  ∃ (hPost : Cert.Post.Facts) (hPostIdeal : Cert.PostIdeal.Facts) (hPostRefIdeal : Cert.PostRefIdeal.Facts) (hPre : Cert.Pre.Facts) (hPreIdeal : Cert.PreIdeal.Facts) (hPreRefIdeal : Cert.PreRefIdeal.Facts),
    quiescent_Post (hPost := hPost)
    ∧ quiescent_PostIdeal (hPostIdeal := hPostIdeal)
    ∧ quiescent_PostRefIdeal (hPostRefIdeal := hPostRefIdeal)
    ∧ quiescent_Pre (hPre := hPre)
    ∧ quiescent_PreIdeal (hPreIdeal := hPreIdeal)
    ∧ quiescent_PreRefIdeal (hPreRefIdeal := hPreRefIdeal)
    ∧ preserves_Post_PostIdeal
    ∧ algebraic_PostIdeal_PostRefIdeal (hPostIdeal := hPostIdeal) (hPostRefIdeal := hPostRefIdeal)
    ∧ preserves_Pre_PreIdeal
    ∧ algebraic_PreIdeal_PreRefIdeal (hPreIdeal := hPreIdeal) (hPreRefIdeal := hPreRefIdeal)
-- ==== Post.lean ====
abbrev S8x8192x1024 : Shape := ⟨3, ![8, 8192, 1024]⟩
abbrev S8x8192x512 : Shape := ⟨3, ![8, 8192, 512]⟩
abbrev S8x8192x1536 : Shape := ⟨3, ![8, 8192, 1536]⟩
abbrev S8x8192x256 : Shape := ⟨3, ![8, 8192, 256]⟩
abbrev S4x64x64 : Shape := ⟨3, ![4, 64, 64]⟩
abbrev S256 : Shape := ⟨1, ![256]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4 : Shape := ⟨1, ![4]⟩
abbrev S256x256 : Shape := ⟨2, ![256, 256]⟩
abbrev S8192 : Shape := ⟨1, ![8192]⟩
abbrev S8192x1 : Shape := ⟨2, ![8192, 1]⟩
abbrev S4x64 : Shape := ⟨2, ![4, 64]⟩
abbrev S1x256 : Shape := ⟨2, ![1, 256]⟩
abbrev S8192x256 : Shape := ⟨2, ![8192, 256]⟩
abbrev S_ : Shape := ⟨0, ![]⟩
abbrev S4x4 : Shape := ⟨2, ![4, 4]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S1x64 : Shape := ⟨2, ![1, 64]⟩
abbrev S1x1024 : Shape := ⟨2, ![1, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x8x256 : Shape := ⟨3, ![1, 8, 256]⟩
abbrev S512x256 : Shape := ⟨2, ![512, 256]⟩
abbrev S4x544x256 : Shape := ⟨3, ![4, 544, 256]⟩
abbrev S512x2816 : Shape := ⟨2, ![512, 2816]⟩
abbrev S8x256 : Shape := ⟨2, ![8, 256]⟩
abbrev S1x528x256 : Shape := ⟨3, ![1, 528, 256]⟩
abbrev S528x256 : Shape := ⟨2, ![528, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩

abbrev nBuf : Space → Nat
  | .hbm => 100
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x1536, .f32⟩
  | .hbm, ⟨3, _⟩ => ⟨S8x8192x256, .f32⟩
  | .hbm, ⟨4, _⟩ => ⟨S8x8192x256, .f32⟩
  | .hbm, ⟨5, _⟩ => ⟨S4x64x64, .f32⟩
  | .hbm, ⟨6, _⟩ => ⟨S256, .f32⟩
  | .hbm, ⟨7, _⟩ => ⟨S64, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S4, .i32⟩
  | .hbm, ⟨14, _⟩ => ⟨S256x256, .bf16⟩
  | .hbm, ⟨15, _⟩ => ⟨S1024x1024, .bf16⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S8192, .i32⟩
  | .hbm, ⟨20, _⟩ => ⟨S8192x1, .i32⟩
  | .hbm, ⟨21, _⟩ => ⟨S4x64, .i32⟩
  | .hbm, ⟨22, _⟩ => ⟨S256, .i32⟩
  | .hbm, ⟨23, _⟩ => ⟨S1x256, .i32⟩
  | .hbm, ⟨24, _⟩ => ⟨S8192x256, .i32⟩
  | .hbm, ⟨25, _⟩ => ⟨S8192x256, .i32⟩
  | .hbm, ⟨26, _⟩ => ⟨S8192x256, .i32⟩
  | .hbm, ⟨27, _⟩ => ⟨S_, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S1x256, .i32⟩
  | .hbm, ⟨32, _⟩ => ⟨S_, .i32⟩
  | .hbm, ⟨33, _⟩ => ⟨S1x256, .i32⟩
  | .hbm, ⟨34, _⟩ => ⟨S1x256, .i1⟩
  | .hbm, ⟨35, _⟩ => ⟨S1x256, .i32⟩
  | .hbm, ⟨36, _⟩ => ⟨S1x256, .i32⟩
  | .hbm, ⟨37, _⟩ => ⟨S_, .i32⟩
  | .hbm, ⟨38, _⟩ => ⟨S1x256, .i32⟩
  | .hbm, ⟨39, _⟩ => ⟨S1x256, .i1⟩
  | .hbm, ⟨40, _⟩ => ⟨S1x256, .i1⟩
  | .hbm, ⟨41, _⟩ => ⟨S_, .i32⟩
  | .hbm, ⟨42, _⟩ => ⟨S1x256, .i32⟩
  | .hbm, ⟨43, _⟩ => ⟨S1x256, .i32⟩
  | .hbm, ⟨44, _⟩ => ⟨S1x256, .i32⟩
  | .hbm, ⟨45, _⟩ => ⟨S8192x256, .i32⟩
  | .hbm, ⟨46, _⟩ => ⟨S8192x256, .i32⟩
  | .hbm, ⟨47, _⟩ => ⟨S_, .i32⟩
  | .hbm, ⟨48, _⟩ => ⟨S8192x256, .i32⟩
  | .hbm, ⟨49, _⟩ => ⟨S8192x256, .i32⟩
  | .hbm, ⟨50, _⟩ => ⟨S_, .i32⟩
  | .hbm, ⟨51, _⟩ => ⟨S_, .i32⟩
  | .hbm, ⟨52, _⟩ => ⟨S1x256, .i32⟩
  | .hbm, ⟨53, _⟩ => ⟨S1x256, .i32⟩
  | .hbm, ⟨54, _⟩ => ⟨S1x256, .i32⟩
  | .hbm, ⟨55, _⟩ => ⟨S_, .i32⟩
  | .hbm, ⟨56, _⟩ => ⟨S1x256, .i32⟩
  | .hbm, ⟨57, _⟩ => ⟨S1x256, .i1⟩
  | .hbm, ⟨58, _⟩ => ⟨S1x256, .i32⟩
  | .hbm, ⟨59, _⟩ => ⟨S1x256, .i32⟩
  | .hbm, ⟨60, _⟩ => ⟨S_, .i32⟩
  | .hbm, ⟨61, _⟩ => ⟨S1x256, .i32⟩
  | .hbm, ⟨62, _⟩ => ⟨S1x256, .i1⟩
  | .hbm, ⟨63, _⟩ => ⟨S1x256, .i1⟩
  | .hbm, ⟨64, _⟩ => ⟨S_, .i32⟩
  | .hbm, ⟨65, _⟩ => ⟨S1x256, .i32⟩
  | .hbm, ⟨66, _⟩ => ⟨S1x256, .i32⟩
  | .hbm, ⟨67, _⟩ => ⟨S1x256, .i32⟩
  | .hbm, ⟨68, _⟩ => ⟨S8192x256, .i32⟩
  | .hbm, ⟨69, _⟩ => ⟨S8192x256, .i32⟩
  | .hbm, ⟨70, _⟩ => ⟨S8192x256, .i32⟩
  | .hbm, ⟨71, _⟩ => ⟨S_, .i32⟩
  | .hbm, ⟨72, _⟩ => ⟨S8192x256, .i32⟩
  | .hbm, ⟨73, _⟩ => ⟨S8192x256, .i32⟩
  | .hbm, ⟨74, _⟩ => ⟨S8192x256, .i32⟩
  | .hbm, ⟨75, _⟩ => ⟨S8192x256, .f32⟩
  | .hbm, ⟨76, _⟩ => ⟨S_, .f32⟩
  | .hbm, ⟨77, _⟩ => ⟨S8192x256, .f32⟩
  | .hbm, ⟨78, _⟩ => ⟨S8192x256, .f32⟩
  | .hbm, ⟨79, _⟩ => ⟨S4x4, .i32⟩
  | .hbm, ⟨80, _⟩ => ⟨S4x4, .i32⟩
  | .hbm, ⟨81, _⟩ => ⟨S_, .i32⟩
  | .hbm, ⟨82, _⟩ => ⟨S4x4, .i32⟩
  | .hbm, ⟨83, _⟩ => ⟨S4x4, .i32⟩
  | .hbm, ⟨84, _⟩ => ⟨S4x4, .i1⟩
  | .hbm, ⟨85, _⟩ => ⟨S4x4, .f32⟩
  | .hbm, ⟨86, _⟩ => ⟨S4x64x1x64, .f32⟩
  | .hbm, ⟨87, _⟩ => ⟨S4x1x4x1, .f32⟩
  | .hbm, ⟨88, _⟩ => ⟨S4x64x4x64, .f32⟩
  | .hbm, ⟨89, _⟩ => ⟨S4x64x4x64, .f32⟩
  | .hbm, ⟨90, _⟩ => ⟨S4x64x4x64, .f32⟩
  | .hbm, ⟨91, _⟩ => ⟨S256x256, .f32⟩
  | .hbm, ⟨92, _⟩ => ⟨S256x256, .bf16⟩
  | .hbm, ⟨93, _⟩ => ⟨S1x256, .f32⟩
  | .hbm, ⟨94, _⟩ => ⟨S1x64, .f32⟩
  | .hbm, ⟨95, _⟩ => ⟨S4x64, .f32⟩
  | .hbm, ⟨96, _⟩ => ⟨S256, .f32⟩
  | .hbm, ⟨97, _⟩ => ⟨S1x256, .f32⟩
  | .hbm, ⟨98, _⟩ => ⟨S1x1024, .f32⟩
  | .hbm, ⟨99, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x256, .f32⟩
  | .local _ .vmem, ⟨5, _⟩ => ⟨S1x512x256, .f32⟩
  | .local _ .vmem, ⟨6, _⟩ => ⟨S1x8x256, .f32⟩
  | .local _ .vmem, ⟨7, _⟩ => ⟨S1x8x256, .f32⟩
  | .local _ .vmem, ⟨8, _⟩ => ⟨S1x8x256, .f32⟩
  | .local _ .vmem, ⟨9, _⟩ => ⟨S1x8x256, .f32⟩
  | .local _ .vmem, ⟨10, _⟩ => ⟨S512x256, .f32⟩
  | .local _ .vmem, ⟨11, _⟩ => ⟨S512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S256x256, .bf16⟩
  | .local _ .vmem, ⟨19, _⟩ => ⟨S1x256, .f32⟩
  | .local _ .vmem, ⟨20, _⟩ => ⟨S1x256, .f32⟩
  | .local _ .vmem, ⟨21, _⟩ => ⟨S256x256, .bf16⟩
  | .local _ .vmem, ⟨22, _⟩ => ⟨S1024x1024, .bf16⟩
  | .local _ .vmem, ⟨23, _⟩ => ⟨S1x1024, .f32⟩
  | .local _ .vmem, ⟨24, _⟩ => ⟨S1024x2816, .bf16⟩
  | .local _ .vmem, ⟨25, _⟩ => ⟨S1024x2816, .bf16⟩
  | .local _ .vmem, ⟨26, _⟩ => ⟨S2816x1024, .bf16⟩
  | .local _ .vmem, ⟨27, _⟩ => ⟨S1x512x1024, .f32⟩
  | .local _ .vmem, ⟨28, _⟩ => ⟨S1x512x1024, .f32⟩
  | .local _ .vmem, ⟨29, _⟩ => ⟨S4x544x256, .f32⟩
  | .local _ .vmem, ⟨30, _⟩ => ⟨S512x2816, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c_1 : Ref sig .tc := ⟨.hbm, 47, rfl⟩
abbrev main_v15 : Ref sig .tc := ⟨.hbm, 48, rfl⟩
abbrev main_v16 : Ref sig .tc := ⟨.hbm, 49, rfl⟩
abbrev main_c_2 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_c_3 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst_4 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_c_5 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== PostRefIdeal.lean ====
abbrev S8x8192x1024 : Shape := ⟨3, ![8, 8192, 1024]⟩
abbrev S8x8192x512 : Shape := ⟨3, ![8, 8192, 512]⟩
abbrev S8x8192x1536 : Shape := ⟨3, ![8, 8192, 1536]⟩
abbrev S8x8192x256 : Shape := ⟨3, ![8, 8192, 256]⟩
abbrev S4x64x64 : Shape := ⟨3, ![4, 64, 64]⟩
abbrev S256 : Shape := ⟨1, ![256]⟩
abbrev S64 : Shape := ⟨1, ![64]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8192 : Shape := ⟨1, ![8192]⟩
abbrev S8x8192x64 : Shape := ⟨3, ![8, 8192, 64]⟩
abbrev S_ : Shape := ⟨0, ![]⟩
abbrev S1x8192x1 : Shape := ⟨3, ![1, 8192, 1]⟩
abbrev S1x64x64 : Shape := ⟨3, ![1, 64, 64]⟩
abbrev S64x64 : Shape := ⟨2, ![64, 64]⟩
abbrev S1x1x256 : Shape := ⟨3, ![1, 1, 256]⟩
abbrev S8x8192x4x64 : Shape := ⟨4, ![8, 8192, 4, 64]⟩
abbrev S8x8192x4 : Shape := ⟨3, ![8, 8192, 4]⟩
abbrev S8x8192x4x1 : Shape := ⟨4, ![8, 8192, 4, 1]⟩
abbrev S1x1x1x64 : Shape := ⟨4, ![1, 1, 1, 64]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩

abbrev nBuf : Space → Nat
  | .hbm => 238
  | .vmem => 0
  | .smem => 0
  | _ => 0

abbrev hbmTy0_0 (i : Nat) : BufTy := match i % 128 with
  | 0 => ⟨S8x8192x1024, .f32⟩
  | 1 => ⟨S8x8192x512, .f32⟩
  | 2 => ⟨S8x8192x1536, .f32⟩
  | 3 => ⟨S8x8192x256, .f32⟩
  | 4 => ⟨S8x8192x256, .f32⟩
  | 5 => ⟨S4x64x64, .f32⟩
  | 6 => ⟨S256, .f32⟩
  | 7 => ⟨S64, .f32⟩
  | 8 => ⟨S1024x1024, .f32⟩
  | 9 => ⟨S1024, .f32⟩
  | 10 => ⟨S1024x2816, .f32⟩
  | 11 => ⟨S1024x2816, .f32⟩
  | 12 => ⟨S2816x1024, .f32⟩
  | 13 => ⟨S8x8192x256, .f32⟩
  | 14 => ⟨S8x8192x256, .f32⟩
  | 15 => ⟨S8192, .i32⟩
  | 16 => ⟨S8x8192x64, .f32⟩
  | 17 => ⟨S_, .i32⟩
  | 18 => ⟨S8192, .i32⟩
  | 19 => ⟨S8192, .i32⟩
  | 20 => ⟨S_, .i32⟩
  | 21 => ⟨S_, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S_, .i32⟩
  | 36 => ⟨S_, .i32⟩
  | 37 => ⟨S8192, .i32⟩
  | 38 => ⟨S8192, .i32⟩
  | 39 => ⟨S_, .i32⟩
  | 40 => ⟨S8192, .i32⟩
  | 41 => ⟨S8192, .i32⟩
  | 42 => ⟨S_, .f32⟩
  | 43 => ⟨S_, .f32⟩
  | 44 => ⟨S8x8192x64, .f32⟩
  | 45 => ⟨S8192, .i32⟩
  | 46 => ⟨S8192, .f32⟩
  | 47 => ⟨S1x8192x1, .f32⟩
  | 48 => ⟨S8x8192x64, .f32⟩
  | 49 => ⟨S8x8192x64, .f32⟩
  | 50 => ⟨S8x8192x64, .f32⟩
  | 51 => ⟨S1x64x64, .f32⟩
  | 52 => ⟨S64x64, .f32⟩
  | 53 => ⟨S8x8192x64, .f32⟩
  | 54 => ⟨S8x8192x64, .f32⟩
  | 55 => ⟨S_, .i32⟩
  | 56 => ⟨S8192, .i32⟩
  | 57 => ⟨S8192, .i32⟩
  | 58 => ⟨S_, .i32⟩
  | 59 => ⟨S_, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S_, .i32⟩
  | 70 => ⟨S8192, .i32⟩
  | 71 => ⟨S8192, .i32⟩
  | 72 => ⟨S_, .i32⟩
  | 73 => ⟨S_, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S_, .f32⟩
  | 81 => ⟨S_, .f32⟩
  | 82 => ⟨S8x8192x64, .f32⟩
  | 83 => ⟨S8192, .i32⟩
  | 84 => ⟨S8192, .f32⟩
  | 85 => ⟨S1x8192x1, .f32⟩
  | 86 => ⟨S8x8192x64, .f32⟩
  | 87 => ⟨S8x8192x64, .f32⟩
  | 88 => ⟨S8x8192x64, .f32⟩
  | 89 => ⟨S1x64x64, .f32⟩
  | 90 => ⟨S64x64, .f32⟩
  | 91 => ⟨S8x8192x64, .f32⟩
  | 92 => ⟨S8x8192x64, .f32⟩
  | 93 => ⟨S_, .i32⟩
  | 94 => ⟨S8192, .i32⟩
  | 95 => ⟨S8192, .i32⟩
  | 96 => ⟨S_, .i32⟩
  | 97 => ⟨S_, .i32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S_, .i32⟩
  | 105 => ⟨S8192, .i32⟩
  | 106 => ⟨S8192, .i32⟩
  | 107 => ⟨S_, .i32⟩
  | 108 => ⟨S8192, .i32⟩
  | 109 => ⟨S8192, .i32⟩
  | 110 => ⟨S_, .i32⟩
  | 111 => ⟨S_, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .f32⟩
  | 119 => ⟨S_, .f32⟩
  | 120 => ⟨S8x8192x64, .f32⟩
  | 121 => ⟨S8192, .i32⟩
  | 122 => ⟨S8192, .f32⟩
  | 123 => ⟨S1x8192x1, .f32⟩
  | 124 => ⟨S8x8192x64, .f32⟩
  | 125 => ⟨S8x8192x64, .f32⟩
  | 126 => ⟨S8x8192x64, .f32⟩
  | 127 => ⟨S1x64x64, .f32⟩
  | _ => ⟨S8x8192x1024, .f32⟩

abbrev hbmTy0_1 (i : Nat) : BufTy := match i % 128 with
  | 0 => ⟨S64x64, .f32⟩
  | 1 => ⟨S8x8192x64, .f32⟩
  | 2 => ⟨S8x8192x64, .f32⟩
  | 3 => ⟨S_, .i32⟩
  | 4 => ⟨S8192, .i32⟩
  | 5 => ⟨S8192, .i32⟩
  | 6 => ⟨S_, .i32⟩
  | 7 => ⟨S_, .i32⟩
  | 8 => ⟨S_, .i32⟩
  | 9 => ⟨S8192, .i32⟩
  | 10 => ⟨S8192, .i32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S_, .i32⟩
  | 21 => ⟨S_, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .f32⟩
  | 29 => ⟨S_, .f32⟩
  | 30 => ⟨S8x8192x64, .f32⟩
  | 31 => ⟨S8192, .i32⟩
  | 32 => ⟨S8192, .f32⟩
  | 33 => ⟨S1x8192x1, .f32⟩
  | 34 => ⟨S8x8192x64, .f32⟩
  | 35 => ⟨S8x8192x64, .f32⟩
  | 36 => ⟨S8x8192x64, .f32⟩
  | 37 => ⟨S1x64x64, .f32⟩
  | 38 => ⟨S64x64, .f32⟩
  | 39 => ⟨S8x8192x64, .f32⟩
  | 40 => ⟨S8x8192x256, .f32⟩
  | 41 => ⟨S1x1x256, .f32⟩
  | 42 => ⟨S8x8192x256, .f32⟩
  | 43 => ⟨S8x8192x256, .f32⟩
  | 44 => ⟨S8x8192x256, .f32⟩
  | 45 => ⟨S8x8192x4x64, .f32⟩
  | 46 => ⟨S8x8192x4x64, .f32⟩
  | 47 => ⟨S_, .f32⟩
  | 48 => ⟨S8x8192x4, .f32⟩
  | 49 => ⟨S8x8192x4x1, .f32⟩
  | 50 => ⟨S_, .f32⟩
  | 51 => ⟨S8x8192x4x1, .f32⟩
  | 52 => ⟨S8x8192x4x1, .f32⟩
  | 53 => ⟨S_, .f32⟩
  | 54 => ⟨S8x8192x4x1, .f32⟩
  | 55 => ⟨S8x8192x4x1, .f32⟩
  | 56 => ⟨S8x8192x4x1, .f32⟩
  | 57 => ⟨S8x8192x4x64, .f32⟩
  | 58 => ⟨S8x8192x4x64, .f32⟩
  | 59 => ⟨S1x1x1x64, .f32⟩
  | 60 => ⟨S8x8192x4x64, .f32⟩
  | 61 => ⟨S8x8192x4x64, .f32⟩
  | 62 => ⟨S8x8192x4x64, .f32⟩
  | 63 => ⟨S8x8192x4x64, .f32⟩
  | 64 => ⟨S8x8192x4x64, .f32⟩
  | 65 => ⟨S_, .f32⟩
  | 66 => ⟨S8x8192x4x64, .f32⟩
  | 67 => ⟨S8x8192x4x64, .f32⟩
  | 68 => ⟨S_, .f32⟩
  | 69 => ⟨S8x8192x4x64, .f32⟩
  | 70 => ⟨S8x8192x4x64, .f32⟩
  | 71 => ⟨S8x8192x4x64, .f32⟩
  | 72 => ⟨S8x8192x4x64, .f32⟩
  | 73 => ⟨S8x8192x256, .f32⟩
  | 74 => ⟨S8x8192x1024, .f32⟩
  | 75 => ⟨S8x8192x1024, .f32⟩
  | 76 => ⟨S8x8192x1024, .f32⟩
  | 77 => ⟨S8x8192x1024, .f32⟩
  | 78 => ⟨S_, .f32⟩
  | 79 => ⟨S8x8192, .f32⟩
  | 80 => ⟨S8x8192x1, .f32⟩
  | 81 => ⟨S_, .f32⟩
  | 82 => ⟨S8x8192x1, .f32⟩
  | 83 => ⟨S8x8192x1, .f32⟩
  | 84 => ⟨S_, .f32⟩
  | 85 => ⟨S8x8192x1, .f32⟩
  | 86 => ⟨S8x8192x1, .f32⟩
  | 87 => ⟨S8x8192x1, .f32⟩
  | 88 => ⟨S8x8192x1024, .f32⟩
  | 89 => ⟨S8x8192x1024, .f32⟩
  | 90 => ⟨S1x1x1024, .f32⟩
  | 91 => ⟨S8x8192x1024, .f32⟩
  | 92 => ⟨S8x8192x1024, .f32⟩
  | 93 => ⟨S8x8192x2816, .f32⟩
  | 94 => ⟨S8x8192x2816, .f32⟩
  | 95 => ⟨S8x8192x2816, .f32⟩
  | 96 => ⟨S_, .f32⟩
  | 97 => ⟨S8x8192x2816, .f32⟩
  | 98 => ⟨S8x8192x2816, .f32⟩
  | 99 => ⟨S_, .f32⟩
  | 100 => ⟨S8x8192x2816, .f32⟩
  | 101 => ⟨S8x8192x2816, .f32⟩
  | 102 => ⟨S8x8192x2816, .f32⟩
  | 103 => ⟨S8x8192x2816, .f32⟩
  | 104 => ⟨S8x8192x2816, .f32⟩
  | 105 => ⟨S8x8192x1024, .f32⟩
  | 106 => ⟨S_, .f32⟩
  | 107 => ⟨S8x8192x1024, .f32⟩
  | 108 => ⟨S8x8192x1024, .f32⟩
  | 109 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_c_3 : Ref sig .tc := ⟨.hbm, 31, rfl⟩
abbrev main_v9 : Ref sig .tc := ⟨.hbm, 32, rfl⟩
abbrev main_v10 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v11 : Ref sig .tc := ⟨.hbm, 41, rfl⟩
abbrev main_cst : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_c_8 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v26 : Ref sig .tc := ⟨.hbm, 65, rfl⟩
abbrev main_c_9 : Ref sig .tc := ⟨.hbm, 66, rfl⟩
abbrev main_v27 : Ref sig .tc := ⟨.hbm, 67, rfl⟩
abbrev main_v28 : Ref sig .tc := ⟨.hbm, 68, rfl⟩
abbrev main_c_10 : Ref sig .tc := ⟨.hbm, 69, rfl⟩
abbrev main_v29 : Ref sig .tc := ⟨.hbm, 70, rfl⟩
abbrev main_v30 : Ref sig .tc := ⟨.hbm, 71, rfl⟩
abbrev main_c_11 : Ref sig .tc := ⟨.hbm, 72, rfl⟩
abbrev main_c_12 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v31 : Ref sig .tc := ⟨.hbm, 79, rfl⟩
abbrev main_cst_13 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_c_14 : Ref sig .tc := ⟨.hbm, 93, rfl⟩
abbrev main_v44 : Ref sig .tc := ⟨.hbm, 94, rfl⟩
abbrev main_v45 : Ref sig .tc := ⟨.hbm, 95, rfl⟩
abbrev main_c_15 : Ref sig .tc := ⟨.hbm, 96, rfl⟩
abbrev main_c_16 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_v46 : Ref sig .tc := ⟨.hbm, 103, rfl⟩
abbrev main_c_17 : Ref sig .tc := ⟨.hbm, 104, rfl⟩
abbrev main_v47 : Ref sig .tc := ⟨.hbm, 105, rfl⟩
abbrev main_v48 : Ref sig .tc := ⟨.hbm, 106, rfl⟩
abbrev main_c_18 : Ref sig .tc := ⟨.hbm, 107, rfl⟩
abbrev main_v49 : Ref sig .tc := ⟨.hbm, 108, rfl⟩
abbrev main_v50 : Ref sig .tc := ⟨.hbm, 109, rfl⟩
abbrev main_c_19 : Ref sig .tc := ⟨.hbm, 110, rfl⟩
abbrev main_c_20 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v51 : Ref sig .tc := ⟨.hbm, 117, rfl⟩
abbrev main_cst_21 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_c_22 : Ref sig .tc := ⟨.hbm, 131, rfl⟩
abbrev main_v64 : Ref sig .tc := ⟨.hbm, 132, rfl⟩
abbrev main_v65 : Ref sig .tc := ⟨.hbm, 133, rfl⟩
abbrev main_c_23 : Ref sig .tc := ⟨.hbm, 134, rfl⟩
abbrev main_c_24 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_call6_v3 : Ref sig .tc := ⟨.hbm, 139, rfl⟩
abbrev main_call6_v4 : Ref sig .tc := ⟨.hbm, 140, rfl⟩
abbrev main_v66 : Ref sig .tc := ⟨.hbm, 141, rfl⟩
abbrev main_c_25 : Ref sig .tc := ⟨.hbm, 142, rfl⟩
abbrev main_v67 : Ref sig .tc := ⟨.hbm, 143, rfl⟩
abbrev main_v68 : Ref sig .tc := ⟨.hbm, 144, rfl⟩
abbrev main_c_26 : Ref sig .tc := ⟨.hbm, 145, rfl⟩
abbrev main_v69 : Ref sig .tc := ⟨.hbm, 146, rfl⟩
abbrev main_v70 : Ref sig .tc := ⟨.hbm, 147, rfl⟩
abbrev main_c_27 : Ref sig .tc := ⟨.hbm, 148, rfl⟩
abbrev main_c_28 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_call7_v3 : Ref sig .tc := ⟨.hbm, 153, rfl⟩
abbrev main_call7_v4 : Ref sig .tc := ⟨.hbm, 154, rfl⟩
abbrev main_v71 : Ref sig .tc := ⟨.hbm, 155, rfl⟩
abbrev main_cst_29 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_cst_30 : Ref sig .tc := ⟨.hbm, 175, rfl⟩
abbrev main_v90 : Ref sig .tc := ⟨.hbm, 176, rfl⟩
abbrev main_v91 : Ref sig .tc := ⟨.hbm, 177, rfl⟩
abbrev main_cst_31 : Ref sig .tc := ⟨.hbm, 178, rfl⟩
abbrev main_v92 : Ref sig .tc := ⟨.hbm, 179, rfl⟩
abbrev main_v93 : Ref sig .tc := ⟨.hbm, 180, rfl⟩
abbrev main_cst_32 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_call8_v0 : Ref sig .tc := ⟨.hbm, 191, rfl⟩
abbrev main_call8_v1 : Ref sig .tc := ⟨.hbm, 192, rfl⟩
abbrev main_call8_cst : Ref sig .tc := ⟨.hbm, 193, rfl⟩
abbrev main_call8_v2 : Ref sig .tc := ⟨.hbm, 194, rfl⟩
abbrev main_call8_v3 : Ref sig .tc := ⟨.hbm, 195, rfl⟩
abbrev main_call8_cst_0 : Ref sig .tc := ⟨.hbm, 196, rfl⟩
abbrev main_call8_v4 : Ref sig .tc := ⟨.hbm, 197, rfl⟩
abbrev main_call8_v5 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_cst_33 : Ref sig .tc := ⟨.hbm, 206, rfl⟩
abbrev main_v110 : Ref sig .tc := ⟨.hbm, 207, rfl⟩
abbrev main_v111 : Ref sig .tc := ⟨.hbm, 208, rfl⟩
abbrev main_cst_34 : Ref sig .tc := ⟨.hbm, 209, rfl⟩
abbrev main_v112 : Ref sig .tc := ⟨.hbm, 210, rfl⟩
abbrev main_v113 : Ref sig .tc := ⟨.hbm, 211, rfl⟩
abbrev main_cst_35 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_call9_v0 : Ref sig .tc := ⟨.hbm, 222, rfl⟩
abbrev main_call9_v1 : Ref sig .tc := ⟨.hbm, 223, rfl⟩
abbrev main_call9_cst : Ref sig .tc := ⟨.hbm, 224, rfl⟩
abbrev main_call9_v2 : Ref sig .tc := ⟨.hbm, 225, rfl⟩
abbrev main_call9_v3 : Ref sig .tc := ⟨.hbm, 226, rfl⟩
abbrev main_call9_cst_0 : Ref sig .tc := ⟨.hbm, 227, rfl⟩
abbrev main_call9_v4 : Ref sig .tc := ⟨.hbm, 228, rfl⟩
abbrev main_call9_v5 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_cst_36 : Ref sig .tc := ⟨.hbm, 234, rfl⟩
abbrev main_v127 : Ref sig .tc := ⟨.hbm, 235, rfl⟩
abbrev main_v128 : Ref sig .tc := ⟨.hbm, 236, rfl⟩
abbrev main_v129 : Ref sig .tc := ⟨.hbm, 237, rfl⟩

abbrev nD : Nat := 1
abbrev τ : Topo := Topo.v7x

variable {F : FTy → Type} [FloatOps F]
-- ==== Pre.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x3072 : Shape := ⟨2, ![1024, 3072]⟩
abbrev S8x64 : Shape := ⟨2, ![8, 64]⟩
abbrev S256x256 : Shape := ⟨2, ![256, 256]⟩
abbrev S1x1024 : Shape := ⟨2, ![1, 1024]⟩
abbrev S1x512 : Shape := ⟨2, ![1, 512]⟩
abbrev S8x4x2048x1536 : Shape := ⟨4, ![8, 4, 2048, 1536]⟩
abbrev S65536x1536 : Shape := ⟨2, ![65536, 1536]⟩
abbrev S512x1024 : Shape := ⟨2, ![512, 1024]⟩
abbrev S1x4x128x1536 : Shape := ⟨4, ![1, 4, 128, 1536]⟩
abbrev S512x1536 : Shape := ⟨2, ![512, 1536]⟩
abbrev S512x2816 : Shape := ⟨2, ![512, 2816]⟩
abbrev S6x2x512x128 : Shape := ⟨4, ![6, 2, 512, 128]⟩
abbrev S1024x256 : Shape := ⟨2, ![1024, 256]⟩
abbrev S512x256 : Shape := ⟨2, ![512, 256]⟩
abbrev S1x256 : Shape := ⟨2, ![1, 256]⟩
abbrev S512x128 : Shape := ⟨2, ![512, 128]⟩
abbrev S1x1x512x128 : Shape := ⟨4, ![1, 1, 512, 128]⟩
abbrev S1x1x128x128 : Shape := ⟨4, ![1, 1, 128, 128]⟩
abbrev S128x128 : Shape := ⟨2, ![128, 128]⟩
abbrev S512 : Shape := ⟨1, ![512]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3072, .f32⟩
  | .hbm, ⟨7, _⟩ => ⟨S8x64, .f32⟩
  | .hbm, ⟨8, _⟩ => ⟨S8x64, .f32⟩
  | .hbm, ⟨9, _⟩ => ⟨S256x256, .bf16⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1024x3072, .bf16⟩
  | .hbm, ⟨14, _⟩ => ⟨S1x1024, .f32⟩
  | .hbm, ⟨15, _⟩ => ⟨S1x1024, .f32⟩
  | .hbm, ⟨16, _⟩ => ⟨S1x512, .f32⟩
  | .hbm, ⟨17, _⟩ => ⟨S1x512, .f32⟩
  | .hbm, ⟨18, _⟩ => ⟨S65536x1024, .f32⟩
  | .hbm, ⟨19, _⟩ => ⟨S8x4x2048x1536, .f32⟩
  | .hbm, ⟨20, _⟩ => ⟨S65536x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x3072, .bf16⟩
  | .local _ .vmem, ⟨8, _⟩ => ⟨S1x512, .f32⟩
  | .local _ .vmem, ⟨9, _⟩ => ⟨S1x512, .f32⟩
  | .local _ .vmem, ⟨10, _⟩ => ⟨S256x256, .bf16⟩
  | .local _ .vmem, ⟨11, _⟩ => ⟨S512x1024, .f32⟩
  | .local _ .vmem, ⟨12, _⟩ => ⟨S512x1024, .f32⟩
  | .local _ .vmem, ⟨13, _⟩ => ⟨S1x4x128x1536, .f32⟩
  | .local _ .vmem, ⟨14, _⟩ => ⟨S1x4x128x1536, .f32⟩
  | .local _ .vmem, ⟨15, _⟩ => ⟨S512x1536, .f32⟩
  | .local _ .vmem, ⟨16, _⟩ => ⟨S512x1536, .f32⟩
  | .local _ .vmem, ⟨17, _⟩ => ⟨S512x2816, .bf16⟩
  | .local _ .vmem, ⟨18, _⟩ => ⟨S6x2x512x128, .f32⟩
  | .local _ .vmem, ⟨19, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PreRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x3072 : Shape := ⟨2, ![1024, 3072]⟩
abbrev S8x64 : Shape := ⟨2, ![8, 64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩
abbrev S65536x3072 : Shape := ⟨2, ![65536, 3072]⟩
abbrev S65536x512 : Shape := ⟨2, ![65536, 512]⟩
abbrev S65536x8x64 : Shape := ⟨3, ![65536, 8, 64]⟩
abbrev S65536x8 : Shape := ⟨2, ![65536, 8]⟩
abbrev S65536x8x1 : Shape := ⟨3, ![65536, 8, 1]⟩
abbrev S1x8x64 : Shape := ⟨3, ![1, 8, 64]⟩
abbrev S65536x1536 : Shape := ⟨2, ![65536, 1536]⟩
abbrev S8x2048x4x1536 : Shape := ⟨4, ![8, 2048, 4, 1536]⟩
abbrev S8x4x2048x1536 : Shape := ⟨4, ![8, 4, 2048, 1536]⟩

abbrev nBuf : Space → Nat
  | .hbm => 105
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3072, .f32⟩
  | .hbm, ⟨7, _⟩ => ⟨S8x64, .f32⟩
  | .hbm, ⟨8, _⟩ => ⟨S8x64, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x2816, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S65536x1, .f32⟩
  | .hbm, ⟨53, _⟩ => ⟨S65536x1024, .f32⟩
  | .hbm, ⟨54, _⟩ => ⟨S65536x1024, .f32⟩
  | .hbm, ⟨55, _⟩ => ⟨S1x1024, .f32⟩
  | .hbm, ⟨56, _⟩ => ⟨S65536x1024, .f32⟩
  | .hbm, ⟨57, _⟩ => ⟨S65536x1024, .f32⟩
  | .hbm, ⟨58, _⟩ => ⟨S65536x3072, .f32⟩
  | .hbm, ⟨59, _⟩ => ⟨S65536x512, .f32⟩
  | .hbm, ⟨60, _⟩ => ⟨S65536x8x64, .f32⟩
  | .hbm, ⟨61, _⟩ => ⟨S65536x8x64, .f32⟩
  | .hbm, ⟨62, _⟩ => ⟨S_, .f32⟩
  | .hbm, ⟨63, _⟩ => ⟨S65536x8, .f32⟩
  | .hbm, ⟨64, _⟩ => ⟨S65536x8x1, .f32⟩
  | .hbm, ⟨65, _⟩ => ⟨S_, .f32⟩
  | .hbm, ⟨66, _⟩ => ⟨S65536x8x1, .f32⟩
  | .hbm, ⟨67, _⟩ => ⟨S65536x8x1, .f32⟩
  | .hbm, ⟨68, _⟩ => ⟨S_, .f32⟩
  | .hbm, ⟨69, _⟩ => ⟨S65536x8x1, .f32⟩
  | .hbm, ⟨70, _⟩ => ⟨S65536x8x1, .f32⟩
  | .hbm, ⟨71, _⟩ => ⟨S65536x8x1, .f32⟩
  | .hbm, ⟨72, _⟩ => ⟨S65536x8x64, .f32⟩
  | .hbm, ⟨73, _⟩ => ⟨S65536x8x64, .f32⟩
  | .hbm, ⟨74, _⟩ => ⟨S1x8x64, .f32⟩
  | .hbm, ⟨75, _⟩ => ⟨S65536x8x64, .f32⟩
  | .hbm, ⟨76, _⟩ => ⟨S65536x8x64, .f32⟩
  | .hbm, ⟨77, _⟩ => ⟨S_, .f32⟩
  | .hbm, ⟨78, _⟩ => ⟨S65536x8x64, .f32⟩
  | .hbm, ⟨79, _⟩ => ⟨S65536x8x64, .f32⟩
  | .hbm, ⟨80, _⟩ => ⟨S65536x512, .f32⟩
  | .hbm, ⟨81, _⟩ => ⟨S65536x8x64, .f32⟩
  | .hbm, ⟨82, _⟩ => ⟨S65536x8x64, .f32⟩
  | .hbm, ⟨83, _⟩ => ⟨S_, .f32⟩
  | .hbm, ⟨84, _⟩ => ⟨S65536x8, .f32⟩
  | .hbm, ⟨85, _⟩ => ⟨S65536x8x1, .f32⟩
  | .hbm, ⟨86, _⟩ => ⟨S_, .f32⟩
  | .hbm, ⟨87, _⟩ => ⟨S65536x8x1, .f32⟩
  | .hbm, ⟨88, _⟩ => ⟨S65536x8x1, .f32⟩
  | .hbm, ⟨89, _⟩ => ⟨S_, .f32⟩
  | .hbm, ⟨90, _⟩ => ⟨S65536x8x1, .f32⟩
  | .hbm, ⟨91, _⟩ => ⟨S65536x8x1, .f32⟩
  | .hbm, ⟨92, _⟩ => ⟨S65536x8x1, .f32⟩
  | .hbm, ⟨93, _⟩ => ⟨S65536x8x64, .f32⟩
  | .hbm, ⟨94, _⟩ => ⟨S65536x8x64, .f32⟩
  | .hbm, ⟨95, _⟩ => ⟨S1x8x64, .f32⟩
  | .hbm, ⟨96, _⟩ => ⟨S65536x8x64, .f32⟩
  | .hbm, ⟨97, _⟩ => ⟨S65536x8x64, .f32⟩
  | .hbm, ⟨98, _⟩ => ⟨S65536x512, .f32⟩
  | .hbm, ⟨99, _⟩ => ⟨S65536x512, .f32⟩
  | .hbm, ⟨100, _⟩ => ⟨S65536x512, .f32⟩
  | .hbm, ⟨101, _⟩ => ⟨S65536x1536, .f32⟩
  | .hbm, ⟨102, _⟩ => ⟨S8x2048x4x1536, .f32⟩
  | .hbm, ⟨103, _⟩ => ⟨S8x4x2048x1536, .f32⟩
  | .hbm, ⟨104, _⟩ => ⟨S65536x1536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== Proof.Frames.Post.RunA.lean ====
/-
  The run of the kernel body on whole staging buffers, taken over from its generated text under a larger budget: the
  proof's many named values do not fit the generated one. The pieces each buffer ends with are found by the run.
-/
module

public import proofs.«01_k».proof.Proof.Gen.Post.Frame.Runs

@[expose] public section

-- membership in a rectangle of production extents (`View.cover_of_tiled`): the elaborator's structural look
-- recurses once per coordinate of the long axes
set_option maxRecDepth 16384

noncomputable section

namespace Cert.Post.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple: on whole staging memrefs — the inputs' at their contents,
    the FORGOTTEN outputs' (18) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x256 .f32) (harg4 : arg4.IsWhole) (arg5 : Memref sig .tc .vmem S1x8x256 .f32) (harg5 : arg5.IsWhole) (arg6 : Memref sig .tc .vmem S1x8x256 .f32) (harg6 : arg6.IsWhole) (arg7 : Memref sig .tc .vmem S512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S1x512x1024 .f32) (harg20 : arg20.IsWhole) (arg21 : Memref sig .tc .vmem S4x544x256 .f32) (harg21 : arg21.IsWhole) (arg22 : Memref sig .tc .vmem S512x2816 .bf16) (harg22 : arg22.IsWhole)
    (x0 : Vec F S1x512x1024 .f32) (x1 : Vec F S1x512x512 .f32) (x2 : Vec F S1x512x256 .f32) (x3 : Vec F S1x8x256 .f32) (x4 : Vec F S1x8x256 .f32) (x5 : Vec F S512x256 .f32) (x6 : Vec F S1x512x256 .f32) (x7 : Vec F S1x512x256 .f32) (x8 : Vec F S1x512x256 .f32) (x9 : Vec F S256x256 .bf16) (x10 : Vec F S1x256 .f32) (x11 : Vec F S1x256 .f32) (x12 : Vec F S256x256 .bf16) (x13 : Vec F S1024x1024 .bf16) (x14 : Vec F S1x1024 .f32) (x15 : Vec F S1024x2816 .bf16) (x16 : Vec F S1024x2816 .bf16) (x17 : Vec F S2816x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0__post_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0__post_body_eq_skeleton]; unfold cc0__post_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _, _; isplitr; swap; · iexact H18
      ipureintro; rfl
    isplitl [HS0]
    · iexists _, _; isplitr; swap; · iexact HS0
      ipureintro; rfl
    iexists _, _; isplitr; swap; · iexact HS1
    ipureintro; rfl

end Cert.Post.Gen

end
-- ==== Proof.Frames.Post.Frame.lean ====
/-
  The frame of the program over the body's run: what the output's staging buffer holds after each grid point, the
  proof data of the pipeline, the body's obligation, the run of the whole program and the frame claim. Taken over from
  its generated text because the run it rests on is.
-/
module

public import proofs.«01_k».proof.Proof.Frames.Post.RunA
public import Idealize.ShloMosaic.Lib.Claim

@[expose] public section

-- membership in a rectangle of production extents (`View.cover_of_tiled`): the elaborator's structural look
-- recurses once per coordinate of the long axes
set_option maxRecDepth 16384

noncomputable section

namespace Cert.Post.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (18): nothing reads what the kernel leaves in them, so nothing
    of it is named (Lib/Pipeline/Dat.lean `Dat.toRForget`). -/
def forgets0 : Fin 19 → Bool := fun w => w.val == 18

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ (∃ d, owns (c : Thread nD τ) (ms0_18 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [HS0]; · iexact HS0
  isplitl [HS1]; · iexact HS1
  iintro ⟨H0, H1, H2, H3, H4, H5, H6, H7, H8, H9, H10, H11, H12, H13, H14, H15, H16, H17, H18, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 18) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1140000 in
/-- The frame from a run that says nothing of the output's array: a staged input holds what it held on entry, an array
    that no window stages is left alone, and both are the arguments. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((congrFun ((rdat c).ArrAt_in 0 rfl _) _).mp ((h c).1 0)).trans ((hA c 0).trans (V_main_arg0 m c)),
      ((congrFun ((rdat c).ArrAt_in 1 rfl _) _).mp ((h c).1 1)).trans ((hA c 1).trans (V_main_arg1 m c)),
      ((congrFun ((rdat c).ArrAt_in 8 rfl _) _).mp ((h c).1 8)).trans ((hA c 8).trans (V_main_arg2 m c)),
      ((congrFun ((rdat c).ArrAt_in 6 rfl _) _).mp ((h c).1 6)).trans ((hA c 6).trans (V_main_arg3 m c)),
      ((congrFun ((rdat c).ArrAt_in 7 rfl _) _).mp ((h c).1 7)).trans ((hA c 7).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of_forgotten m ρ (fun c => (dats m 0 c).toRForget forgets0) (A_eq m) (run_main m ρ)

/-- THE FRAME: `Cert.quiescent_Post`'s statement (Defs.lean) at any `F` — Proof.lean cites it at `Bits`:
    `theorem Cert.Proof.claim : Cert.Claim := ⟨Cert.Post.Gen.facts, fun m ρ _ => Cert.Post.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Post.Gen

end
-- ==== Proof.Frames.PostIdeal.RunA.lean ====
/-
  The run of the kernel body on whole staging buffers, taken over from its generated text under a larger budget: the
  proof's many named values do not fit the generated one. The pieces each buffer ends with are found by the run.
-/
module

public import proofs.«01_k».proof.Proof.Gen.PostIdeal.Frame.Runs

@[expose] public section

-- membership in a rectangle of production extents (`View.cover_of_tiled`): the elaborator's structural look
-- recurses once per coordinate of the long axes
set_option maxRecDepth 16384

noncomputable section

namespace Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x256 .f32) (harg4 : arg4.IsWhole) (arg5 : Memref sig .tc .vmem S1x8x256 .f32) (harg5 : arg5.IsWhole) (arg6 : Memref sig .tc .vmem S1x8x256 .f32) (harg6 : arg6.IsWhole) (arg7 : Memref sig .tc .vmem S512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S1x512x1024 .f32) (harg20 : arg20.IsWhole) (arg21 : Memref sig .tc .vmem S4x544x256 .f32) (harg21 : arg21.IsWhole) (arg22 : Memref sig .tc .vmem S512x2816 .bf16) (harg22 : arg22.IsWhole)
    (x0 : Vec F S1x512x1024 .f32) (x1 : Vec F S1x512x512 .f32) (x2 : Vec F S1x512x256 .f32) (x3 : Vec F S1x8x256 .f32) (x4 : Vec F S1x8x256 .f32) (x5 : Vec F S512x256 .f32) (x6 : Vec F S1x512x256 .f32) (x7 : Vec F S1x512x256 .f32) (x8 : Vec F S1x512x256 .f32) (x9 : Vec F S256x256 .bf16) (x10 : Vec F S1x256 .f32) (x11 : Vec F S1x256 .f32) (x12 : Vec F S256x256 .bf16) (x13 : Vec F S1024x1024 .bf16) (x14 : Vec F S1x1024 .f32) (x15 : Vec F S1024x2816 .bf16) (x16 : Vec F S1024x2816 .bf16) (x17 : Vec F S2816x1024 .bf16) :
    Σ' (L18 : List (View.Piece (Elt F) S1x512x1024 .f32)), Σ' (LT0 : List (View.Piece (Elt F) S4x544x256 .f32)), { LT1 : List (View.Piece (Elt F) S512x2816 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f LT0) ∗ (∃ f, arg22.view.loc (c : Thread nD τ) ↦[arg22.view.set]{fullShare} arg22.view.writes (Elt F) f LT1)) -∗ K ⟨⟩))
          ⊢ wp frame (wpE (defs₀ (F := F)) Variants.none c none) E (cc0__post_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, fun E K => ?run⟩
  case run =>
    simp only [cc0__post_body_eq_skeleton]; unfold cc0__post_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [HS0]; · iexists _; iexact HS0
    iexists _; iexact HS1

end Cert.PostIdeal.Gen

end
-- ==== Proof.Frames.PostIdeal.Frame.lean ====
/-
  The frame of the program over the body's run: what the output's staging buffer holds after each grid point, the
  proof data of the pipeline, the body's obligation, the run of the whole program and the frame claim. Taken over from
  its generated text because the run it rests on is.
-/
module

public import proofs.«01_k».proof.Proof.Frames.PostIdeal.RunA
public import Idealize.ShloMosaic.Lib.Claim

@[expose] public section

-- membership in a rectangle of production extents (`View.cover_of_tiled`): the elaborator's structural look
-- recurses once per coordinate of the long axes
set_option maxRecDepth 16384

noncomputable section

namespace Cert.PostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 18 tile its block (1 store of `S1x512x1024`, checked by the kernel's evaluation: Lib/Ring.lean `Piece.tiledL`, linear in the pieces, through a loop's `@[irreducible]` trip theorem too), so they cover it. -/
theorem cover0_A_18 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x256 .f32) (harg4 : arg4.IsWhole) (arg5 : Memref sig .tc .vmem S1x8x256 .f32) (harg5 : arg5.IsWhole) (arg6 : Memref sig .tc .vmem S1x8x256 .f32) (harg6 : arg6.IsWhole) (arg7 : Memref sig .tc .vmem S512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S1x512x1024 .f32) (harg20 : arg20.IsWhole) (arg21 : Memref sig .tc .vmem S4x544x256 .f32) (harg21 : arg21.IsWhole) (arg22 : Memref sig .tc .vmem S512x2816 .bf16) (harg22 : arg22.IsWhole)
    (x0 : Vec F S1x512x1024 .f32) (x1 : Vec F S1x512x512 .f32) (x2 : Vec F S1x512x256 .f32) (x3 : Vec F S1x8x256 .f32) (x4 : Vec F S1x8x256 .f32) (x5 : Vec F S512x256 .f32) (x6 : Vec F S1x512x256 .f32) (x7 : Vec F S1x512x256 .f32) (x8 : Vec F S1x512x256 .f32) (x9 : Vec F S256x256 .bf16) (x10 : Vec F S1x256 .f32) (x11 : Vec F S1x256 .f32) (x12 : Vec F S256x256 .bf16) (x13 : Vec F S1024x1024 .bf16) (x14 : Vec F S1x1024 .f32) (x15 : Vec F S1024x2816 .bf16) (x16 : Vec F S1024x2816 .bf16) (x17 : Vec F S2816x1024 .bf16) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1 S1x512x1024.size (by sl_kernel_rfl) y

/-- What the run leaves in output 18's staging buffer: its pieces read back over junk. -/
def out0_A_18 (c : Dev nD) (i : grid0.Coords) (arg2 : Memref sig .tc .vmem S1x512x1024 .f32) (harg2 : arg2.IsWhole) (arg3 : Memref sig .tc .vmem S1x512x512 .f32) (harg3 : arg3.IsWhole) (arg4 : Memref sig .tc .vmem S1x512x256 .f32) (harg4 : arg4.IsWhole) (arg5 : Memref sig .tc .vmem S1x8x256 .f32) (harg5 : arg5.IsWhole) (arg6 : Memref sig .tc .vmem S1x8x256 .f32) (harg6 : arg6.IsWhole) (arg7 : Memref sig .tc .vmem S512x256 .f32) (harg7 : arg7.IsWhole) (arg8 : Memref sig .tc .vmem S1x512x256 .f32) (harg8 : arg8.IsWhole) (arg9 : Memref sig .tc .vmem S1x512x256 .f32) (harg9 : arg9.IsWhole) (arg10 : Memref sig .tc .vmem S1x512x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x256 .f32) (harg13 : arg13.IsWhole) (arg14 : Memref sig .tc .vmem S256x256 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1024x2816 .bf16) (harg17 : arg17.IsWhole) (arg18 : Memref sig .tc .vmem S1024x2816 .bf16) (harg18 : arg18.IsWhole) (arg19 : Memref sig .tc .vmem S2816x1024 .bf16) (harg19 : arg19.IsWhole) (arg20 : Memref sig .tc .vmem S1x512x1024 .f32) (harg20 : arg20.IsWhole) (arg21 : Memref sig .tc .vmem S4x544x256 .f32) (harg21 : arg21.IsWhole) (arg22 : Memref sig .tc .vmem S512x2816 .bf16) (harg22 : arg22.IsWhole)
    (x0 : Vec F S1x512x1024 .f32) (x1 : Vec F S1x512x512 .f32) (x2 : Vec F S1x512x256 .f32) (x3 : Vec F S1x8x256 .f32) (x4 : Vec F S1x8x256 .f32) (x5 : Vec F S512x256 .f32) (x6 : Vec F S1x512x256 .f32) (x7 : Vec F S1x512x256 .f32) (x8 : Vec F S1x512x256 .f32) (x9 : Vec F S256x256 .bf16) (x10 : Vec F S1x256 .f32) (x11 : Vec F S1x256 .f32) (x12 : Vec F S256x256 .bf16) (x13 : Vec F S1024x1024 .bf16) (x14 : Vec F S1x1024 .f32) (x15 : Vec F S1024x2816 .bf16) (x16 : Vec F S1024x2816 .bf16) (x17 : Vec F S2816x1024 .bf16) : Vec F S1x512x1024 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17).1)

/-! ## What the outputs hold after each point -/

/-- What the outputs' staging buffers hold after the body at point `t`: the run's contents at
    the point's memrefs and input blocks. -/
def outsAt0 (c : Dev nD) (t : Fin cfg0.N) : Vec F S1x512x1024 .f32 :=
  out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t)
    | ⟨_ + 19, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  unfold outsAt0
  unfold out0_A_18
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [HS0]; · iexact HS0
  isplitl [HS1]; · iexact HS1
  iintro ⟨H0, H1, H2, H3, H4, H5, H6, H7, H8, H9, H10, H11, H12, H13, H14, H15, H16, H17, ⟨%e18, H18⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  unfold owns; iexists _; isplitr
  swap; · iexact H18
  ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_PostIdeal`'s statement (Defs.lean) at any `F` — Proof.lean cites it at `Bits`:
    `theorem Cert.Proof.claim : Cert.Claim := ⟨Cert.PostIdeal.Gen.facts, fun m ρ _ => Cert.PostIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.PostIdeal.Gen

end
-- ==== Proof.Frames.PostIdeal.Value.lean ====
/-
  What the program leaves in its result: each grid point's block of the output array, at the point's input blocks.
  Taken over from its generated text because the frame it rests on is.
-/
module

public import proofs.«01_k».proof.Proof.Frames.PostIdeal.Frame
public import Idealize.ShloMosaic.Lib.Pipeline.Value

@[expose] public section

noncomputable section

namespace Cert.PostIdeal.Value

open Cert.PostIdeal Cert.PostIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the run's contents for that window after the body (`Gen.outsAt0`), read through the window's block. -/
theorem flushed18 (c : Dev nD) (t : Fin cfg0.N) :
    (dats m 0 c).flushed 18 t = (cfg0.win 18).cut (grid0.coords t) (outsAt0 m c t) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0]

/-- The index map sends distinct grid points to distinct block indices (decided over the 128 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S8x8192x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v46) = (dats m 0 c).arrAt 18 cfg0.N :=
  (h c).1 18

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 8 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 8).trans (((dats m 0 c).arrAt_in 8 rfl _).trans ((A_eq m c 8).trans (V_main_arg2 m c)))

/-- After the frame run, argument `main_arg3` is as launched: input window 6 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: input window 7 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 7).trans (((dats m 0 c).arrAt_in 7 rfl _).trans ((A_eq m c 7).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v46) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post18 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.PostIdeal.Value

end
-- ==== Proof.Post.Rows.lean ====
/-
  What the second half of the layer computes for one token, over the extended reals: the window means of the pooling
  mixer, the normed and gated recurrence output, the joined row's projection with the residual, and the feed-forward
  block with half its output added. No program is mentioned here; both the kernel's and the reference's results are
  read to these formulas in the other modules.
-/
module

public import Idealize.ShloMosaic.PureOps.Ideal.Laws
public import Idealize.ShloMosaic.Lib.IdealHost
public import Mathlib.Algebra.BigOperators.Fin

@[expose] public section

noncomputable section

namespace Cert.Post.Rows

open Idealize.ShloMosaic
open scoped BigOperators

/-- The constants of the norms and of the half residual, by their float words. -/
def eps : EReal := Ideal.ofBits .f32 0x358637BD#32
def modelDim : EReal := Ideal.ofBits .f32 0x44800000#32
def headDim : EReal := Ideal.ofBits .f32 0x42800000#32
def half : EReal := Ideal.ofBits .f32 0x3F000000#32

/-- `x · sigmoid x`. -/
def swish (x : EReal) : EReal := x * Ideal.logistic x

/-! ## Lanes of a 256-wide row: four groups of 64 -/

/-- The group of a lane. -/
def grp (c : Fin 256) : Fin 4 := ⟨c.val / 64, by omega⟩
/-- A lane's place in its group. -/
def lane (c : Fin 256) : Fin 64 := ⟨c.val % 64, by omega⟩
/-- Place `j` of group `g`. -/
def at_ (g : Fin 4) (j : Fin 64) : Fin 256 := ⟨64 * g.val + j.val, by omega⟩

theorem grp_at (g : Fin 4) (j : Fin 64) : grp (at_ g j) = g := Fin.ext (by simp only [grp, at_]; omega)
theorem lane_at (g : Fin 4) (j : Fin 64) : lane (at_ g j) = j := Fin.ext (by simp only [lane, at_]; omega)
theorem at_grp_lane (c : Fin 256) : at_ (grp c) (lane c) = c := Fin.ext (by simp only [grp, lane, at_]; omega)

/-! ## The pooling mixer -/

/-- A column of tokens, zero outside the sequence, with the sequence starting at place 8. -/
def padCol (u : Fin 8192 → EReal) (n : ℕ) : EReal := if h : 8 ≤ n ∧ n - 8 < 8192 then u ⟨n - 8, h.2⟩ else 0

/-- Half the window of group `g`: 1, 2, 4, 8. -/
def halfWin (g : Fin 4) : ℕ := ![1, 2, 4, 8] g

/-- The sum of the window of group `g` around token `s`. -/
def winSum (u : Fin 8192 → EReal) (g : Fin 4) (s : Fin 8192) : EReal :=
  ∑ j : Fin (2 * halfWin g), padCol u (s.val + 8 - halfWin g + j.val)

/-- How many tokens of that window lie in the sequence. -/
def cnt (g : Fin 4) (s : Fin 8192) : ℕ := min (s.val + halfWin g) 8192 - (s.val - halfWin g)

/-- The window's mean minus the token itself. -/
def centred (u : Fin 8192 → Fin 256 → EReal) (s : Fin 8192) (c : Fin 256) : EReal :=
  Ideal.div (winSum (fun t => u t c) (grp c) s) (((cnt (grp c) s : ℕ) : ℝ) : EReal) - u s c

/-- The centred row through its group's matrix, scaled. -/
def poolRow (cen : Fin 256 → EReal) (w : Fin 4 → Fin 64 → Fin 64 → EReal) (sc : Fin 256 → EReal) (c : Fin 256) : EReal :=
  (∑ j : Fin 64, cen (at_ (grp c) j) * w (grp c) j (lane c)) * sc c

/-! ## The recurrence's output: normed per head, gated -/

def recRow (o g : Fin 256 → EReal) (gain : Fin 64 → EReal) (c : Fin 256) : EReal :=
  o c * Ideal.rsqrt (Ideal.div (∑ j : Fin 64, o (at_ (grp c) j) * o (at_ (grp c) j)) headDim + eps) * gain (lane c) * swish (g c)

/-! ## Joined row, projection, feed-forward -/

/-- The three mixers' rows side by side. -/
def catRow (a : Fin 512 → EReal) (p r : Fin 256 → EReal) (k : Fin 1024) : EReal :=
  if h : k.val < 512 then a ⟨k.val, h⟩ else if h2 : k.val < 768 then p ⟨k.val - 512, by omega⟩ else r ⟨k.val - 768, by omega⟩

/-- The residual plus the projected row. -/
def mixed (x cat : Fin 1024 → EReal) (w : Fin 1024 → Fin 1024 → EReal) (d : Fin 1024) : EReal := x d + ∑ k : Fin 1024, cat k * w k d

/-- A row scaled to unit mean square, times a gain. -/
def normed (h g : Fin 1024 → EReal) (d : Fin 1024) : EReal :=
  h d * Ideal.rsqrt (Ideal.div (∑ k : Fin 1024, h k * h k) modelDim + eps) * g d

/-- One hidden unit of the gated feed-forward block. -/
def hidden (n : Fin 1024 → EReal) (wg wu : Fin 1024 → Fin 2816 → EReal) (f : Fin 2816) : EReal :=
  swish (∑ k : Fin 1024, n k * wg k f) * ∑ k : Fin 1024, n k * wu k f

/-- The row plus half the feed-forward block's output. -/
def ffn (h g : Fin 1024 → EReal) (wg wu : Fin 1024 → Fin 2816 → EReal) (wd : Fin 2816 → Fin 1024 → EReal) (d : Fin 1024) : EReal :=
  h d + half * ∑ f : Fin 2816, hidden (normed h g) wg wu f * wd f d

end Cert.Post.Rows

end
-- ==== Proof.Post.Words.lean ====
/-
  Signed word arithmetic without wrap-around: sums, differences, minima and maxima of 32-bit words read as integers,
  and with them the number of tokens in a pooling window, which both programs compute on words.
-/
module

public import proofs.«01_k».proof.Proof.Post.Rows

@[expose] public section

namespace Cert.Post.Words

open Idealize.ShloMosaic
open Cert.Post.Rows

/-- A word holds an integer. -/
def Holds (x : BitVec 32) (a : ℤ) : Prop := x.toInt = a

theorem ofNat (n : ℕ) (h : n < 2147483648) : Holds (BitVec.ofNat 32 n) n := by
  unfold Holds
  rw [BitVec.toInt_eq_toNat_of_lt (by rw [BitVec.toNat_ofNat]; omega), BitVec.toNat_ofNat]
  omega

theorem add {x y : BitVec 32} {a b : ℤ} (hx : Holds x a) (hy : Holds y b) (h0 : -2147483648 ≤ a + b) (h1 : a + b < 2147483648) :
    Holds (IntOp.addi x y) (a + b) := by
  unfold Holds at *
  show (x + y).toInt = _
  rw [BitVec.toInt_add, hx, hy]
  exact Int.bmod_eq_of_le (by omega) (by omega)

theorem sub {x y : BitVec 32} {a b : ℤ} (hx : Holds x a) (hy : Holds y b) (h0 : -2147483648 ≤ a - b) (h1 : a - b < 2147483648) :
    Holds (IntOp.subi x y) (a - b) := by
  unfold Holds at *
  show (x - y).toInt = _
  rw [BitVec.toInt_sub, hx, hy]
  exact Int.bmod_eq_of_le (by omega) (by omega)

theorem max {x y : BitVec 32} {a b : ℤ} (hx : Holds x a) (hy : Holds y b) : Holds (IntOp.maxsi x y) (a ⊔ b) := by
  unfold Holds IntOp.maxsi at *
  subst hx hy
  by_cases h : y.slt x = true
  · rw [if_pos h]; rw [BitVec.slt_iff_toInt_lt] at h; omega
  · rw [if_neg h]; rw [BitVec.slt_iff_toInt_lt] at h; omega

theorem min {x y : BitVec 32} {a b : ℤ} (hx : Holds x a) (hy : Holds y b) : Holds (IntOp.minsi x y) (a ⊓ b) := by
  unfold Holds IntOp.minsi at *
  subst hx hy
  by_cases h : x.slt y = true
  · rw [if_pos h]; rw [BitVec.slt_iff_toInt_lt] at h; omega
  · rw [if_neg h]; rw [BitVec.slt_iff_toInt_lt] at h; omega

theorem Holds.of_eq {x : BitVec 32} {a b : ℤ} (hx : Holds x a) (h : a = b) : Holds x b := h ▸ hx

/-- The count on words, both ends of the window clipped from both sides. -/
def countWord (w h : BitVec 32) (n : ℕ) : BitVec 32 :=
  IntOp.subi (IntOp.minsi 8192#32 (IntOp.maxsi 0#32 (IntOp.subi (IntOp.addi (BitVec.ofNat 32 n) w) h)))
    (IntOp.minsi 8192#32 (IntOp.maxsi 0#32 (IntOp.subi (BitVec.ofNat 32 n) h)))

theorem halfWin_le (g : Fin 4) : halfWin g ≤ 8 := by
  revert g; decide

theorem halfWin_pos (g : Fin 4) : 1 ≤ halfWin g := by
  revert g; decide

theorem count (g : Fin 4) (s : Fin 8192) :
    (countWord (BitVec.ofNat 32 (2 * halfWin g)) (BitVec.ofNat 32 (halfWin g)) s.val).toInt = ((cnt g s : ℕ) : ℤ) := by
  have hw := halfWin_le g
  have hs := s.isLt
  have N := ofNat s.val (by omega)
  have W := ofNat (2 * halfWin g) (by omega)
  have H := ofNat (halfWin g) (by omega)
  have Z : Holds 0#32 0 := rfl
  have L : Holds 8192#32 8192 := rfl
  have e := sub (min L (max Z (sub (add N W (by omega) (by omega)) H (by omega) (by omega))))
    (min L (max Z (sub N H (by omega) (by omega)))) (by omega) (by omega)
  refine e.of_eq ?_
  unfold cnt
  omega

end Cert.Post.Words
-- ==== Proof.Post.Host.lean ====
/-
  The arrays the host prepares for the call, read at an entry: the weights cast, the window counts inverted, the pooling
  matrices set on a block diagonal, the gains laid out over the lanes.
-/
module

public import proofs.«01_k».proof.Proof.Gen.PostIdeal.Frame.Runs
public import proofs.«01_k».proof.Proof.Post.Rows
public import proofs.«01_k».proof.Proof.Post.Words
public import Idealize.ShloMosaic.Lib.Claim
public import Idealize.ShloMosaic.Lib.ValueLayout
public import Idealize.ShloMosaic.Lib.Pipeline.Value
public import Idealize.ShloMosaic.Lib.StableHlo.RunRead

@[expose] public section

set_option maxRecDepth 16384

noncomputable section

namespace Cert.Post.Host

open Idealize.ShloMosaic Idealize.ShloMosaic.TcCoe Idealize.ShloMosaic.ValueIdx
open Cert.PostIdeal Cert.PostIdeal.Gen Idealize.SL.Sem
open Cert.Post.Rows
open scoped BigOperators

variable (m : (ℓ : Loc nD τ sig) → Buf (Elt Ideal) ℓ) (c : Dev nD)

/-! ## The prepared arrays as terms in the arguments -/

/-- The window lengths 2, 4, 8, 16, one for each group of 64 lanes. -/
def lens : IVec S1x256 32 :=
  broadcastInDim S1x256 ![1] bcast_S256_S1x256_1 fun i => shapeCast S256 (broadcastInDim S4x64 ![0] bcast_S4_S4x64_0 fun i => lit0 (S4.rowMajor i))
    shapeCasts_S4x64_S256 i

/-- A word for every lane. -/
def lane (x : BitVec 32) : IVec S1x256 32 := broadcastInDim S1x256 ![] bcast_S_S1x256 (constantI S_ 32 x)

/-- Half the window lengths: the floor of the division by two. -/
def halves : IVec S1x256 32 :=
  select (andi (cmpi .ne (signi lens) (broadcastInDim S1x256 ![] bcast_S_S1x256 (signi (constantI S_ 32 2#32))))
      (cmpi .ne (Host.remsi lens (lane 2#32)) (lane 0#32)))
    (subi (Host.divsi lens (lane 2#32)) (lane 1#32)) (Host.divsi lens (lane 2#32))

/-- A lane's word for every token. -/
def tall (x : IVec S1x256 32) : IVec S8192x256 32 := broadcastInDim S8192x256 ![0, 1] bcast_S1x256_S8192x256_0_1 x

/-- One word everywhere. -/
def all (x : BitVec 32) : IVec S8192x256 32 := broadcastInDim S8192x256 ![] bcast_S_S8192x256 (constantI S_ 32 x)

/-- The token's number, for every lane. -/
def toks : IVec S8192x256 32 :=
  broadcastInDim S8192x256 ![0, 1] bcast_S8192x1_S8192x256_0_1 (broadcastInDim S8192x1 ![0] bcast_S8192_S8192x1_0 (iotaInDim S8192 32 0))

/-- The numbers of tokens in the windows. -/
def counts : IVec S8192x256 32 :=
  subi (minsi (subi (addi toks (tall lens)) (tall halves)) (all 8192#32)) (maxsi (subi toks (tall halves)) (all 0#32))

theorem inverse_eq : V (F := Ideal) m c main_v26
    = (Host.divf (F := Ideal) (broadcastInDim S8192x256 ![] bcast_S_S8192x256 (constant (F := Ideal) S_ .f32 0x3F800000#32)) (sitofp (F := Ideal) .f32 counts)
      : FVec Ideal S8192x256 .f32) := by
  unfold V
  simp only [hostOps0, hostOps0_1, hostOps0_2, hostOps0_3, hostOps0_4, List.flatten_cons, List.flatten_nil, List.append_nil, List.cons_append,
    List.nil_append]
  after_reads_simp
  rfl

/-- Whether two groups are one, as a number. -/
def eye : FVec Ideal S4x4 .f32 :=
  uitofp .f32 (cmpi .eq (addi (iotaInDim S4x4 32 0) (broadcastInDim S4x4 ![] bcast_S_S4x4 (constantI S_ 32 0#32))) (iotaInDim S4x4 32 1))

/-- The four pooling matrices on the diagonal of a matrix of blocks. -/
def blocks (x : FVec Ideal S4x64x64 .f32) : FVec Ideal S4x64x4x64 .f32 :=
  mulf (broadcastInDim S4x64x4x64 ![0, 1, 2, 3] bcast_S4x64x1x64_S4x64x4x64_0_1_2_3
      (broadcastInDim S4x64x1x64 ![0, 1, 3] bcast_S4x64x64_S4x64x1x64_0_1_3 x))
    (broadcastInDim S4x64x4x64 ![0, 1, 2, 3] bcast_S4x1x4x1_S4x64x4x64_0_1_2_3 (broadcastInDim S4x1x4x1 ![0, 2] bcast_S4x4_S4x1x4x1_0_2 eye))

theorem pool_eq : V (F := Ideal) m c main_v39
    = fun i => shapeCast S256x256 (blocks (m ((c : Thread nD τ).loc main_arg5))) shapeCasts_S4x64x4x64_S256x256 i := by
  unfold V
  simp only [hostOps0, hostOps0_1, hostOps0_2, hostOps0_3, hostOps0_4, List.flatten_cons, List.flatten_nil, List.append_nil, List.cons_append,
    List.nil_append]
  after_reads_simp
  rfl

theorem scale_eq : V (F := Ideal) m c main_v40 = fun i => shapeCast S1x256 (m ((c : Thread nD τ).loc main_arg6)) shapeCasts_S256_S1x256 i := by
  unfold V
  simp only [hostOps0, hostOps0_1, hostOps0_2, hostOps0_3, hostOps0_4, List.flatten_cons, List.flatten_nil, List.append_nil, List.cons_append,
    List.nil_append]
  after_reads_simp
  rfl

theorem headGain_eq : V (F := Ideal) m c main_v44
    = fun i => shapeCast S1x256 (fun i => shapeCast S256 (broadcastInDim S4x64 ![0, 1] bcast_S1x64_S4x64_0_1
        fun i => shapeCast S1x64 (m ((c : Thread nD τ).loc main_arg7)) shapeCasts_S64_S1x64 i) shapeCasts_S4x64_S256 i) shapeCasts_S256_S1x256 i := by
  unfold V
  simp only [hostOps0, hostOps0_1, hostOps0_2, hostOps0_3, hostOps0_4, List.flatten_cons, List.flatten_nil, List.append_nil, List.cons_append,
    List.nil_append]
  after_reads_simp
  rfl

theorem gain_eq : V (F := Ideal) m c main_v45 = fun i => shapeCast S1x1024 (m ((c : Thread nD τ).loc main_arg9)) shapeCasts_S1024_S1x1024 i := by
  unfold V
  simp only [hostOps0, hostOps0_1, hostOps0_2, hostOps0_3, hostOps0_4, List.flatten_cons, List.flatten_nil, List.append_nil, List.cons_append,
    List.nil_append]
  after_reads_simp
  rfl

theorem wOut_eq (i) : V (F := Ideal) m c main_v0 i = m ((c : Thread nD τ).loc main_arg8) i := by
  unfold V
  simp only [hostOps0, hostOps0_1, hostOps0_2, hostOps0_3, hostOps0_4, List.flatten_cons, List.flatten_nil, List.append_nil, List.cons_append,
    List.nil_append]
  after_reads_simp
  rfl

theorem wGate_eq (i) : V (F := Ideal) m c main_v1 i = m ((c : Thread nD τ).loc main_arg10) i := by
  unfold V
  simp only [hostOps0, hostOps0_1, hostOps0_2, hostOps0_3, hostOps0_4, List.flatten_cons, List.flatten_nil, List.append_nil, List.cons_append,
    List.nil_append]
  after_reads_simp
  rfl

theorem wUp_eq (i) : V (F := Ideal) m c main_v2 i = m ((c : Thread nD τ).loc main_arg11) i := by
  unfold V
  simp only [hostOps0, hostOps0_1, hostOps0_2, hostOps0_3, hostOps0_4, List.flatten_cons, List.flatten_nil, List.append_nil, List.cons_append,
    List.nil_append]
  after_reads_simp
  rfl

theorem wDown_eq (i) : V (F := Ideal) m c main_v3 i = m ((c : Thread nD τ).loc main_arg12) i := by
  unfold V
  simp only [hostOps0, hostOps0_1, hostOps0_2, hostOps0_3, hostOps0_4, List.flatten_cons, List.flatten_nil, List.append_nil, List.cons_append,
    List.nil_append]
  after_reads_simp
  rfl

theorem ones_eq (i) : V (F := Ideal) m c main_cst i = Ideal.ofBits .bf16 (lit1 (S256x256.rowMajor i)) := by
  unfold V
  simp only [hostOps0, hostOps0_1, hostOps0_2, hostOps0_3, hostOps0_4, List.flatten_cons, List.flatten_nil, List.append_nil, List.cons_append,
    List.nil_append]
  after_reads_simp
  rfl

end Cert.Post.Host

end
-- ==== Proof.Post.Ones.A.lean ====
/-
  The constant table of ones on the diagonal blocks of 64, read at the entries of rows 0 to 63, eight rows at a time.
-/
module

public import proofs.«01_k».proof.PostIdeal
public import proofs.«01_k».proof.Proof.Post.Rows

@[expose] public section

set_option maxRecDepth 100000

namespace Cert.Post.Ones

open Idealize.ShloMosaic
open Cert.PostIdeal

/-- Rows 0 to 7. -/
theorem rows0 : ∀ r : Fin 8, ∀ c : Fin 256, lit1t (256 * (0 + r.val) + c.val) = if (0 + r.val) / 64 = c.val / 64 then 0x3F80#16 else 0#16 := by
  decide +kernel

/-- Rows 8 to 15. -/
theorem rows1 : ∀ r : Fin 8, ∀ c : Fin 256, lit1t (256 * (8 + r.val) + c.val) = if (8 + r.val) / 64 = c.val / 64 then 0x3F80#16 else 0#16 := by
  decide +kernel

/-- Rows 16 to 23. -/
theorem rows2 : ∀ r : Fin 8, ∀ c : Fin 256, lit1t (256 * (16 + r.val) + c.val) = if (16 + r.val) / 64 = c.val / 64 then 0x3F80#16 else 0#16 := by
  decide +kernel

/-- Rows 24 to 31. -/
theorem rows3 : ∀ r : Fin 8, ∀ c : Fin 256, lit1t (256 * (24 + r.val) + c.val) = if (24 + r.val) / 64 = c.val / 64 then 0x3F80#16 else 0#16 := by
  decide +kernel

/-- Rows 32 to 39. -/
theorem rows4 : ∀ r : Fin 8, ∀ c : Fin 256, lit1t (256 * (32 + r.val) + c.val) = if (32 + r.val) / 64 = c.val / 64 then 0x3F80#16 else 0#16 := by
  decide +kernel

/-- Rows 40 to 47. -/
theorem rows5 : ∀ r : Fin 8, ∀ c : Fin 256, lit1t (256 * (40 + r.val) + c.val) = if (40 + r.val) / 64 = c.val / 64 then 0x3F80#16 else 0#16 := by
  decide +kernel

/-- Rows 48 to 55. -/
theorem rows6 : ∀ r : Fin 8, ∀ c : Fin 256, lit1t (256 * (48 + r.val) + c.val) = if (48 + r.val) / 64 = c.val / 64 then 0x3F80#16 else 0#16 := by
  decide +kernel

/-- Rows 56 to 63. -/
theorem rows7 : ∀ r : Fin 8, ∀ c : Fin 256, lit1t (256 * (56 + r.val) + c.val) = if (56 + r.val) / 64 = c.val / 64 then 0x3F80#16 else 0#16 := by
  decide +kernel

end Cert.Post.Ones
-- ==== Proof.Post.Ones.B.lean ====
/-
  The constant table of ones on the diagonal blocks of 64, read at the entries of rows 64 to 127, eight rows at a time.
-/
module

public import proofs.«01_k».proof.PostIdeal
public import proofs.«01_k».proof.Proof.Post.Rows

@[expose] public section

set_option maxRecDepth 100000

namespace Cert.Post.Ones

open Idealize.ShloMosaic
open Cert.PostIdeal

/-- Rows 64 to 71. -/
theorem rows8 : ∀ r : Fin 8, ∀ c : Fin 256, lit1t (256 * (64 + r.val) + c.val) = if (64 + r.val) / 64 = c.val / 64 then 0x3F80#16 else 0#16 := by
  decide +kernel

/-- Rows 72 to 79. -/
theorem rows9 : ∀ r : Fin 8, ∀ c : Fin 256, lit1t (256 * (72 + r.val) + c.val) = if (72 + r.val) / 64 = c.val / 64 then 0x3F80#16 else 0#16 := by
  decide +kernel

/-- Rows 80 to 87. -/
theorem rows10 : ∀ r : Fin 8, ∀ c : Fin 256, lit1t (256 * (80 + r.val) + c.val) = if (80 + r.val) / 64 = c.val / 64 then 0x3F80#16 else 0#16 := by
  decide +kernel

/-- Rows 88 to 95. -/
theorem rows11 : ∀ r : Fin 8, ∀ c : Fin 256, lit1t (256 * (88 + r.val) + c.val) = if (88 + r.val) / 64 = c.val / 64 then 0x3F80#16 else 0#16 := by
  decide +kernel

/-- Rows 96 to 103. -/
theorem rows12 : ∀ r : Fin 8, ∀ c : Fin 256, lit1t (256 * (96 + r.val) + c.val) = if (96 + r.val) / 64 = c.val / 64 then 0x3F80#16 else 0#16 := by
  decide +kernel

/-- Rows 104 to 111. -/
theorem rows13 : ∀ r : Fin 8, ∀ c : Fin 256, lit1t (256 * (104 + r.val) + c.val) = if (104 + r.val) / 64 = c.val / 64 then 0x3F80#16 else 0#16 := by
  decide +kernel

/-- Rows 112 to 119. -/
theorem rows14 : ∀ r : Fin 8, ∀ c : Fin 256, lit1t (256 * (112 + r.val) + c.val) = if (112 + r.val) / 64 = c.val / 64 then 0x3F80#16 else 0#16 := by
  decide +kernel

/-- Rows 120 to 127. -/
theorem rows15 : ∀ r : Fin 8, ∀ c : Fin 256, lit1t (256 * (120 + r.val) + c.val) = if (120 + r.val) / 64 = c.val / 64 then 0x3F80#16 else 0#16 := by
  decide +kernel

end Cert.Post.Ones
-- ==== Proof.Post.Ones.C.lean ====
/-
  The constant table of ones on the diagonal blocks of 64, read at the entries of rows 128 to 191, eight rows at a time.
-/
module

public import proofs.«01_k».proof.PostIdeal
public import proofs.«01_k».proof.Proof.Post.Rows

@[expose] public section

set_option maxRecDepth 100000

namespace Cert.Post.Ones

open Idealize.ShloMosaic
open Cert.PostIdeal

/-- Rows 128 to 135. -/
theorem rows16 : ∀ r : Fin 8, ∀ c : Fin 256, lit1t (256 * (128 + r.val) + c.val) = if (128 + r.val) / 64 = c.val / 64 then 0x3F80#16 else 0#16 := by
  decide +kernel

/-- Rows 136 to 143. -/
theorem rows17 : ∀ r : Fin 8, ∀ c : Fin 256, lit1t (256 * (136 + r.val) + c.val) = if (136 + r.val) / 64 = c.val / 64 then 0x3F80#16 else 0#16 := by
  decide +kernel

/-- Rows 144 to 151. -/
theorem rows18 : ∀ r : Fin 8, ∀ c : Fin 256, lit1t (256 * (144 + r.val) + c.val) = if (144 + r.val) / 64 = c.val / 64 then 0x3F80#16 else 0#16 := by
  decide +kernel

/-- Rows 152 to 159. -/
theorem rows19 : ∀ r : Fin 8, ∀ c : Fin 256, lit1t (256 * (152 + r.val) + c.val) = if (152 + r.val) / 64 = c.val / 64 then 0x3F80#16 else 0#16 := by
  decide +kernel

/-- Rows 160 to 167. -/
theorem rows20 : ∀ r : Fin 8, ∀ c : Fin 256, lit1t (256 * (160 + r.val) + c.val) = if (160 + r.val) / 64 = c.val / 64 then 0x3F80#16 else 0#16 := by
  decide +kernel

/-- Rows 168 to 175. -/
theorem rows21 : ∀ r : Fin 8, ∀ c : Fin 256, lit1t (256 * (168 + r.val) + c.val) = if (168 + r.val) / 64 = c.val / 64 then 0x3F80#16 else 0#16 := by
  decide +kernel

/-- Rows 176 to 183. -/
theorem rows22 : ∀ r : Fin 8, ∀ c : Fin 256, lit1t (256 * (176 + r.val) + c.val) = if (176 + r.val) / 64 = c.val / 64 then 0x3F80#16 else 0#16 := by
  decide +kernel

/-- Rows 184 to 191. -/
theorem rows23 : ∀ r : Fin 8, ∀ c : Fin 256, lit1t (256 * (184 + r.val) + c.val) = if (184 + r.val) / 64 = c.val / 64 then 0x3F80#16 else 0#16 := by
  decide +kernel

end Cert.Post.Ones
-- ==== Proof.Post.Ones.D.lean ====
/-
  The constant table of ones on the diagonal blocks of 64, read at the entries of rows 192 to 255, eight rows at a time.
-/
module

public import proofs.«01_k».proof.PostIdeal
public import proofs.«01_k».proof.Proof.Post.Rows

@[expose] public section

set_option maxRecDepth 100000

namespace Cert.Post.Ones

open Idealize.ShloMosaic
open Cert.PostIdeal

/-- Rows 192 to 199. -/
theorem rows24 : ∀ r : Fin 8, ∀ c : Fin 256, lit1t (256 * (192 + r.val) + c.val) = if (192 + r.val) / 64 = c.val / 64 then 0x3F80#16 else 0#16 := by
  decide +kernel

/-- Rows 200 to 207. -/
theorem rows25 : ∀ r : Fin 8, ∀ c : Fin 256, lit1t (256 * (200 + r.val) + c.val) = if (200 + r.val) / 64 = c.val / 64 then 0x3F80#16 else 0#16 := by
  decide +kernel

/-- Rows 208 to 215. -/
theorem rows26 : ∀ r : Fin 8, ∀ c : Fin 256, lit1t (256 * (208 + r.val) + c.val) = if (208 + r.val) / 64 = c.val / 64 then 0x3F80#16 else 0#16 := by
  decide +kernel

/-- Rows 216 to 223. -/
theorem rows27 : ∀ r : Fin 8, ∀ c : Fin 256, lit1t (256 * (216 + r.val) + c.val) = if (216 + r.val) / 64 = c.val / 64 then 0x3F80#16 else 0#16 := by
  decide +kernel

/-- Rows 224 to 231. -/
theorem rows28 : ∀ r : Fin 8, ∀ c : Fin 256, lit1t (256 * (224 + r.val) + c.val) = if (224 + r.val) / 64 = c.val / 64 then 0x3F80#16 else 0#16 := by
  decide +kernel

/-- Rows 232 to 239. -/
theorem rows29 : ∀ r : Fin 8, ∀ c : Fin 256, lit1t (256 * (232 + r.val) + c.val) = if (232 + r.val) / 64 = c.val / 64 then 0x3F80#16 else 0#16 := by
  decide +kernel

/-- Rows 240 to 247. -/
theorem rows30 : ∀ r : Fin 8, ∀ c : Fin 256, lit1t (256 * (240 + r.val) + c.val) = if (240 + r.val) / 64 = c.val / 64 then 0x3F80#16 else 0#16 := by
  decide +kernel

/-- Rows 248 to 255. -/
theorem rows31 : ∀ r : Fin 8, ∀ c : Fin 256, lit1t (256 * (248 + r.val) + c.val) = if (248 + r.val) / 64 = c.val / 64 then 0x3F80#16 else 0#16 := by
  decide +kernel

end Cert.Post.Ones
-- ==== Proof.Post.Ones.lean ====
/-
  The constant table of ones on the four diagonal blocks of 64, read at an entry.
-/
module

public import proofs.«01_k».proof.Proof.Post.Ones.A
public import proofs.«01_k».proof.Proof.Post.Ones.B
public import proofs.«01_k».proof.Proof.Post.Ones.C
public import proofs.«01_k».proof.Proof.Post.Ones.D

@[expose] public section

namespace Cert.Post.Ones

open Idealize.ShloMosaic
open Cert.PostIdeal

/-- Eight rows' entries, at a row among them. -/
theorem among (N : ℕ) (h : ∀ k : Fin 8, ∀ c : Fin 256, lit1t (256 * (N + k.val) + c.val) = if (N + k.val) / 64 = c.val / 64 then 0x3F80#16 else 0#16)
    (r c : Fin 256) (h0 : N ≤ r.val) (h1 : r.val < N + 8) : lit1t (256 * r.val + c.val) = if r.val / 64 = c.val / 64 then 0x3F80#16 else 0#16 := by
  have e : N + (r.val - N) = r.val := by omega
  have := h ⟨r.val - N, by omega⟩ c
  rw [e] at this
  exact this

/-- Entry `(r, c)` of the table is one on the diagonal blocks and zero elsewhere. -/
theorem table (r c : Fin 256) : lit1t (256 * r.val + c.val) = if r.val / 64 = c.val / 64 then 0x3F80#16 else 0#16 := by
  have hr := r.isLt
  by_cases h0 : r.val < 8
  · exact among 0 rows0 r c (by omega) (by omega)
  by_cases h1 : r.val < 16
  · exact among 8 rows1 r c (by omega) (by omega)
  by_cases h2 : r.val < 24
  · exact among 16 rows2 r c (by omega) (by omega)
  by_cases h3 : r.val < 32
  · exact among 24 rows3 r c (by omega) (by omega)
  by_cases h4 : r.val < 40
  · exact among 32 rows4 r c (by omega) (by omega)
  by_cases h5 : r.val < 48
  · exact among 40 rows5 r c (by omega) (by omega)
  by_cases h6 : r.val < 56
  · exact among 48 rows6 r c (by omega) (by omega)
  by_cases h7 : r.val < 64
  · exact among 56 rows7 r c (by omega) (by omega)
  by_cases h8 : r.val < 72
  · exact among 64 rows8 r c (by omega) (by omega)
  by_cases h9 : r.val < 80
  · exact among 72 rows9 r c (by omega) (by omega)
  by_cases h10 : r.val < 88
  · exact among 80 rows10 r c (by omega) (by omega)
  by_cases h11 : r.val < 96
  · exact among 88 rows11 r c (by omega) (by omega)
  by_cases h12 : r.val < 104
  · exact among 96 rows12 r c (by omega) (by omega)
  by_cases h13 : r.val < 112
  · exact among 104 rows13 r c (by omega) (by omega)
  by_cases h14 : r.val < 120
  · exact among 112 rows14 r c (by omega) (by omega)
  by_cases h15 : r.val < 128
  · exact among 120 rows15 r c (by omega) (by omega)
  by_cases h16 : r.val < 136
  · exact among 128 rows16 r c (by omega) (by omega)
  by_cases h17 : r.val < 144
  · exact among 136 rows17 r c (by omega) (by omega)
  by_cases h18 : r.val < 152
  · exact among 144 rows18 r c (by omega) (by omega)
  by_cases h19 : r.val < 160
  · exact among 152 rows19 r c (by omega) (by omega)
  by_cases h20 : r.val < 168
  · exact among 160 rows20 r c (by omega) (by omega)
  by_cases h21 : r.val < 176
  · exact among 168 rows21 r c (by omega) (by omega)
  by_cases h22 : r.val < 184
  · exact among 176 rows22 r c (by omega) (by omega)
  by_cases h23 : r.val < 192
  · exact among 184 rows23 r c (by omega) (by omega)
  by_cases h24 : r.val < 200
  · exact among 192 rows24 r c (by omega) (by omega)
  by_cases h25 : r.val < 208
  · exact among 200 rows25 r c (by omega) (by omega)
  by_cases h26 : r.val < 216
  · exact among 208 rows26 r c (by omega) (by omega)
  by_cases h27 : r.val < 224
  · exact among 216 rows27 r c (by omega) (by omega)
  by_cases h28 : r.val < 232
  · exact among 224 rows28 r c (by omega) (by omega)
  by_cases h29 : r.val < 240
  · exact among 232 rows29 r c (by omega) (by omega)
  by_cases h30 : r.val < 248
  · exact among 240 rows30 r c (by omega) (by omega)
  exact among 248 rows31 r c (by omega) (by omega)

end Cert.Post.Ones
-- ==== Proof.Post.HostRow.lean ====
/-
  The prepared arrays at an entry, as what the block they are read in needs: the inverse of the window's count, the
  pooling matrix of a group, the table of ones, a gain at its lane.
-/
module

public import proofs.«01_k».proof.Proof.Post.Host
public import proofs.«01_k».proof.Proof.Post.Ones
public import Idealize.ShloMosaic.Lib.IdealHost

@[expose] public section

set_option maxRecDepth 16384

noncomputable section

namespace Cert.Post.HostRow

open Idealize.ShloMosaic Idealize.ShloMosaic.TcCoe Idealize.ShloMosaic.ValueIdx
open Cert.PostIdeal Cert.PostIdeal.Gen Idealize.SL.Sem
open Cert.Post.Rows Cert.Post.Host
open scoped BigOperators

variable (m : (ℓ : Loc nD τ sig) → Buf (Elt Ideal) ℓ) (c : Dev nD)

/-! ## The inverse counts -/

theorem lens_apply (l : Fin 256) : lens (ix2 0 l) = BitVec.ofNat 32 (2 * halfWin (grp l)) := by
  revert l; decide +kernel

theorem halves_apply (l : Fin 256) : halves (ix2 0 l) = BitVec.ofNat 32 (halfWin (grp l)) := by
  revert l; decide +kernel

theorem tall_apply (x : IVec S1x256 32) (s : Fin 8192) (l : Fin 256) : tall x (ix2 s l) = x (ix2 0 l) :=
  broadcastInDim_apply _ _ x _ (ix2 (0 : Fin 1) l) fun a => by
    match a with
    | ⟨0, _⟩ => rfl
    | ⟨1, _⟩ => rfl

theorem toks_apply (s : Fin 8192) (l : Fin 256) : toks (ix2 s l) = BitVec.ofNat 32 s.val := by
  unfold toks
  rw [broadcastInDim_apply _ _ _ _ (ix2 s (0 : Fin 1)) fun a => by
    match a with
    | ⟨0, _⟩ => rfl
    | ⟨1, _⟩ => rfl]
  rw [broadcastInDim_apply _ _ _ _ (ix1 s) fun a => by
    match a with
    | ⟨0, _⟩ => rfl]
  rfl

theorem counts_apply (s : Fin 8192) (l : Fin 256) : (counts (ix2 s l)).toInt = ((cnt (grp l) s : ℕ) : ℤ) := by
  have hw := Words.halfWin_le (grp l)
  have hs := s.isLt
  have N := Words.ofNat s.val (by omega)
  have W := Words.ofNat (2 * halfWin (grp l)) (by omega)
  have H := Words.ofNat (halfWin (grp l)) (by omega)
  have Z : Words.Holds 0#32 0 := rfl
  have L : Words.Holds 8192#32 8192 := rfl
  have e := Words.sub (Words.min (Words.sub (Words.add N W (by omega) (by omega)) H (by omega) (by omega)) L)
    (Words.max (Words.sub N H (by omega) (by omega)) Z) (by omega) (by omega)
  have e2 : counts (ix2 s l) = IntOp.subi (IntOp.minsi (IntOp.subi (IntOp.addi (toks (ix2 s l)) (tall lens (ix2 s l))) (tall halves (ix2 s l))) 8192#32)
      (IntOp.maxsi (IntOp.subi (toks (ix2 s l)) (tall halves (ix2 s l))) 0#32) := rfl
  rw [e2, tall_apply, tall_apply, toks_apply, lens_apply, halves_apply]
  refine e.of_eq ?_
  unfold cnt
  omega

theorem inverse (s : Fin 8192) (l : Fin 256) :
    V (F := Ideal) m c main_v26 (ix2 s l) = Ideal.div 1 (((cnt (grp l) s : ℕ) : ℝ) : EReal) := by
  rw [inverse_eq]
  show Ideal.div (Ideal.ofBits .f32 0x3F800000#32) (((counts (ix2 s l)).toInt : ℝ) : EReal) = _
  rw [counts_apply, Ideal.ofBits_one_f32]
  norm_cast

/-! ## The pooling matrices -/

theorem eye_apply (g h : Fin 4) : eye (ix2 g h) = if g = h then 1 else 0 := by
  have e : (cmpi .eq (addi (iotaInDim S4x4 32 0) (broadcastInDim S4x4 ![] bcast_S_S4x4 (constantI S_ 32 0#32))) (iotaInDim S4x4 32 1)) (ix2 g h)
      = if g = h then 1#1 else 0#1 := by revert g h; decide +kernel
  show (((BitVec.toNat ((cmpi .eq (addi (iotaInDim S4x4 32 0) (broadcastInDim S4x4 ![] bcast_S_S4x4 (constantI S_ 32 0#32))) (iotaInDim S4x4 32 1)) (ix2 g h)) : ℕ) : ℝ) : EReal) = _
  rw [e]
  by_cases hgh : g = h
  · rw [if_pos hgh, if_pos hgh]; simp
  · rw [if_neg hgh, if_neg hgh]; simp

theorem blocks_apply (x : FVec Ideal S4x64x64 .f32) (g h : Fin 4) (j k : Fin 64) :
    blocks x (ix4 g j h k) = x (ix3 g j k) * eye (ix2 g h) := by
  have e1 : broadcastInDim S4x64x4x64 ![0, 1, 2, 3] bcast_S4x64x1x64_S4x64x4x64_0_1_2_3
      (broadcastInDim S4x64x1x64 ![0, 1, 3] bcast_S4x64x64_S4x64x1x64_0_1_3 x) (ix4 g j h k) = x (ix3 g j k) := by
    rw [broadcastInDim_apply _ _ _ _ (ix4 g j (0 : Fin 1) k) fun a => by
      match a with
      | ⟨0, _⟩ => rfl
      | ⟨1, _⟩ => rfl
      | ⟨2, _⟩ => rfl
      | ⟨3, _⟩ => rfl]
    exact broadcastInDim_apply _ _ _ _ (ix3 g j k) fun a => by
      match a with
      | ⟨0, _⟩ => rfl
      | ⟨1, _⟩ => rfl
      | ⟨2, _⟩ => rfl
  have e2 : broadcastInDim S4x64x4x64 ![0, 1, 2, 3] bcast_S4x1x4x1_S4x64x4x64_0_1_2_3
      (broadcastInDim S4x1x4x1 ![0, 2] bcast_S4x4_S4x1x4x1_0_2 eye) (ix4 g j h k) = eye (ix2 g h) := by
    rw [broadcastInDim_apply _ _ _ _ (ix4 g (0 : Fin 1) h (0 : Fin 1)) fun a => by
      match a with
      | ⟨0, _⟩ => rfl
      | ⟨1, _⟩ => rfl
      | ⟨2, _⟩ => rfl
      | ⟨3, _⟩ => rfl]
    exact broadcastInDim_apply _ _ _ _ (ix2 g h) fun a => by
      match a with
      | ⟨0, _⟩ => rfl
      | ⟨1, _⟩ => rfl
  show _ * _ = _
  rw [e1, e2]

theorem pool (g h : Fin 4) (j k : Fin 64) (x : FVec Ideal S4x64x64 .f32) (hx : m ((c : Thread nD τ).loc main_arg5) = x) :
    V (F := Ideal) m c main_v39 (ix2 (at_ g j) (at_ h k)) = x (ix3 g j k) * (if g = h then 1 else 0 : EReal) := by
  rw [pool_eq, ← eye_apply, ← blocks_apply, hx]
  refine shapeCast_apply _ _ _ (ix4 g j h k) ?_
  rw [Shape.rowMajor_val_two, Shape.rowMajor_val_four]
  show ((g.val * 64 + j.val) * 4 + h.val) * 64 + k.val = (64 * g.val + j.val) * 256 + (64 * h.val + k.val)
  omega

theorem poolIn (g : Fin 4) (j k : Fin 64) :
    V (F := Ideal) m c main_v39 (ix2 (at_ g j) (at_ g k)) = m ((c : Thread nD τ).loc main_arg5) (ix3 g j k) := by
  exact (pool m c g g j k _ rfl).trans ((congrArg _ (if_pos rfl)).trans (mul_one (M := EReal) _))

theorem poolOut (j l : Fin 256) (h : grp j ≠ grp l) : V (F := Ideal) m c main_v39 (ix2 j l) = (0 : EReal) := by
  have e := pool m c (grp j) (grp l) (Rows.lane j) (Rows.lane l) _ rfl
  rw [at_grp_lane, at_grp_lane, if_neg h] at e
  exact e.trans (mul_zero (M₀ := EReal) _)

/-! ## The table of ones -/

theorem word_one : Ideal.ofBits .bf16 0x3F80#16 = 1 := Ideal.ofBits_one_bf16
theorem word_zero : Ideal.ofBits .bf16 0#16 = 0 := Ideal.ofBits_zero_bf16

theorem ones (r l : Fin 256) : V (F := Ideal) m c main_cst (ix2 r l) = if grp r = grp l then (1 : EReal) else 0 := by
  rw [ones_eq]
  have e : lit1 (S256x256.rowMajor (ix2 r l)) = lit1t (256 * r.val + l.val) := by
    have : (S256x256.rowMajor (ix2 r l)).val = 256 * r.val + l.val := by
      rw [Shape.rowMajor_val_two]
      show r.val * 256 + l.val = _
      omega
    rw [← this]
  rw [e, Ones.table]
  by_cases h : r.val / 64 = l.val / 64
  · rw [if_pos h, if_pos (Fin.ext h)]; exact word_one
  · rw [if_neg h, if_neg fun h' => h (congrArg Fin.val h')]; exact word_zero

/-! ## The gains -/

theorem scale (l : Fin 256) : V (F := Ideal) m c main_v40 (ix2 0 l) = m ((c : Thread nD τ).loc main_arg6) (ix1 l) := by
  rw [scale_eq]
  refine shapeCast_apply _ _ _ (ix1 l) ?_
  rw [Shape.rowMajor_val_one, Shape.rowMajor_val_two]
  show l.val = 0 * 256 + l.val
  omega

theorem gain (d : Fin 1024) : V (F := Ideal) m c main_v45 (ix2 0 d) = m ((c : Thread nD τ).loc main_arg9) (ix1 d) := by
  rw [gain_eq]
  refine shapeCast_apply _ _ _ (ix1 d) ?_
  rw [Shape.rowMajor_val_one, Shape.rowMajor_val_two]
  show d.val = 0 * 1024 + d.val
  omega

theorem headGain (l : Fin 256) : V (F := Ideal) m c main_v44 (ix2 0 l) = m ((c : Thread nD τ).loc main_arg7) (ix1 (Rows.lane l)) := by
  rw [headGain_eq]
  refine (shapeCast_apply _ _ _ (ix1 l) ?_).trans ((shapeCast_apply _ _ _ (ix2 (grp l) (Rows.lane l)) ?_).trans
    ((broadcastInDim_apply _ _ _ _ (ix2 (0 : Fin 1) (Rows.lane l)) ?_).trans (shapeCast_apply _ _ _ (ix1 (Rows.lane l)) ?_)))
  · rw [Shape.rowMajor_val_one, Shape.rowMajor_val_two]
    show l.val = 0 * 256 + l.val; omega
  · rw [Shape.rowMajor_val_one, Shape.rowMajor_val_two]
    show l.val / 64 * 64 + l.val % 64 = l.val
    omega
  · intro a
    match a with
    | ⟨0, _⟩ => rfl
    | ⟨1, _⟩ => rfl
  · rw [Shape.rowMajor_val_one, Shape.rowMajor_val_two]
    show l.val % 64 = 0 * 64 + l.val % 64
    omega

end Cert.Post.HostRow

end
-- ==== Proof.Post.Body.lean ====
/-
  What one grid point leaves in its output block, written out over the point's input blocks: the four planes of padded
  rows and partial window sums the body stores and reads back, the joined row block, the residual, the normed rows, the
  eleven column chunks of hidden units, and the result.
-/
module

public import proofs.«01_k».proof.Proof.Gen.PostIdeal.Skeleton
public import Idealize.ShloMosaic.Lib.Pipeline.FrameBody
public import proofs.«01_k».proof.Proof.Post.Rows

@[expose] public section

set_option maxRecDepth 16384

noncomputable section

namespace Cert.Post.Body

open Idealize.ShloMosaic Idealize.ShloMosaic.TcCoe
open Cert.PostIdeal Cert.PostIdeal.Gen

/-- A store into the planes, and one into the hidden units. -/
abbrev PlanePiece := View.Piece (Elt Ideal) S4x544x256 .f32
abbrev UnitPiece := View.Piece (Elt Ideal) S512x2816 .bf16

/-- What a list of stores, last first, leaves at a rectangle of the planes. -/
def rd (L : List PlanePiece) (r : Rect S4x544x256) : r.shape.Idx → EReal := fun j => View.canon L (r.toLoadRect.idx j)

variable (i : grid0.Coords)
  (x0 : Vec Ideal S1x512x1024 .f32)
  (x1 : Vec Ideal S1x512x512 .f32)
  (x2 : Vec Ideal S1x512x256 .f32)
  (x3 : Vec Ideal S1x8x256 .f32)
  (x4 : Vec Ideal S1x8x256 .f32)
  (x5 : Vec Ideal S512x256 .f32)
  (x6 : Vec Ideal S1x512x256 .f32)
  (x7 : Vec Ideal S1x512x256 .f32)
  (x8 : Vec Ideal S1x512x256 .f32)
  (x9 : Vec Ideal S256x256 .bf16)
  (x10 : Vec Ideal S1x256 .f32)
  (x11 : Vec Ideal S1x256 .f32)
  (x12 : Vec Ideal S256x256 .bf16)
  (x13 : Vec Ideal S1024x1024 .bf16)
  (x14 : Vec Ideal S1x1024 .f32)
  (x15 : Vec Ideal S1024x2816 .bf16)
  (x16 : Vec Ideal S1024x2816 .bf16)
  (x17 : Vec Ideal S2816x1024 .bf16)

/-- The point's place in the sequence, as the word the body compares. -/
def tileWord : BitVec 32 := BitVec.ofNat 32 (i 1).val

/-- Plane 0 filled: zero margins, the rows before the tile, the tile, the rows after it. -/
def plane0 : List PlanePiece :=
  [⟨Rect.unit (s := S4x544x256) ![0, 528, 0] S1x8x256.size inb_S4x544x256_S1x8x256_0_528_0, k0_pay14 (F := Ideal) (tileWord i) x4⟩,
   ⟨Rect.unit (s := S4x544x256) ![0, 16, 0] S1x512x256.size inb_S4x544x256_S1x512x256_0_16_0, k0_pay13 (F := Ideal) x2⟩,
   ⟨Rect.unit (s := S4x544x256) ![0, 8, 0] S1x8x256.size inb_S4x544x256_S1x8x256_0_8_0, k0_pay12 (F := Ideal) (k0_pay11 i x3)⟩,
   ⟨Rect.unit (s := S4x544x256) ![2, 536, 0] S1x8x256.size inb_S4x544x256_S1x8x256_2_536_0, k0_pay10 (F := Ideal)⟩,
   ⟨Rect.unit (s := S4x544x256) ![2, 0, 0] S1x8x256.size inb_S4x544x256_S1x8x256_2_0_0, k0_pay9 (F := Ideal)⟩,
   ⟨Rect.unit (s := S4x544x256) ![1, 536, 0] S1x8x256.size inb_S4x544x256_S1x8x256_1_536_0, k0_pay8 (F := Ideal)⟩,
   ⟨Rect.unit (s := S4x544x256) ![1, 0, 0] S1x8x256.size inb_S4x544x256_S1x8x256_1_0_0, k0_pay7 (F := Ideal)⟩,
   ⟨Rect.unit (s := S4x544x256) ![0, 536, 0] S1x8x256.size inb_S4x544x256_S1x8x256_0_536_0, k0_pay6 (F := Ideal)⟩,
   ⟨Rect.unit (s := S4x544x256) ![0, 0, 0] S1x8x256.size inb_S4x544x256_S1x8x256_0_0_0, k0_pay5 (F := Ideal)⟩]

/-- Plane 1: sums of two neighbouring rows. -/
def plane1 : List PlanePiece :=
  ⟨Rect.unit (s := S4x544x256) ![1, 8, 0] S1x528x256.size inb_S4x544x256_S1x528x256_1_8_0,
    k0_pay15 (F := Ideal) (rd (plane0 i x2 x3 x4) (Rect.unit (s := S4x544x256) ![0, 7, 0] S1x528x256.size inb_S4x544x256_S1x528x256_0_7_0))
      (rd (plane0 i x2 x3 x4) (Rect.unit (s := S4x544x256) ![0, 8, 0] S1x528x256.size inb_S4x544x256_S1x528x256_0_8_0))⟩ :: plane0 i x2 x3 x4

/-- Plane 2: sums of four. -/
def plane2 : List PlanePiece :=
  ⟨Rect.unit (s := S4x544x256) ![2, 8, 0] S1x528x256.size inb_S4x544x256_S1x528x256_2_8_0,
    k0_pay18 (F := Ideal) (k0_pay17 (rd (plane1 i x2 x3 x4) (Rect.unit (s := S4x544x256) ![1, 7, 0] S1x528x256.size inb_S4x544x256_S1x528x256_1_7_0)))
      (rd (plane1 i x2 x3 x4) (Rect.unit (s := S4x544x256) ![1, 9, 0] S1x528x256.size inb_S4x544x256_S1x528x256_1_9_0))⟩ :: plane1 i x2 x3 x4

/-- Plane 3: sums of eight. -/
def plane3 : List PlanePiece :=
  ⟨Rect.unit (s := S4x544x256) ![3, 8, 0] S1x528x256.size inb_S4x544x256_S1x528x256_3_8_0,
    k0_pay20 (F := Ideal) (rd (plane2 i x2 x3 x4) (Rect.unit (s := S4x544x256) ![2, 6, 0] S1x528x256.size inb_S4x544x256_S1x528x256_2_6_0))
      (rd (plane2 i x2 x3 x4) (Rect.unit (s := S4x544x256) ![2, 10, 0] S1x528x256.size inb_S4x544x256_S1x528x256_2_10_0))⟩ :: plane2 i x2 x3 x4

/-- The tile's window sums, of two, four, eight and sixteen rows. -/
def sum2 : FVec Ideal S512x256 .f32 :=
  k0_pay16 (F := Ideal) (rd (plane1 i x2 x3 x4) (Rect.unit (s := S4x544x256) ![1, 16, 0] S1x512x256.size inb_S4x544x256_S1x512x256_1_16_0))
def sum4 : FVec Ideal S512x256 .f32 :=
  k0_pay19 (F := Ideal) (rd (plane2 i x2 x3 x4) (Rect.unit (s := S4x544x256) ![2, 16, 0] S1x512x256.size inb_S4x544x256_S1x512x256_2_16_0))
def sum8 : FVec Ideal S512x256 .f32 :=
  k0_pay21 (F := Ideal) (rd (plane3 i x2 x3 x4) (Rect.unit (s := S4x544x256) ![3, 16, 0] S1x512x256.size inb_S4x544x256_S1x512x256_3_16_0))
def sum16 : FVec Ideal S512x256 .f32 :=
  k0_pay22 (F := Ideal) (rd (plane3 i x2 x3 x4) (Rect.unit (s := S4x544x256) ![3, 12, 0] S1x512x256.size inb_S4x544x256_S1x512x256_3_12_0))
    (rd (plane3 i x2 x3 x4) (Rect.unit (s := S4x544x256) ![3, 20, 0] S1x512x256.size inb_S4x544x256_S1x512x256_3_20_0))

/-- The centred tile through the pooling matrix. -/
def pooled : FVec Ideal S512x256 .f32 :=
  k0_pay25 (F := Ideal) (sum2 i x2 x3 x4) (sum4 i x2 x3 x4) (sum8 i x2 x3 x4) (sum16 i x2 x3 x4)
    (iota .tc S1x256 32 [1] iota_S1x256_d1_w32) 64#32 k0_pay23 k0_pay24 x5
    (rd (plane3 i x2 x3 x4) (Rect.unit (s := S4x544x256) ![0, 16, 0] S1x512x256.size inb_S4x544x256_S1x512x256_0_16_0)) x9

/-- The joined rows. -/
def cat : FVec Ideal S512x1024 .bf16 := k0_pay26 (F := Ideal) (pooled i x2 x3 x4 x5 x9) x10 x6 x7 x12 x11 x8 x1

/-- The residual plus the projected rows. -/
def hid : FVec Ideal S512x1024 .f32 :=
  k0_pay28 (F := Ideal) (cat i x1 x2 x3 x4 x5 x6 x7 x8 x9 x10 x11 x12) (k0_pay27 x0) x13

/-- Those rows normed. -/
def nrm : FVec Ideal S512x1024 .bf16 :=
  k0_pay29 (F := Ideal) (cat i x1 x2 x3 x4 x5 x6 x7 x8 x9 x10 x11 x12) (k0_pay27 x0) x13 x14

/-- A chunk of a weight's columns. -/
def cols (w : Vec Ideal S1024x2816 .bf16) (o : ℕ) (h : ∀ a, (![0, o] : Fin 2 → ℕ) a + S1024x256.size a ≤ S1024x2816.size a) : Vec Ideal S1024x256 .bf16 :=
  View.ld w (Rect.unit (s := S1024x2816) ![0, o] S1024x256.size h)

/-- The hidden units, chunk by chunk. -/
def units (ct n : FVec Ideal S512x1024 .bf16) : List UnitPiece :=
  [
   ⟨Rect.unit (s := S512x2816) ![0, 2560] S512x256.size inb_S512x2816_S512x256_0_2560,
    k0_pay2 (F := Ideal) n (cols x15 2560 inb_S1024x2816_S1024x256_0_2560) (cols x16 2560 inb_S1024x2816_S1024x256_0_2560)⟩,
   ⟨Rect.unit (s := S512x2816) ![0, 2304] S512x256.size inb_S512x2816_S512x256_0_2304,
    k0_pay1 (F := Ideal) (k0_pay42 n (cols x15 2304 inb_S1024x2816_S1024x256_0_2304) (cols x16 2304 inb_S1024x2816_S1024x256_0_2304))⟩,
   ⟨Rect.unit (s := S512x2816) ![0, 2048] S512x256.size inb_S512x2816_S512x256_0_2048,
    k0_pay41 (F := Ideal) n (cols x15 2048 inb_S1024x2816_S1024x256_0_2048) (cols x16 2048 inb_S1024x2816_S1024x256_0_2048)⟩,
   ⟨Rect.unit (s := S512x2816) ![0, 1792] S512x256.size inb_S512x2816_S512x256_0_1792,
    k0_pay40 (F := Ideal) n (cols x15 1792 inb_S1024x2816_S1024x256_0_1792) (cols x16 1792 inb_S1024x2816_S1024x256_0_1792)⟩,
   ⟨Rect.unit (s := S512x2816) ![0, 1536] S512x256.size inb_S512x2816_S512x256_0_1536,
    k0_pay39 (F := Ideal) n (cols x15 1536 inb_S1024x2816_S1024x256_0_1536) (cols x16 1536 inb_S1024x2816_S1024x256_0_1536)⟩,
   ⟨Rect.unit (s := S512x2816) ![0, 1280] S512x256.size inb_S512x2816_S512x256_0_1280,
    k0_pay38 (F := Ideal) n (cols x15 1280 inb_S1024x2816_S1024x256_0_1280) (cols x16 1280 inb_S1024x2816_S1024x256_0_1280)⟩,
   ⟨Rect.unit (s := S512x2816) ![0, 1024] S512x256.size inb_S512x2816_S512x256_0_1024,
    k0_pay37 (F := Ideal) n (k0_pay36 (cols x15 1024 inb_S1024x2816_S1024x256_0_1024)) (constant S512x256 .f32 0x00000000#32) (cols x16 1024 inb_S1024x2816_S1024x256_0_1024)⟩,
   ⟨Rect.unit (s := S512x2816) ![0, 768] S512x256.size inb_S512x2816_S512x256_0_768,
    k0_pay35 (F := Ideal) n (cols x15 768 inb_S1024x2816_S1024x256_0_768) (cols x16 768 inb_S1024x2816_S1024x256_0_768)⟩,
   ⟨Rect.unit (s := S512x2816) ![0, 512] S512x256.size inb_S512x2816_S512x256_0_512,
    k0_pay34 (F := Ideal) n (cols x15 512 inb_S1024x2816_S1024x256_0_512) (cols x16 512 inb_S1024x2816_S1024x256_0_512)⟩,
   ⟨Rect.unit (s := S512x2816) ![0, 256] S512x256.size inb_S512x2816_S512x256_0_256,
    k0_pay33 (F := Ideal) n (k0_pay31 ct (k0_pay27 x0) x13 x14 (cols x15 256 inb_S1024x2816_S1024x256_0_256)) (k0_pay32 (cols x16 256 inb_S1024x2816_S1024x256_0_256)) (constant S512x256 .f32 0x00000000#32)⟩,
   ⟨Rect.unit (s := S512x2816) ![0, 0] S512x256.size inb_S512x2816_S512x256_0_0,
    k0_pay30 (F := Ideal) ct (k0_pay27 x0) x13 x14 (cols x15 0 inb_S1024x2816_S1024x256_0_0) (cols x16 0 inb_S1024x2816_S1024x256_0_0)⟩]

/-- What the point leaves in its output block. -/
def out : FVec Ideal S1x512x1024 .f32 :=
  k0_pay3 (F := Ideal) (hid i x0 x1 x2 x3 x4 x5 x6 x7 x8 x9 x10 x11 x12 x13)
    (fun j => View.canon (units x0 x13 x14 x15 x16 (cat i x1 x2 x3 x4 x5 x6 x7 x8 x9 x10 x11 x12)
      (nrm i x0 x1 x2 x3 x4 x5 x6 x7 x8 x9 x10 x11 x12 x13 x14)) ((Rect.unit (s := S512x2816) ![0, 0] S512x2816.size inb_S512x2816_S512x2816_0_0).toLoadRect.idx j)) x17

end Cert.Post.Body

end
-- ==== Proof.Post.Planes.lean ====
/-
  The four planes of a grid point read at a row: plane 0 holds the padded column of tokens, and planes 1, 2 and 3 hold
  its sums over two, four and eight neighbouring rows wherever the tile's window sums need them; so the four window sums
  of a tile row are the sums over the windows of the sequence.
-/
module

public import proofs.«01_k».proof.Proof.Post.Body
public import Idealize.ShloMosaic.Lib.Pipeline.Value
public import Idealize.ShloMosaic.Lib.Pipeline.ValueKit.Tiles
public import Idealize.ShloMosaic.Lib.ValueLayout

@[expose] public section

set_option maxRecDepth 16384

noncomputable section

namespace Cert.Post.Planes

open Idealize.ShloMosaic Idealize.ShloMosaic.TcCoe Idealize.ShloMosaic.ValueIdx
open Cert.PostIdeal Cert.PostIdeal.Gen
open Cert.Post.Rows Cert.Post.Body
open scoped BigOperators

/-! ## Reading a list of stores at an index -/

section Read
variable {s : Shape} {e : EltTy}

/-- The last store covers the index. -/
theorem hit (off size : Fin s.rank → ℕ) (inb) (w : (Rect.unit off size inb).shape.Idx → Elt Ideal e)
    (L : List (View.Piece (Elt Ideal) s e)) (y : s.Idx) (x : (Rect.unit off size inb).shape.Idx)
    (h : ∀ a, (y a : ℕ) = off a + x a) : View.canon (⟨Rect.unit off size inb, w⟩ :: L) y = w x := by
  obtain rfl : y = (Rect.unit off size inb).emb x := funext fun a => Fin.ext ((h a).trans (Rect.idx_unit_val off size inb x a).symm)
  exact View.canon_cons_emb _ w L x

/-- The last store misses the index. -/
theorem miss (off size : Fin s.rank → ℕ) (inb) (w : (Rect.unit off size inb).shape.Idx → Elt Ideal e)
    (L : List (View.Piece (Elt Ideal) s e)) (y : s.Idx) (a : Fin s.rank) (h : (y a : ℕ) < off a ∨ off a + size a ≤ (y a : ℕ)) :
    View.canon (⟨Rect.unit off size inb, w⟩ :: L) y = View.canon L y := by
  refine View.canon_cons_of_not_mem _ L fun hy => ?_
  have := (Rect.mem_set_unit (inb := inb).mp hy) a
  omega

end Read

/-- The last store of the planes covers the index. -/
theorem hit3 (p o n : ℕ) (inb) (w : (Rect.unit (s := S4x544x256) ![p, o, 0] ![1, n, 256] inb).shape.Idx → EReal) (L : List PlanePiece)
    (p' : Fin 4) (r : Fin 544) (c : Fin 256) (k : Fin n) (hp : p'.val = p) (hr : r.val = o + k.val) :
    View.canon ((⟨Rect.unit (s := S4x544x256) ![p, o, 0] ![1, n, 256] inb, w⟩ : PlanePiece) :: L) (ix3 p' r c) = w (ix3 (0 : Fin 1) k c) :=
  hit _ _ inb w L _ (ix3 (0 : Fin 1) k c) fun a => by
    match a with
    | ⟨0, _⟩ => show p'.val = p + 0; omega
    | ⟨1, _⟩ => exact hr
    | ⟨2, _⟩ => show c.val = 0 + c.val; omega

/-- It lies in another plane or at other rows. -/
theorem miss3 (p o n : ℕ) (inb) (w : (Rect.unit (s := S4x544x256) ![p, o, 0] ![1, n, 256] inb).shape.Idx → EReal) (L : List PlanePiece)
    (p' : Fin 4) (r : Fin 544) (c : Fin 256) (h : p'.val < p ∨ r.val < o ∨ o + n ≤ r.val) :
    View.canon ((⟨Rect.unit (s := S4x544x256) ![p, o, 0] ![1, n, 256] inb, w⟩ : PlanePiece) :: L) (ix3 p' r c) = View.canon L (ix3 p' r c) := by
  rcases h with h | h
  · exact miss _ _ inb w L (ix3 p' r c) 0 (Or.inl h)
  · exact miss _ _ inb w L (ix3 p' r c) 1 h

/-- A read of a unit-stride rectangle of the planes. -/
theorem rd_apply (L : List PlanePiece) (off size : Fin 3 → ℕ) (inb) (j : (Rect.unit (s := S4x544x256) off size inb).shape.Idx)
    (y : S4x544x256.Idx) (h : ∀ a, (y a : ℕ) = off a + j a) : rd L (Rect.unit (s := S4x544x256) off size inb) j = View.canon L y :=
  congrArg (View.canon L) (funext fun a => Fin.ext ((Rect.idx_unit_val (s := S4x544x256) off size inb j a).trans (h a).symm))

/-! ## Sums of consecutive terms -/

/-- `w` consecutive terms from `a` on. -/
def run (f : ℕ → EReal) (a w : ℕ) : EReal := ∑ j ∈ Finset.range w, f (a + j)

theorem run_add (f : ℕ → EReal) (a w v : ℕ) : run f a (w + v) = run f a w + run f (a + w) v := by
  unfold run
  rw [Finset.sum_range_add]
  simp only [Nat.add_assoc]

theorem run_one (f : ℕ → EReal) (a : ℕ) : run f a 1 = f a := by
  unfold run; rw [Finset.sum_range_one, Nat.add_zero]

/-- A window sum is such a run. -/
theorem winSum_eq (u : Fin 8192 → EReal) (g : Fin 4) (s : Fin 8192) :
    winSum u g s = run (padCol u) (s.val + 8 - halfWin g) (2 * halfWin g) := by
  unfold winSum run
  exact Fin.sum_univ_eq_sum_range (fun j => padCol u (s.val + 8 - halfWin g + j)) _

/-! ## The planes -/

section Planes
variable (i : grid0.Coords) (x2 : Vec Ideal S1x512x256 .f32) (x3 x4 : Vec Ideal S1x8x256 .f32)

/-- The blocks are the tile `q` of the columns `u`, with the eight rows before and after it where there are such. -/
structure IsTile (q : Fin 16) (u : Fin 8192 → Fin 256 → EReal) : Prop where
  place : (i 1).val = q.val
  tile : ∀ (r : Fin 512) (c : Fin 256), x2 (ix3 0 r c) = u ⟨512 * q.val + r.val, by omega⟩ c
  before : 0 < q.val → ∀ (r : Fin 8) (c : Fin 256), x3 (ix3 0 r c) = u ⟨512 * q.val + r.val - 8, by omega⟩ c
  after : ∀ h : q.val < 15, ∀ (r : Fin 8) (c : Fin 256), x4 (ix3 0 r c) = u ⟨512 * q.val + 512 + r.val, by omega⟩ c

variable {i x2 x3 x4} {q : Fin 16} {u : Fin 8192 → Fin 256 → EReal} (H : IsTile i x2 x3 x4 q u)
include H

theorem sgt_zero : Scalar.cmpi .sgt (tileWord i) 0#32 = if 0 < q.val then 1#1 else 0#1 := by
  unfold tileWord; rw [H.place]
  clear H
  revert q; decide +kernel

theorem slt_last : Scalar.cmpi .slt (tileWord i) 15#32 = if q.val < 15 then 1#1 else 0#1 := by
  unfold tileWord; rw [H.place]
  clear H
  revert q; decide +kernel

/-- The rows before the tile as stored: zero in front of the sequence. -/
theorem before_apply (r : Fin 8) (c : Fin 256) :
    k0_pay12 (F := Ideal) (k0_pay11 i x3) (ix3 0 r c) = padCol (fun t => u t c) (512 * q.val + r.val) := by
  unfold k0_pay12 k0_pay11
  refine (shapeCast_ab_1ab_apply _ _ 0 r c).trans ?_
  show (Scalar.select (Scalar.cmpi .sgt (tileWord i) 0#32) (shapeCast S8x256 x3 shapeCasts_S1x8x256_S8x256) (fun _ => Ideal.ofBits .f32 0#32) : FVec Ideal S8x256 .f32) (ix2 r c) = _
  rw [sgt_zero H]
  unfold padCol
  by_cases h : 0 < q.val
  · rw [if_pos h, dif_pos ⟨by omega, by omega⟩]
    exact (shapeCast_1ab_ab_apply _ _ r c).trans (H.before h r c)
  · rw [if_neg h, dif_neg (by omega)]
    exact Ideal.ofBits_zero_f32

/-- The rows after it: zero behind the sequence. -/
theorem after_apply (r : Fin 8) (c : Fin 256) :
    k0_pay14 (F := Ideal) (tileWord i) x4 (ix3 0 r c) = padCol (fun t => u t c) (512 * q.val + 520 + r.val) := by
  unfold k0_pay14
  refine (shapeCast_ab_1ab_apply _ _ 0 r c).trans ?_
  show (Scalar.select (Scalar.cmpi .slt (tileWord i) 15#32) (shapeCast S8x256 x4 shapeCasts_S1x8x256_S8x256) (fun _ => Ideal.ofBits .f32 0#32) : FVec Ideal S8x256 .f32) (ix2 r c) = _
  rw [slt_last H]
  unfold padCol
  by_cases h : q.val < 15
  · rw [if_pos h, dif_pos ⟨by omega, by omega⟩]
    refine (shapeCast_1ab_ab_apply _ _ r c).trans ((H.after h r c).trans (congrArg (u · c) (Fin.ext ?_)))
    show 512 * q.val + 512 + r.val = 512 * q.val + 520 + r.val - 8
    omega
  · rw [if_neg h, dif_neg (by omega)]
    exact Ideal.ofBits_zero_f32

theorem tile_apply (r : Fin 512) (c : Fin 256) :
    k0_pay13 (F := Ideal) x2 (ix3 0 r c) = padCol (fun t => u t c) (512 * q.val + 8 + r.val) := by
  unfold k0_pay13 padCol
  rw [dif_pos ⟨by omega, by omega⟩]
  refine (shapeCast_ab_1ab_apply _ _ 0 r c).trans ((shapeCast_1ab_ab_apply _ _ r c).trans ((H.tile r c).trans (congrArg (u · c) (Fin.ext ?_))))
  show 512 * q.val + r.val = 512 * q.val + 8 + r.val - 8
  omega

/-- Plane 0 at rows 8 to 535: the padded column. -/
theorem plane0_apply (r : Fin 544) (c : Fin 256) (h8 : 8 ≤ r.val) (h : r.val < 536) :
    View.canon (plane0 i x2 x3 x4) (ix3 0 r c) = padCol (fun t => u t c) (512 * q.val + r.val - 8) := by
  unfold plane0
  by_cases h1 : 528 ≤ r.val
  · refine (hit3 0 _ 8 _ _ _ 0 r c ⟨r.val - 528, by omega⟩ rfl (by show r.val = 528 + (r.val - 528); omega)).trans ((after_apply H _ c).trans ?_)
    · refine congrArg (padCol _) ?_
      show 512 * q.val + 520 + (r.val - 528) = _
      omega
  refine (miss3 0 _ 8 _ _ _ 0 r c (Or.inr (Or.inl (by omega)))).trans ?_
  by_cases h2 : 16 ≤ r.val
  · refine (hit3 0 _ 512 _ _ _ 0 r c ⟨r.val - 16, by omega⟩ rfl (by show r.val = 16 + (r.val - 16); omega)).trans ((tile_apply H _ c).trans ?_)
    · refine congrArg (padCol _) ?_
      show 512 * q.val + 8 + (r.val - 16) = _
      omega
  refine (miss3 0 _ 512 _ _ _ 0 r c (Or.inr (Or.inl (by omega)))).trans ?_
  refine (hit3 0 _ 8 _ _ _ 0 r c ⟨r.val - 8, by omega⟩ rfl (by show r.val = 8 + (r.val - 8); omega)).trans ((before_apply H _ c).trans ?_)
  · refine congrArg (padCol _) ?_
    show 512 * q.val + (r.val - 8) = _
    omega

/-- A read of 528 rows of plane `p` from row `o` on, at a row. -/
theorem rows528 (L : List PlanePiece) (p o : ℕ) (inb) (k : Fin 528) (c : Fin 256) (p' : Fin 4) (r : Fin 544) (hp : p'.val = p)
    (hr : r.val = o + k.val) :
    rd L (Rect.unit (s := S4x544x256) ![p, o, 0] S1x528x256.size inb) (ix3 (0 : Fin 1) k c) = View.canon L (ix3 p' r c) :=
  rd_apply L _ _ inb _ _ fun a => by
    match a with
    | ⟨0, _⟩ => show p'.val = p + 0; omega
    | ⟨1, _⟩ => exact hr
    | ⟨2, _⟩ => show c.val = 0 + c.val; omega

theorem rows512 (L : List PlanePiece) (p o : ℕ) (inb) (k : Fin 512) (c : Fin 256) (p' : Fin 4) (r : Fin 544) (hp : p'.val = p)
    (hr : r.val = o + k.val) :
    rd L (Rect.unit (s := S4x544x256) ![p, o, 0] S1x512x256.size inb) (ix3 (0 : Fin 1) k c) = View.canon L (ix3 p' r c) :=
  rd_apply L _ _ inb _ _ fun a => by
    match a with
    | ⟨0, _⟩ => show p'.val = p + 0; omega
    | ⟨1, _⟩ => exact hr
    | ⟨2, _⟩ => show c.val = 0 + c.val; omega

/-- Plane 1 at rows 9 to 535. -/
theorem plane1_apply (r : Fin 544) (c : Fin 256) (h9 : 9 ≤ r.val) (h : r.val < 536) :
    View.canon (plane1 i x2 x3 x4) (ix3 1 r c) = run (padCol (fun t => u t c)) (512 * q.val + r.val - 9) 2 := by
  unfold plane1
  refine (hit3 1 _ 528 _ _ _ 1 r c ⟨r.val - 8, by omega⟩ rfl (by show r.val = 8 + (r.val - 8); omega)).trans ?_
  unfold k0_pay15
  refine (shapeCast_ab_1ab_apply _ _ 0 _ c).trans ((congrArg₂ (· + ·) (shapeCast_1ab_ab_apply _ _ _ c) (shapeCast_1ab_ab_apply _ _ _ c)).trans ?_)
  refine (congrArg₂ (· + ·)
    ((rows528 H _ 0 7 _ _ c 0 ⟨r.val - 1, by omega⟩ rfl (by show r.val - 1 = 7 + (r.val - 8); omega)).trans (plane0_apply H _ c (by show 8 ≤ r.val - 1; omega) (by show r.val - 1 < 536; omega)))
    ((rows528 H _ 0 8 _ _ c 0 r rfl (by show r.val = 8 + (r.val - 8); omega)).trans (plane0_apply H _ c (by omega) (by omega)))).trans ?_
  rw [show (2 : ℕ) = 1 + 1 from rfl, run_add, run_one, run_one]
  refine congrArg₂ (· + ·) (congrArg (padCol _) ?_) (congrArg (padCol _) ?_)
  · show 512 * q.val + (r.val - 1) - 8 = _; omega
  · omega

/-- Plane 2 at rows 10 to 534. -/
theorem plane2_apply (r : Fin 544) (c : Fin 256) (h10 : 10 ≤ r.val) (h : r.val < 535) :
    View.canon (plane2 i x2 x3 x4) (ix3 2 r c) = run (padCol (fun t => u t c)) (512 * q.val + r.val - 10) 4 := by
  unfold plane2
  refine (hit3 2 _ 528 _ _ _ 2 r c ⟨r.val - 8, by omega⟩ rfl (by show r.val = 8 + (r.val - 8); omega)).trans ?_
  unfold k0_pay18 k0_pay17
  refine (shapeCast_ab_1ab_apply _ _ 0 _ c).trans ((congrArg₂ (· + ·) (shapeCast_1ab_ab_apply _ _ _ c) (shapeCast_1ab_ab_apply _ _ _ c)).trans ?_)
  refine (congrArg₂ (· + ·)
    ((rows528 H _ 1 7 _ _ c 1 ⟨r.val - 1, by omega⟩ rfl (by show r.val - 1 = 7 + (r.val - 8); omega)).trans (plane1_apply H _ c (by show 9 ≤ r.val - 1; omega) (by show r.val - 1 < 536; omega)))
    ((rows528 H _ 1 9 _ _ c 1 ⟨r.val + 1, by omega⟩ rfl (by show r.val + 1 = 9 + (r.val - 8); omega)).trans (plane1_apply H _ c (by show 9 ≤ r.val + 1; omega) (by show r.val + 1 < 536; omega)))).trans ?_
  rw [show (4 : ℕ) = 2 + 2 from rfl, run_add]
  refine congrArg₂ (· + ·) (congrArg (run _ · 2) ?_) (congrArg (run _ · 2) ?_)
  · show 512 * q.val + (r.val - 1) - 9 = _; omega
  · show 512 * q.val + (r.val + 1) - 9 = _; omega

/-- Plane 3 at rows 12 to 532. -/
theorem plane3_apply (r : Fin 544) (c : Fin 256) (h12 : 12 ≤ r.val) (h : r.val < 533) :
    View.canon (plane3 i x2 x3 x4) (ix3 3 r c) = run (padCol (fun t => u t c)) (512 * q.val + r.val - 12) 8 := by
  unfold plane3
  refine (hit3 3 _ 528 _ _ _ 3 r c ⟨r.val - 8, by omega⟩ rfl (by show r.val = 8 + (r.val - 8); omega)).trans ?_
  unfold k0_pay20
  refine (shapeCast_ab_1ab_apply _ _ 0 _ c).trans ((congrArg₂ (· + ·) (shapeCast_1ab_ab_apply _ _ _ c) (shapeCast_1ab_ab_apply _ _ _ c)).trans ?_)
  refine (congrArg₂ (· + ·)
    ((rows528 H _ 2 6 _ _ c 2 ⟨r.val - 2, by omega⟩ rfl (by show r.val - 2 = 6 + (r.val - 8); omega)).trans (plane2_apply H _ c (by show 10 ≤ r.val - 2; omega) (by show r.val - 2 < 535; omega)))
    ((rows528 H _ 2 10 _ _ c 2 ⟨r.val + 2, by omega⟩ rfl (by show r.val + 2 = 10 + (r.val - 8); omega)).trans (plane2_apply H _ c (by show 10 ≤ r.val + 2; omega) (by show r.val + 2 < 535; omega)))).trans ?_
  rw [show (8 : ℕ) = 4 + 4 from rfl, run_add]
  refine congrArg₂ (· + ·) (congrArg (run _ · 4) ?_) (congrArg (run _ · 4) ?_)
  · show 512 * q.val + (r.val - 2) - 10 = _; omega
  · show 512 * q.val + (r.val + 2) - 10 = _; omega

/-! ## The tile's window sums -/

/-- The token of a tile row. -/
def tok (q : Fin 16) (k : Fin 512) : Fin 8192 := ⟨512 * q.val + k.val, by omega⟩

theorem sum2_apply (k : Fin 512) (c : Fin 256) : sum2 i x2 x3 x4 (ix2 k c) = winSum (fun t => u t c) 0 (tok q k) := by
  unfold sum2 k0_pay16
  refine (shapeCast_1ab_ab_apply _ _ k c).trans ((rows512 H _ 1 16 _ k c 1 ⟨16 + k.val, by omega⟩ rfl rfl).trans
    ((plane1_apply H _ c (by show 9 ≤ 16 + k.val; omega) (by show 16 + k.val < 536; omega)).trans ?_))
  rw [winSum_eq]
  refine congrArg (run _ · 2) ?_
  show 512 * q.val + (16 + k.val) - 9 = 512 * q.val + k.val + 8 - 1
  omega

theorem sum4_apply (k : Fin 512) (c : Fin 256) : sum4 i x2 x3 x4 (ix2 k c) = winSum (fun t => u t c) 1 (tok q k) := by
  unfold sum4 k0_pay19
  refine (shapeCast_1ab_ab_apply _ _ k c).trans ((rows512 H _ 2 16 _ k c 2 ⟨16 + k.val, by omega⟩ rfl rfl).trans
    ((plane2_apply H _ c (by show 10 ≤ 16 + k.val; omega) (by show 16 + k.val < 535; omega)).trans ?_))
  rw [winSum_eq]
  refine congrArg (run _ · 4) ?_
  show 512 * q.val + (16 + k.val) - 10 = 512 * q.val + k.val + 8 - 2
  omega

theorem sum8_apply (k : Fin 512) (c : Fin 256) : sum8 i x2 x3 x4 (ix2 k c) = winSum (fun t => u t c) 2 (tok q k) := by
  unfold sum8 k0_pay21
  refine (shapeCast_1ab_ab_apply _ _ k c).trans ((rows512 H _ 3 16 _ k c 3 ⟨16 + k.val, by omega⟩ rfl rfl).trans
    ((plane3_apply H _ c (by show 12 ≤ 16 + k.val; omega) (by show 16 + k.val < 533; omega)).trans ?_))
  rw [winSum_eq]
  refine congrArg (run _ · 8) ?_
  show 512 * q.val + (16 + k.val) - 12 = 512 * q.val + k.val + 8 - 4
  omega

theorem sum16_apply (k : Fin 512) (c : Fin 256) : sum16 i x2 x3 x4 (ix2 k c) = winSum (fun t => u t c) 3 (tok q k) := by
  unfold sum16 k0_pay22
  refine (congrArg₂ (· + ·) (shapeCast_1ab_ab_apply _ _ k c) (shapeCast_1ab_ab_apply _ _ k c)).trans ?_
  refine (congrArg₂ (· + ·)
    ((rows512 H _ 3 12 _ k c 3 ⟨12 + k.val, by omega⟩ rfl rfl).trans (plane3_apply H _ c (by show 12 ≤ 12 + k.val; omega) (by show 12 + k.val < 533; omega)))
    ((rows512 H _ 3 20 _ k c 3 ⟨20 + k.val, by omega⟩ rfl rfl).trans (plane3_apply H _ c (by show 12 ≤ 20 + k.val; omega) (by show 20 + k.val < 533; omega)))).trans ?_
  rw [winSum_eq, show 2 * halfWin 3 = 8 + 8 from rfl, run_add]
  refine congrArg₂ (· + ·) (congrArg (run _ · 8) ?_) (congrArg (run _ · 8) ?_)
  · show 512 * q.val + (12 + k.val) - 12 = 512 * q.val + k.val + 8 - 8; omega
  · show 512 * q.val + (20 + k.val) - 12 = 512 * q.val + k.val + 8 - 8 + 8; omega

/-- The tile itself, read back from plane 0 under the other planes' stores. -/
theorem self_apply (k : Fin 512) (c : Fin 256) :
    rd (plane3 i x2 x3 x4) (Rect.unit (s := S4x544x256) ![0, 16, 0] S1x512x256.size inb_S4x544x256_S1x512x256_0_16_0) (ix3 (0 : Fin 1) k c)
      = u (tok q k) c := by
  refine (rows512 H _ 0 16 _ k c 0 ⟨16 + k.val, by omega⟩ rfl rfl).trans ?_
  unfold plane3 plane2 plane1
  refine (miss3 3 _ 528 _ _ _ 0 _ c (Or.inl (by decide))).trans ((miss3 2 _ 528 _ _ _ 0 _ c (Or.inl (by decide))).trans
    ((miss3 1 _ 528 _ _ _ 0 _ c (Or.inl (by decide))).trans
      ((plane0_apply H _ c (by show 8 ≤ 16 + k.val; omega) (by show 16 + k.val < 536; omega)).trans ?_)))
  unfold padCol
  rw [dif_pos (by show 8 ≤ 512 * q.val + (16 + k.val) - 8 ∧ 512 * q.val + (16 + k.val) - 8 - 8 < 8192; omega)]
  refine congrArg (u · c) (Fin.ext ?_)
  show 512 * q.val + (16 + k.val) - 8 - 8 = 512 * q.val + k.val
  omega

end Planes

end Cert.Post.Planes

end
-- ==== Proof.Post.PayRow.lean ====
/-
  The row payloads at an index: the three mixers' rows side by side, the projection with the residual, the norm, the
  hidden units of a chunk, and the output.
-/
module

public import proofs.«01_k».proof.Proof.Post.Body
public import Idealize.ShloMosaic.Lib.Pipeline.Value
public import Idealize.ShloMosaic.Lib.MatmulPlain
public import Idealize.ShloMosaic.Lib.IdealHost
public import Idealize.ShloMosaic.Lib.ValueLayout
public import Idealize.ShloMosaic.Lib.ValueLayoutCasts

@[expose] public section

set_option maxRecDepth 16384

noncomputable section

namespace Cert.Post.PayRow

open Idealize.ShloMosaic Idealize.ShloMosaic.TcCoe Idealize.ShloMosaic.ValueIdx
open Cert.PostIdeal Cert.PostIdeal.Gen
open Cert.Post.Rows
open scoped BigOperators

/-! ## The joined row -/

/-- The head mean square as the kernel takes it: through a block-diagonal matrix of ones, times a 64th. -/
def headRow (o : Fin 256 → EReal) (bd : Vec Ideal S256x256 .bf16) (c : Fin 256) : EReal :=
  o c * Ideal.rsqrt ((∑ j : Fin 256, o j * o j * bd (ix2 j c)) * Ideal.ofBits .f32 0x3C800000#32 + eps)

section Cat
variable (p : FVec Ideal S512x256 .f32) (sc : Vec Ideal S1x256 .f32) (f b : Vec Ideal S1x512x256 .f32) (bd : Vec Ideal S256x256 .bf16)
  (gain : Vec Ideal S1x256 .f32) (gate : Vec Ideal S1x512x256 .f32) (att : Vec Ideal S1x512x512 .f32)

/-- The pooled row times its scale. -/
def scaled : FVec Ideal S512x256 .bf16 :=
  truncf .bf16 (mulf p (broadcastTo S512x256 (shapeCast S1x256 sc shapeCasts_S1x256_S1x256) broadcasts_S1x256_S512x256)) bitsLt_bf16_f32

theorem scaled_apply (r : Fin 512) (c : Fin 256) : scaled p sc (ix2 r c) = p (ix2 r c) * sc (ix2 0 c) := by
  refine congrArg (p (ix2 r c) * ·) ?_
  rw [broadcastTo_1b_ab_apply, shapeCast_self]

/-- Both directions added. -/
def both : FVec Ideal S512x256 .f32 :=
  addf (shapeCast S512x256 f shapeCasts_S1x512x256_S512x256) (shapeCast S512x256 b shapeCasts_S1x512x256_S512x256)

theorem both_apply (r : Fin 512) (c : Fin 256) : both f b (ix2 r c) = f (ix3 0 r c) + b (ix3 0 r c) :=
  congrArg₂ (· + ·) (shapeCast_1ab_ab_apply _ _ r c) (shapeCast_1ab_ab_apply _ _ r c)

/-- The head's mean square of a row. -/
def headMean : FVec Ideal S512x256 .f32 :=
  addf (mulf (matmul (φ₂ := .bf16) dot_S512x256_S256x256_S512x256_1_0_0_1_n_n none (truncf .bf16 (mulf (both f b) (both f b)) bitsLt_bf16_f32 : FVec Ideal S512x256 .bf16) bd
      (constant S512x256 .f32 0x00000000#32)) (broadcast S512x256 (Scalar.ofBits .f32 0x3C800000#32)))
    (broadcast S512x256 (Scalar.ofBits .f32 0x358637BD#32))

theorem headMean_apply (r : Fin 512) (c : Fin 256) : headMean f b bd (ix2 r c)
    = (∑ j : Fin 256, both f b (ix2 r j) * both f b (ix2 r j) * bd (ix2 j c)) * Ideal.ofBits .f32 0x3C800000#32 + eps := by
  refine congrArg (· * Ideal.ofBits .f32 0x3C800000#32 + eps) ?_
  exact (Ideal.matmul_plain_apply none _ _ _ r c).trans ((congrArg₂ (· + ·) Ideal.ofBits_zero_f32 rfl).trans (zero_add _))

/-- The recurrence's row, normed and gated. -/
def recurred : FVec Ideal S512x256 .bf16 :=
  truncf .bf16 (mulf (mulf (mulf (both f b) (rsqrt (headMean f b bd)))
      (broadcastTo S512x256 (shapeCast S1x256 gain shapeCasts_S1x256_S1x256) broadcasts_S1x256_S512x256))
    (mulf (shapeCast S512x256 gate shapeCasts_S1x512x256_S512x256) (logistic (shapeCast S512x256 gate shapeCasts_S1x512x256_S512x256)))) bitsLt_bf16_f32

theorem recurred_apply (r : Fin 512) (c : Fin 256) : recurred f b bd gain gate (ix2 r c)
    = headRow (fun j => f (ix3 0 r j) + b (ix3 0 r j)) bd c * gain (ix2 0 c) * swish (gate (ix3 0 r c)) := by
  have hg : (shapeCast S512x256 gate shapeCasts_S1x512x256_S512x256 : FVec Ideal S512x256 .f32) (ix2 r c) = gate (ix3 0 r c) :=
    shapeCast_1ab_ab_apply _ _ r c
  refine congrArg₂ (· * ·) (congrArg₂ (· * ·) (congrArg₂ (· * ·) (both_apply f b r c) (congrArg Ideal.rsqrt ?_)) ?_) ?_
  · refine (headMean_apply f b bd r c).trans ?_
    simp only [both_apply]
  · rw [broadcastTo_1b_ab_apply, shapeCast_self]
  · exact congrArg swish hg

/-- Side by side. -/
theorem joined (r : Fin 512) (k : Fin 1024) : k0_pay26 (F := Ideal) p sc f b bd gain gate att (ix2 r k)
    = catRow (fun k => att (ix3 0 r k)) (fun c => p (ix2 r c) * sc (ix2 0 c))
        (fun c => headRow (fun j => f (ix3 0 r j) + b (ix3 0 r j)) bd c * gain (ix2 0 c) * swish (gate (ix3 0 r c))) k := by
  show concatenate S512x1024 1 [⟨S512x512, (truncf .bf16 (shapeCast S512x512 att shapeCasts_S1x512x512_S512x512 : FVec Ideal S512x512 .f32) bitsLt_bf16_f32 : FVec Ideal S512x512 .bf16)⟩,
    ⟨S512x256, scaled p sc⟩, ⟨S512x256, recurred f b bd gain gate⟩] concatenates_S512x512_S512x256_S512x256_S512x1024_d1 (ix2 r k) = _
  unfold catRow
  by_cases h : k.val < 512
  · rw [dif_pos h]
    refine (concatenate_apply_piece (t := S512x1024) 1 _ _ (ix2 r k) 0 (by show 0 < 3; decide) S512x512 _ rfl rfl 0 rfl (ix2 r (⟨k.val, h⟩ : Fin 512)) (fun a ha => ?_) ?_).trans ?_
    · match a, ha with
      | ⟨0, _⟩, _ => rfl
      | ⟨1, _⟩, ha => exact absurd rfl ha
    · show 0 + k.val = k.val; omega
    · exact shapeCast_1ab_ab_apply _ _ r _
  rw [dif_neg h]
  by_cases h2 : k.val < 768
  · rw [dif_pos h2]
    refine (concatenate_apply_piece (t := S512x1024) 1 _ _ (ix2 r k) 1 (by show 1 < 3; decide) S512x256 _ rfl rfl 512 rfl (ix2 r (⟨k.val - 512, by omega⟩ : Fin 256)) (fun a ha => ?_) ?_).trans ?_
    · match a, ha with
      | ⟨0, _⟩, _ => rfl
      | ⟨1, _⟩, ha => exact absurd rfl ha
    · show 512 + (k.val - 512) = k.val; omega
    · exact scaled_apply p sc r _
  rw [dif_neg h2]
  refine (concatenate_apply_piece (t := S512x1024) 1 _ _ (ix2 r k) 2 (by show 2 < 3; decide) S512x256 _ rfl rfl 768 rfl (ix2 r (⟨k.val - 768, by omega⟩ : Fin 256)) (fun a ha => ?_) ?_).trans ?_
  · match a, ha with
    | ⟨0, _⟩, _ => rfl
    | ⟨1, _⟩, ha => exact absurd rfl ha
  · show 768 + (k.val - 768) = k.val; omega
  · exact recurred_apply f b bd gain gate r _

end Cat

/-! ## Projection and norm -/

theorem projected (cat : FVec Ideal S512x1024 .bf16) (x : Vec Ideal S1x512x1024 .f32) (w : Vec Ideal S1024x1024 .bf16) (r : Fin 512) (d : Fin 1024) :
    k0_pay28 (F := Ideal) cat (k0_pay27 x) w (ix2 r d) = mixed (fun d => x (ix3 0 r d)) (fun k => cat (ix2 r k)) (fun k d => w (ix2 k d)) d := by
  refine congrArg₂ (· + ·) (shapeCast_1ab_ab_apply _ _ r d) ?_
  refine (Ideal.matmul_plain_apply none _ _ _ r d).trans ((congrArg₂ (· + ·) Ideal.ofBits_zero_f32 rfl).trans ((zero_add _).trans
    (Finset.sum_congr rfl fun k _ => congrArg (cat (ix2 r k) * ·) ?_)))
  exact congrFun (shapeCast_self (s := S1024x1024) w _) (ix2 k d)

/-- The sum of a row's squares. -/
theorem rowSum (x : FVec Ideal S512x1024 .f32) (r : Fin 512) :
    multiReduction .add [1] S512 x 0x00000000#32 reduces_S512x1024_S512 (.inl rfl) rfl (ix1 r) = ∑ k : Fin 1024, x (ix2 r k) := by
  refine (Ideal.multiReduction_add_single x _ reduces_S512x1024_S512 (.inl rfl) rfl (ix1 r)).trans (Finset.sum_congr rfl fun k _ => congrArg x ?_)
  funext a
  match a with
  | ⟨0, _⟩ => rfl
  | ⟨1, _⟩ => rfl

theorem normed_apply (cat : FVec Ideal S512x1024 .bf16) (x : FVec Ideal S512x1024 .f32) (w : Vec Ideal S1024x1024 .bf16) (g : Vec Ideal S1x1024 .f32)
    (r : Fin 512) (d : Fin 1024) :
    k0_pay29 (F := Ideal) cat x w g (ix2 r d) = normed (fun d => k0_pay28 (F := Ideal) cat x w (ix2 r d)) (fun d => g (ix2 0 d)) d := by
  unfold k0_pay29
  generalize k0_pay28 (F := Ideal) cat x w = h
  refine congrArg₂ (· * ·) (congrArg (h (ix2 r d) * ·) ?_) ?_
  · refine (broadcastTo_apply _ _ (ix2 r d) (ix2 r (0 : Fin 1)) fun a => ?_).trans ?_
    · match a with
      | ⟨0, _⟩ => rfl
      | ⟨1, _⟩ => rfl
    refine congrArg (fun z => Ideal.rsqrt (Ideal.div z modelDim + eps)) ?_
    exact (shapeCast_a_a1_apply _ _ r 0).trans (rowSum _ r)
  · rw [broadcastTo_1b_ab_apply, shapeCast_self]

/-! ## The hidden units and the output -/

/-- A chunk's payload. -/
theorem chunk (n : FVec Ideal S512x1024 .bf16) (wg wu : Vec Ideal S1024x256 .bf16) (r : Fin 512) (c : Fin 256) :
    k0_pay2 (F := Ideal) n wg wu (ix2 r c)
      = swish (∑ k : Fin 1024, n (ix2 r k) * wg (ix2 k c)) * ∑ k : Fin 1024, n (ix2 r k) * wu (ix2 k c) := by
  have e : ∀ w : Vec Ideal S1024x256 .bf16, (matmul dot_S512x1024_S1024x256_S512x256_1_0_0_1_n_n none n
      (shapeCast S1024x256 w shapeCasts_S1024x256_S1024x256 : FVec Ideal S1024x256 .bf16) (constant S512x256 .f32 0x00000000#32) : FVec Ideal S512x256 .f32) (ix2 r c)
      = ∑ k : Fin 1024, n (ix2 r k) * w (ix2 k c) := fun w =>
    (Ideal.matmul_plain_apply none _ _ _ r c).trans ((congrArg₂ (· + ·) Ideal.ofBits_zero_f32 rfl).trans ((zero_add _).trans
      (Finset.sum_congr rfl fun k _ => congrArg (n (ix2 r k) * ·) (congrFun (shapeCast_self (s := S1024x256) w _) (ix2 k c)))))
  unfold k0_pay2
  refine (congrFun (shapeCast_self (s := S512x256) _ _) (ix2 r c)).trans ?_
  exact congrArg₂ (· * ·) (congrArg swish (e wg)) (e wu)

/-- The output's payload. -/
theorem output (h : FVec Ideal S512x1024 .f32) (a : Vec Ideal S512x2816 .bf16) (w : Vec Ideal S2816x1024 .bf16) (r : Fin 512) (d : Fin 1024) :
    k0_pay3 (F := Ideal) h a w (ix3 0 r d) = h (ix2 r d) + half * ∑ f : Fin 2816, a (ix2 r f) * w (ix2 f d) := by
  unfold k0_pay3
  refine (shapeCast_ab_1ab_apply _ _ 0 r d).trans (congrArg (h (ix2 r d) + half * ·) ?_)
  exact (Ideal.matmul_plain_apply none _ _ _ r d).trans ((congrArg₂ (· + ·) Ideal.ofBits_zero_f32 rfl).trans ((zero_add _).trans
    (Finset.sum_congr rfl fun f _ => congrArg (a (ix2 r f) * ·) (congrFun (shapeCast_self (s := S2816x1024) w _) (ix2 f d)))))

end Cert.Post.PayRow

end
-- ==== Proof.Post.Units.lean ====
/-
  The scratch array of hidden units read at a row: eleven chunks of 256 columns, each written once.
-/
module

public import proofs.«01_k».proof.Proof.Post.Planes
public import proofs.«01_k».proof.Proof.Post.PayRow

@[expose] public section

set_option maxRecDepth 16384

noncomputable section

namespace Cert.Post.Units

open Idealize.ShloMosaic Idealize.ShloMosaic.TcCoe Idealize.ShloMosaic.ValueIdx
open Cert.PostIdeal Cert.PostIdeal.Gen
open Cert.Post.Rows
open scoped BigOperators

open Cert.Post.Body

section Units
variable (n : FVec Ideal S512x1024 .bf16) (wg wu : Vec Ideal S1024x2816 .bf16)

/-- The store of the chunk at column `o`. -/
def piece (o : ℕ) (hk : ∀ a, (![0, o] : Fin 2 → ℕ) a + S512x256.size a ≤ S512x2816.size a)
    (h : ∀ a, (![0, o] : Fin 2 → ℕ) a + S1024x256.size a ≤ S1024x2816.size a) : UnitPiece :=
  ⟨Rect.unit (s := S512x2816) ![0, o] S512x256.size hk, k0_pay2 (F := Ideal) n (cols wg o h) (cols wu o h)⟩

/-- A column of a chunk of a weight. -/
theorem cols_apply (w : Vec Ideal S1024x2816 .bf16) (o : ℕ) (h) (k : Fin 1024) (c : Fin 256) (f : Fin 2816) (hf : f.val = o + c.val) :
    cols w o h (ix2 k c) = w (ix2 k f) :=
  View.ld_unit_apply_of w _ _ h _ (ix2 k f) fun a => by
    match a with
    | ⟨0, _⟩ => show k.val = 0 + k.val; omega
    | ⟨1, _⟩ => exact hf

theorem piece_hit (o : ℕ) (hk) (h) (L : List UnitPiece) (r : Fin 512) (f : Fin 2816) (h1 : o ≤ f.val) (h2 : f.val < o + 256) :
    View.canon (piece n wg wu o hk h :: L) (ix2 r f)
      = hidden (fun d => n (ix2 r d)) (fun k f => wg (ix2 k f)) (fun k f => wu (ix2 k f)) f := by
  have hf : f.val = o + (f.val - o) := by omega
  refine (Planes.hit _ _ hk _ L _ (ix2 r (⟨f.val - o, by omega⟩ : Fin 256)) fun a => ?_).trans ((PayRow.chunk n _ _ r _).trans ?_)
  · match a with
    | ⟨0, _⟩ => show r.val = 0 + r.val; omega
    | ⟨1, _⟩ => exact hf
  unfold Rows.hidden
  simp only [cols_apply _ o h _ (⟨f.val - o, by omega⟩ : Fin 256) f hf]

theorem piece_miss (o : ℕ) (hk) (h) (L : List UnitPiece) (r : Fin 512) (f : Fin 2816) (h1 : f.val < o) :
    View.canon (piece n wg wu o hk h :: L) (ix2 r f) = View.canon L (ix2 r f) :=
  Planes.miss _ _ hk _ L (ix2 r f) 1 (Or.inl h1)

/-- The eleven stores. -/
def chunks : List UnitPiece :=
  [piece n wg wu 2560 inb_S512x2816_S512x256_0_2560 inb_S1024x2816_S1024x256_0_2560,
   piece n wg wu 2304 inb_S512x2816_S512x256_0_2304 inb_S1024x2816_S1024x256_0_2304,
   piece n wg wu 2048 inb_S512x2816_S512x256_0_2048 inb_S1024x2816_S1024x256_0_2048,
   piece n wg wu 1792 inb_S512x2816_S512x256_0_1792 inb_S1024x2816_S1024x256_0_1792,
   piece n wg wu 1536 inb_S512x2816_S512x256_0_1536 inb_S1024x2816_S1024x256_0_1536,
   piece n wg wu 1280 inb_S512x2816_S512x256_0_1280 inb_S1024x2816_S1024x256_0_1280,
   piece n wg wu 1024 inb_S512x2816_S512x256_0_1024 inb_S1024x2816_S1024x256_0_1024,
   piece n wg wu 768 inb_S512x2816_S512x256_0_768 inb_S1024x2816_S1024x256_0_768,
   piece n wg wu 512 inb_S512x2816_S512x256_0_512 inb_S1024x2816_S1024x256_0_512,
   piece n wg wu 256 inb_S512x2816_S512x256_0_256 inb_S1024x2816_S1024x256_0_256,
   piece n wg wu 0 inb_S512x2816_S512x256_0_0 inb_S1024x2816_S1024x256_0_0]

theorem chunks_apply (r : Fin 512) (f : Fin 2816) : View.canon (chunks n wg wu) (ix2 r f)
    = hidden (fun d => n (ix2 r d)) (fun k f => wg (ix2 k f)) (fun k f => wu (ix2 k f)) f := by
  unfold chunks
  by_cases h10 : 2560 ≤ f.val
  · exact piece_hit n wg wu _ _ _ _ r f h10 (by omega)
  refine (piece_miss n wg wu _ _ _ _ r f (by omega)).trans ?_
  by_cases h9 : 2304 ≤ f.val
  · exact piece_hit n wg wu _ _ _ _ r f h9 (by omega)
  refine (piece_miss n wg wu _ _ _ _ r f (by omega)).trans ?_
  by_cases h8 : 2048 ≤ f.val
  · exact piece_hit n wg wu _ _ _ _ r f h8 (by omega)
  refine (piece_miss n wg wu _ _ _ _ r f (by omega)).trans ?_
  by_cases h7 : 1792 ≤ f.val
  · exact piece_hit n wg wu _ _ _ _ r f h7 (by omega)
  refine (piece_miss n wg wu _ _ _ _ r f (by omega)).trans ?_
  by_cases h6 : 1536 ≤ f.val
  · exact piece_hit n wg wu _ _ _ _ r f h6 (by omega)
  refine (piece_miss n wg wu _ _ _ _ r f (by omega)).trans ?_
  by_cases h5 : 1280 ≤ f.val
  · exact piece_hit n wg wu _ _ _ _ r f h5 (by omega)
  refine (piece_miss n wg wu _ _ _ _ r f (by omega)).trans ?_
  by_cases h4 : 1024 ≤ f.val
  · exact piece_hit n wg wu _ _ _ _ r f h4 (by omega)
  refine (piece_miss n wg wu _ _ _ _ r f (by omega)).trans ?_
  by_cases h3 : 768 ≤ f.val
  · exact piece_hit n wg wu _ _ _ _ r f h3 (by omega)
  refine (piece_miss n wg wu _ _ _ _ r f (by omega)).trans ?_
  by_cases h2 : 512 ≤ f.val
  · exact piece_hit n wg wu _ _ _ _ r f h2 (by omega)
  refine (piece_miss n wg wu _ _ _ _ r f (by omega)).trans ?_
  by_cases h1 : 256 ≤ f.val
  · exact piece_hit n wg wu _ _ _ _ r f h1 (by omega)
  refine (piece_miss n wg wu _ _ _ _ r f (by omega)).trans ?_
  exact piece_hit n wg wu _ _ _ _ r f (by omega) (by omega)

end Units

/-- The point's own list of stores. -/
theorem units_eq (x0 : Vec Ideal S1x512x1024 .f32) (x13 : Vec Ideal S1024x1024 .bf16) (x14 : Vec Ideal S1x1024 .f32)
    (x15 x16 : Vec Ideal S1024x2816 .bf16) (ct : FVec Ideal S512x1024 .bf16) :
    units x0 x13 x14 x15 x16 ct (k0_pay29 (F := Ideal) ct (k0_pay27 x0) x13 x14) = chunks (k0_pay29 (F := Ideal) ct (k0_pay27 x0) x13 x14) x15 x16 := rfl

end Cert.Post.Units

end
-- ==== Proof.Post.PayPool.lean ====
/-
  The pooling mixer's payload at an index: each lane takes its group's window sum, times the inverse count, minus the
  token itself, and the row goes through the block-diagonal matrix.
-/
module

public import proofs.«01_k».proof.Proof.Post.Body
public import Idealize.ShloMosaic.Lib.Pipeline.Value
public import Idealize.ShloMosaic.Lib.MatmulPlain
public import Idealize.ShloMosaic.Lib.IdealHost
public import Idealize.ShloMosaic.Lib.ValueLayout
public import Idealize.ShloMosaic.Lib.ValueLayoutCasts

@[expose] public section

set_option maxRecDepth 16384

noncomputable section

namespace Cert.Post.PayPool

open Idealize.ShloMosaic Idealize.ShloMosaic.TcCoe Idealize.ShloMosaic.ValueIdx
open Cert.PostIdeal Cert.PostIdeal.Gen
open Cert.Post.Rows
open scoped BigOperators

/-! ## Which group a lane is in, as the kernel computes it -/

/-- The lane's number divided by 64, rounded down. -/
def groupWord : IVec S1x256 32 :=
  have v81 : IVec S1x256 32 := broadcast S1x256 0#32
  have v82 : IVec S1x256 1 := cmpi .slt (iota .tc S1x256 32 [1] iota_S1x256_d1_w32) v81
  have v83 : IVec S1x256 32 := extui 32 v82 natLt_1_32
  have v84 : IVec S1x256 32 := subi k0_pay24 v83
  let v85 : BitVec 1 := Scalar.cmpi .sgt 64#32 0#32
  let v86 : BitVec 32 := Scalar.extui v85
  let v87 : BitVec 1 := Scalar.cmpi .slt 64#32 0#32
  let v88 : BitVec 32 := Scalar.extui v87
  let v89 : BitVec 32 := Scalar.subi v86 v88
  have v90 : IVec S1x256 32 := broadcast S1x256 v89
  have v91 : IVec S1x256 1 := cmpi .ne v84 v90
  have v92 : IVec S1x256 32 := broadcast S1x256 64#32
  have v93 : IVec S1x256 32 := remsi (iota .tc S1x256 32 [1] iota_S1x256_d1_w32) v92
  have v94 : IVec S1x256 32 := broadcast S1x256 0#32
  have v95 : IVec S1x256 1 := cmpi .ne v93 v94
  have v96 : IVec S1x256 1 := andi v91 v95
  have v97 : IVec S1x256 32 := broadcast S1x256 1#32
  have v98 : IVec S1x256 32 := subi k0_pay23 v97
  have v99 : IVec S1x256 32 := select v96 v98 k0_pay23
  v99

theorem groupWord_apply (c : Fin 256) : groupWord (ix2 (0 : Fin 1) c) = BitVec.ofNat 32 (grp c).val := by
  revert c
  decide +kernel

/-- Whether a lane is in group `n`. -/
def isGroup (n : BitVec 32) : IVec S512x256 1 :=
  broadcastTo S512x256 (shapeCast S1x256 (cmpi .eq groupWord (broadcast S1x256 n)) shapeCasts_S1x256_S1x256) broadcasts_S1x256_S512x256

theorem isGroup_apply (n : Fin 4) (r : Fin 512) (c : Fin 256) :
    isGroup (BitVec.ofNat 32 n.val) (ix2 r c) = if grp c = n then 1#1 else 0#1 := by
  unfold isGroup
  rw [broadcastTo_1b_ab_apply, shapeCast_self]
  show Scalar.cmpi .eq (groupWord (ix2 (0 : Fin 1) c)) (BitVec.ofNat 32 n.val) = _
  rw [groupWord_apply]
  generalize grp c = g
  revert g n
  decide +kernel

/-- The four sums picked by group. -/
theorem pick (s0 s1 s2 s3 : FVec Ideal S512x256 .f32) (r : Fin 512) (c : Fin 256) :
    select (isGroup 3#32) s3 (select (isGroup 2#32) s2 (select (isGroup 1#32) s1 s0)) (ix2 r c)
      = (![s0 (ix2 r c), s1 (ix2 r c), s2 (ix2 r c), s3 (ix2 r c)] : Fin 4 → EReal) (grp c) := by
  show Scalar.select (isGroup 3#32 (ix2 r c)) (s3 (ix2 r c)) (Scalar.select (isGroup 2#32 (ix2 r c)) (s2 (ix2 r c))
    (Scalar.select (isGroup 1#32 (ix2 r c)) (s1 (ix2 r c)) (s0 (ix2 r c)))) = _
  rw [show isGroup 3#32 (ix2 r c) = _ from isGroup_apply 3 r c, show isGroup 2#32 (ix2 r c) = _ from isGroup_apply 2 r c,
    show isGroup 1#32 (ix2 r c) = _ from isGroup_apply 1 r c]
  generalize grp c = g
  match g with
  | 0 => rfl
  | 1 => rfl
  | 2 => rfl
  | 3 => rfl

/-- The payload. -/
theorem pooled (s0 s1 s2 s3 : FVec Ideal S512x256 .f32) (x5 : Vec Ideal S512x256 .f32) (u : Vec Ideal S1x512x256 .f32)
    (x9 : Vec Ideal S256x256 .bf16) (r : Fin 512) (c : Fin 256) :
    k0_pay25 (F := Ideal) s0 s1 s2 s3 (iota .tc S1x256 32 [1] iota_S1x256_d1_w32) 64#32 k0_pay23 k0_pay24 x5 u x9 (ix2 r c)
      = ∑ j : Fin 256, ((![s0 (ix2 r j), s1 (ix2 r j), s2 (ix2 r j), s3 (ix2 r j)] : Fin 4 → EReal) (grp j) * x5 (ix2 r j) - u (ix3 0 r j))
          * x9 (ix2 j c) := by
  refine (Ideal.matmul_plain_apply none _ _ _ r c).trans ?_
  refine (congrArg₂ (· + ·) Ideal.ofBits_zero_f32 rfl).trans ((zero_add _).trans (Finset.sum_congr rfl fun j _ => ?_))
  refine congrArg₂ (· * ·) (congrArg₂ (· - ·) (congrArg₂ (· * ·) (pick s0 s1 s2 s3 r j) ?_) (shapeCast_1ab_ab_apply _ _ r j)) ?_
  · exact congrFun (shapeCast_self (s := S512x256) x5 _) (ix2 r j)
  · exact congrFun (shapeCast_self (s := S256x256) x9 _) (ix2 j c)

/-- A sum over 256 lanes of products with a column that vanishes outside a group is the group's sum. -/
theorem blockSum (f w : Fin 256 → EReal) (v : Fin 64 → EReal) (g : Fin 4) (hin : ∀ j, w (at_ g j) = v j) (hout : ∀ i, grp i ≠ g → w i = 0) :
    ∑ i, f i * w i = ∑ j, f (at_ g j) * v j := by
  rw [← (finProdFinEquiv (m := 4) (n := 64)).sum_comp (fun i : Fin (4 * 64) => f i * w i), Fintype.sum_prod_type,
    Finset.sum_eq_single g]
  · refine Finset.sum_congr rfl fun j _ => ?_
    rw [← hin j, show (finProdFinEquiv (g, j) : Fin 256) = at_ g j from Fin.ext (by show j.val + 64 * g.val = 64 * g.val + j.val; omega)]
  · intro h _ hne
    refine Finset.sum_eq_zero fun j _ => ?_
    have e : (finProdFinEquiv (h, j) : Fin 256) = at_ h j := Fin.ext (by show j.val + 64 * h.val = 64 * h.val + j.val; omega)
    rw [e, hout _ (by rw [grp_at]; exact hne), mul_zero]
  · intro h; exact absurd (Finset.mem_univ g) h

end Cert.Post.PayPool

end
-- ==== Proof.Post.Window.lean ====
/-
  A window sum along the rows, read at an index: the host's one-operand window reduction over windows of `w` rows,
  padded `l` rows low and `h` rows high, is the sum of the `w` rows around the index, zero outside the array.
-/
module

public import proofs.«01_k».proof.Proof.Post.Rows
public import Idealize.ShloMosaic.Lib.ValueIdx

@[expose] public section

noncomputable section

namespace Cert.Post.Window

open Idealize.ShloMosaic Idealize.ShloMosaic.ValueIdx
open Cert.Post.Rows
open scoped BigOperators

/-- A left fold that adds is the start plus the list's sum. -/
theorem foldl_add {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The positions of a window of `w` rows and one column, by the row. -/
def rowsEquiv (w : ℕ) : Fin w ≃ (⟨3, ![1, w, 1]⟩ : Shape).Idx where
  toFun j := ix3 (0 : Fin 1) j (0 : Fin 1)
  invFun i := i 1
  left_inv j := rfl
  right_inv i := by
    funext a
    match a with
    | ⟨0, _⟩ => exact Subsingleton.elim (α := Fin 1) _ _
    | ⟨1, _⟩ => rfl
    | ⟨2, _⟩ => exact Subsingleton.elim (α := Fin 1) _ _

/-- The window sum at `(b, s, c)`: the rows `s + j − l`, zero where they are outside the array. -/
theorem apply (w l h : ℕ) (x : FVec Ideal ⟨3, ![8, 8192, 64]⟩ .f32) (z : FVec Ideal ⟨0, ![]⟩ .f32)
    (hz : z (Shape.Idx.first (by decide)) = 0)
    (hw : (⟨3, ![8, 8192, 64]⟩ : Shape).ReduceWindows ![1, w, 1] ![1, 1, 1] ![0, l, 0] ![0, h, 0] ⟨3, ![8, 8192, 64]⟩)
    (hu : 0 < (⟨0, ![]⟩ : Shape).numel) (hl : l ≤ 8) (b : Fin 8) (s : Fin 8192) (c : Fin 64) :
    Host.reduceWindowAdd (F := Ideal) ![1, w, 1] ![1, 1, 1] ![0, l, 0] ![0, h, 0] x z hw hu (ix3 b s c)
      = ∑ j : Fin w, padCol (fun t => x (ix3 b t c)) (s.val + 8 - l + j.val) := by
  show Host.reduceWindow (fun r a : EReal => r + a) ![1, w, 1] ![1, 1, 1] ![0, l, 0] ![0, h, 0] x
    (fun _ : (⟨0, ![]⟩ : Shape).Idx => z (Shape.Idx.first hu)) hw (by decide) (ix3 b s c) = _
  unfold Host.reduceWindow
  simp only []
  rw [foldl_add, hz, zero_add, ← Fin.sum_univ_def,
    ← Equiv.sum_comp ((rowsEquiv w).trans (⟨3, ![1, w, 1]⟩ : Shape).rowMajor)]
  refine Finset.sum_congr rfl fun j _ => ?_
  simp only [Equiv.trans_apply, Equiv.symm_apply_apply]
  unfold padCol
  by_cases hin : 8 ≤ s.val + 8 - l + j.val ∧ s.val + 8 - l + j.val - 8 < 8192
  · rw [dif_pos hin, dif_pos (fun a => ?_)]
    · refine congrArg x (funext fun a => Fin.ext ?_)
      match a with
      | ⟨0, _⟩ => show b.val * 1 + 0 - 0 = b.val; omega
      | ⟨1, _⟩ => show s.val * 1 + j.val - l = s.val + 8 - l + j.val - 8; omega
      | ⟨2, _⟩ => show c.val * 1 + 0 - 0 = c.val; omega
    · match a with
      | ⟨0, _⟩ => show 0 ≤ b.val * 1 + 0 ∧ b.val * 1 + 0 - 0 < 8; omega
      | ⟨1, _⟩ => show l ≤ s.val * 1 + j.val ∧ s.val * 1 + j.val - l < 8192; omega
      | ⟨2, _⟩ => show 0 ≤ c.val * 1 + 0 ∧ c.val * 1 + 0 - 0 < 64; omega
  · rw [dif_neg hin, dif_neg fun hall => hin ?_]
    have h1 : l ≤ s.val * 1 + j.val ∧ s.val * 1 + j.val - l < 8192 := hall 1
    omega

end Cert.Post.Window

end
-- ==== Proof.Post.RefPool.lean ====
/-
  The reference's pooling mixer read at an index: for each of the four groups the window sum, the number of tokens in
  the window (word arithmetic on the position), the mean minus the token, and the product with the group's matrix; then
  the four groups side by side, scaled.
-/
module

public import proofs.«01_k».proof.Proof.Post.Window
public import proofs.«01_k».proof.Proof.Post.Words
public import proofs.«01_k».proof.Proof.Gen.PostRefIdeal.Read

@[expose] public section

set_option maxRecDepth 16384

noncomputable section

namespace Cert.Post.RefPool

open Idealize.ShloMosaic Idealize.ShloMosaic.ValueIdx
open Cert.PostRefIdeal Cert.PostRefIdeal.Read
open Cert.Post.Rows Cert.Post.Words
open scoped BigOperators

/-- The pooling mixer's input of batch `b`: the first 256 columns of the projection's remainder. -/
def uCol (x2 : FVec Ideal ⟨3, ![8, 8192, 1536]⟩ .f32) (b : Fin 8) (t : Fin 8192) (c : Fin 256) : EReal :=
  x2 (ix3 b t (⟨c.val, by omega⟩ : Fin 1536))

/-! ## Group 0: windows of 2 -/

theorem slice_0 (x2 : FVec Ideal ⟨3, ![8, 8192, 1536]⟩ .f32) (b : Fin 8) (s : Fin 8192) (j : Fin 64) :
    val_main_v3 (F := Ideal) x2 (ix3 b s j) = uCol x2 b s (at_ 0 j) := by
  rw [val_main_v3_apply, val_main_v0_apply]
  refine congrArg x2 (funext fun a => Fin.ext ?_)
  match a with
  | ⟨0, _⟩ => rfl
  | ⟨1, _⟩ => rfl
  | ⟨2, _⟩ => show j.val = 64 * 0 + j.val; omega

theorem count_val_0 (s : Fin 8192) : val_main_v15 (F := Ideal) (ix1 s) = (((cnt 0 s : ℕ) : ℝ) : EReal) := by
  rw [val_main_v15_apply]
  have e : val_main_v14 (F := Ideal) (ix1 s) = countWord 2#32 1#32 s.val := by
    simp only [val_main_v14_apply, val_main_v11_apply, val_main_v6_apply, val_main_v5_apply, val_main_v4_apply, val_main_v10_apply, val_main_v9_apply, val_main_v8_apply, val_main_v7_apply, val_main_v2_apply, val_main_call0_v0_apply, val_main_call0_v1_apply, val_main_call0_v2_apply, val_main_call0_v3_apply, val_main_call0_v4_apply, val_main_call1_v0_apply, val_main_call1_v1_apply, val_main_call1_v2_apply, val_main_call1_v3_apply, val_main_call1_v4_apply, val_main_c_apply, val_main_c_0_apply, val_main_c_1_apply, val_main_c_2_apply, val_main_c_3_apply, val_main_c_4_apply, val_main_c_5_apply]; rfl
  rw [e]
  show ((((countWord 2#32 1#32 s.val).toInt : ℤ) : ℝ) : EReal) = _
  rw [show (countWord 2#32 1#32 s.val).toInt = ((cnt 0 s : ℕ) : ℤ) from count 0 s, Int.cast_natCast]

theorem window_0 (x2 : FVec Ideal ⟨3, ![8, 8192, 1536]⟩ .f32) (b : Fin 8) (s : Fin 8192) (j : Fin 64) :
    val_main_v13 (F := Ideal) x2 (ix3 b s j) = winSum (fun t => uCol x2 b t (at_ 0 j)) 0 s := by
  refine (Window.apply 2 1 0 (val_main_v3 (F := Ideal) x2) (val_main_v12 (F := Ideal)) ?_ _ _ (by decide) b s j).trans ?_
  · rw [val_main_v12_apply, val_main_cst_apply]; exact Ideal.ofBits_zero_f32
  · simp only [slice_0]; rfl

theorem centred_0 (x2 : FVec Ideal ⟨3, ![8, 8192, 1536]⟩ .f32) (b : Fin 8) (s : Fin 8192) (j : Fin 64) :
    val_main_v19 (F := Ideal) x2 (ix3 b s j) = centred (uCol x2 b) s (at_ 0 j) := by
  rw [val_main_v19_apply, val_main_v18_apply, val_main_v17_apply, val_main_v16_apply, slice_0, window_0,
    show idx_main_v16 (idx_main_v17 (ix3 b s j)) = ix1 s from eq_ix1 _, count_val_0]
  unfold centred
  rw [grp_at]; rfl

theorem matrix_0 (x5 : FVec Ideal ⟨3, ![4, 64, 64]⟩ .f32) (k d : Fin 64) :
    val_main_v21 (F := Ideal) x5 (ix2 k d) = x5 (ix3 (0 : Fin 4) k d) := by
  rw [val_main_v21_apply, val_main_v20_apply]
  refine congrArg x5 (funext fun a => Fin.ext ?_)
  match a with
  | ⟨0, _⟩ => rfl
  | ⟨1, _⟩ => show (k.val * 64 + d.val) / 64 % 64 = k.val; omega
  | ⟨2, _⟩ => show (k.val * 64 + d.val) % 64 = d.val; omega

theorem product_0 (x2 : FVec Ideal ⟨3, ![8, 8192, 1536]⟩ .f32) (x5 : FVec Ideal ⟨3, ![4, 64, 64]⟩ .f32) (b : Fin 8)
    (s : Fin 8192) (d : Fin 64) :
    val_main_v22 (F := Ideal) x2 x5 (ix3 b s d)
      = ∑ k : Fin 64, centred (uCol x2 b) s (at_ 0 k) * x5 (ix3 (0 : Fin 4) k d) := by
  rw [val_main_v22_apply]
  refine Finset.sum_congr rfl fun k _ => ?_
  rw [show lidx_main_v22 (ix3 b s d) k = ix3 b s k from eq_ix3 _, show ridx_main_v22 (ix3 b s d) k = ix2 k d from eq_ix2 _,
    centred_0, matrix_0]

/-! ## Group 1: windows of 4 -/

theorem slice_1 (x2 : FVec Ideal ⟨3, ![8, 8192, 1536]⟩ .f32) (b : Fin 8) (s : Fin 8192) (j : Fin 64) :
    val_main_v23 (F := Ideal) x2 (ix3 b s j) = uCol x2 b s (at_ 1 j) := by
  rw [val_main_v23_apply, val_main_v0_apply]
  refine congrArg x2 (funext fun a => Fin.ext ?_)
  match a with
  | ⟨0, _⟩ => rfl
  | ⟨1, _⟩ => rfl
  | ⟨2, _⟩ => first | rfl | (show 64 + j.val = 64 * 1 + j.val; omega) | (show j.val + 64 = 64 * 1 + j.val; omega)

theorem count_val_1 (s : Fin 8192) : val_main_v35 (F := Ideal) (ix1 s) = (((cnt 1 s : ℕ) : ℝ) : EReal) := by
  rw [val_main_v35_apply]
  have e : val_main_v34 (F := Ideal) (ix1 s) = countWord 4#32 2#32 s.val := by
    simp only [val_main_v34_apply, val_main_v31_apply, val_main_v26_apply, val_main_v25_apply, val_main_v24_apply, val_main_v30_apply, val_main_v29_apply, val_main_v28_apply, val_main_v27_apply, val_main_v2_apply, val_main_call2_v0_apply, val_main_call2_v1_apply, val_main_call2_v2_apply, val_main_call2_v3_apply, val_main_call2_v4_apply, val_main_call3_v0_apply, val_main_call3_v1_apply, val_main_call3_v2_apply, val_main_call3_v3_apply, val_main_call3_v4_apply, val_main_c_6_apply, val_main_c_7_apply, val_main_c_8_apply, val_main_c_9_apply, val_main_c_10_apply, val_main_c_11_apply, val_main_c_12_apply]; rfl
  rw [e]
  show ((((countWord 4#32 2#32 s.val).toInt : ℤ) : ℝ) : EReal) = _
  rw [show (countWord 4#32 2#32 s.val).toInt = ((cnt 1 s : ℕ) : ℤ) from count 1 s, Int.cast_natCast]

theorem window_1 (x2 : FVec Ideal ⟨3, ![8, 8192, 1536]⟩ .f32) (b : Fin 8) (s : Fin 8192) (j : Fin 64) :
    val_main_v33 (F := Ideal) x2 (ix3 b s j) = winSum (fun t => uCol x2 b t (at_ 1 j)) 1 s := by
  refine (Window.apply 4 2 1 (val_main_v23 (F := Ideal) x2) (val_main_v32 (F := Ideal)) ?_ _ _ (by decide) b s j).trans ?_
  · rw [val_main_v32_apply, val_main_cst_13_apply]; exact Ideal.ofBits_zero_f32
  · simp only [slice_1]; rfl

theorem centred_1 (x2 : FVec Ideal ⟨3, ![8, 8192, 1536]⟩ .f32) (b : Fin 8) (s : Fin 8192) (j : Fin 64) :
    val_main_v39 (F := Ideal) x2 (ix3 b s j) = centred (uCol x2 b) s (at_ 1 j) := by
  rw [val_main_v39_apply, val_main_v38_apply, val_main_v37_apply, val_main_v36_apply, slice_1, window_1,
    show idx_main_v36 (idx_main_v37 (ix3 b s j)) = ix1 s from eq_ix1 _, count_val_1]
  unfold centred
  rw [grp_at]; rfl

theorem matrix_1 (x5 : FVec Ideal ⟨3, ![4, 64, 64]⟩ .f32) (k d : Fin 64) :
    val_main_v41 (F := Ideal) x5 (ix2 k d) = x5 (ix3 (1 : Fin 4) k d) := by
  rw [val_main_v41_apply, val_main_v40_apply]
  refine congrArg x5 (funext fun a => Fin.ext ?_)
  match a with
  | ⟨0, _⟩ => rfl
  | ⟨1, _⟩ => show (k.val * 64 + d.val) / 64 % 64 = k.val; omega
  | ⟨2, _⟩ => show (k.val * 64 + d.val) % 64 = d.val; omega

theorem product_1 (x2 : FVec Ideal ⟨3, ![8, 8192, 1536]⟩ .f32) (x5 : FVec Ideal ⟨3, ![4, 64, 64]⟩ .f32) (b : Fin 8)
    (s : Fin 8192) (d : Fin 64) :
    val_main_v42 (F := Ideal) x2 x5 (ix3 b s d)
      = ∑ k : Fin 64, centred (uCol x2 b) s (at_ 1 k) * x5 (ix3 (1 : Fin 4) k d) := by
  rw [val_main_v42_apply]
  refine Finset.sum_congr rfl fun k _ => ?_
  rw [show lidx_main_v42 (ix3 b s d) k = ix3 b s k from eq_ix3 _, show ridx_main_v42 (ix3 b s d) k = ix2 k d from eq_ix2 _,
    centred_1, matrix_1]

/-! ## Group 2: windows of 8 -/

theorem slice_2 (x2 : FVec Ideal ⟨3, ![8, 8192, 1536]⟩ .f32) (b : Fin 8) (s : Fin 8192) (j : Fin 64) :
    val_main_v43 (F := Ideal) x2 (ix3 b s j) = uCol x2 b s (at_ 2 j) := by
  rw [val_main_v43_apply, val_main_v0_apply]
  refine congrArg x2 (funext fun a => Fin.ext ?_)
  match a with
  | ⟨0, _⟩ => rfl
  | ⟨1, _⟩ => rfl
  | ⟨2, _⟩ => first | rfl | (show 128 + j.val = 64 * 2 + j.val; omega) | (show j.val + 128 = 64 * 2 + j.val; omega)

theorem count_val_2 (s : Fin 8192) : val_main_v55 (F := Ideal) (ix1 s) = (((cnt 2 s : ℕ) : ℝ) : EReal) := by
  rw [val_main_v55_apply]
  have e : val_main_v54 (F := Ideal) (ix1 s) = countWord 8#32 4#32 s.val := by
    simp only [val_main_v54_apply, val_main_v51_apply, val_main_v46_apply, val_main_v45_apply, val_main_v44_apply, val_main_v50_apply, val_main_v49_apply, val_main_v48_apply, val_main_v47_apply, val_main_v2_apply, val_main_call4_v0_apply, val_main_call4_v1_apply, val_main_call4_v2_apply, val_main_call4_v3_apply, val_main_call4_v4_apply, val_main_call5_v0_apply, val_main_call5_v1_apply, val_main_call5_v2_apply, val_main_call5_v3_apply, val_main_call5_v4_apply, val_main_c_14_apply, val_main_c_15_apply, val_main_c_16_apply, val_main_c_17_apply, val_main_c_18_apply, val_main_c_19_apply, val_main_c_20_apply]; rfl
  rw [e]
  show ((((countWord 8#32 4#32 s.val).toInt : ℤ) : ℝ) : EReal) = _
  rw [show (countWord 8#32 4#32 s.val).toInt = ((cnt 2 s : ℕ) : ℤ) from count 2 s, Int.cast_natCast]

theorem window_2 (x2 : FVec Ideal ⟨3, ![8, 8192, 1536]⟩ .f32) (b : Fin 8) (s : Fin 8192) (j : Fin 64) :
    val_main_v53 (F := Ideal) x2 (ix3 b s j) = winSum (fun t => uCol x2 b t (at_ 2 j)) 2 s := by
  refine (Window.apply 8 4 3 (val_main_v43 (F := Ideal) x2) (val_main_v52 (F := Ideal)) ?_ _ _ (by decide) b s j).trans ?_
  · rw [val_main_v52_apply, val_main_cst_21_apply]; exact Ideal.ofBits_zero_f32
  · simp only [slice_2]; rfl

theorem centred_2 (x2 : FVec Ideal ⟨3, ![8, 8192, 1536]⟩ .f32) (b : Fin 8) (s : Fin 8192) (j : Fin 64) :
    val_main_v59 (F := Ideal) x2 (ix3 b s j) = centred (uCol x2 b) s (at_ 2 j) := by
  rw [val_main_v59_apply, val_main_v58_apply, val_main_v57_apply, val_main_v56_apply, slice_2, window_2,
    show idx_main_v56 (idx_main_v57 (ix3 b s j)) = ix1 s from eq_ix1 _, count_val_2]
  unfold centred
  rw [grp_at]; rfl

theorem matrix_2 (x5 : FVec Ideal ⟨3, ![4, 64, 64]⟩ .f32) (k d : Fin 64) :
    val_main_v61 (F := Ideal) x5 (ix2 k d) = x5 (ix3 (2 : Fin 4) k d) := by
  rw [val_main_v61_apply, val_main_v60_apply]
  refine congrArg x5 (funext fun a => Fin.ext ?_)
  match a with
  | ⟨0, _⟩ => rfl
  | ⟨1, _⟩ => show (k.val * 64 + d.val) / 64 % 64 = k.val; omega
  | ⟨2, _⟩ => show (k.val * 64 + d.val) % 64 = d.val; omega

theorem product_2 (x2 : FVec Ideal ⟨3, ![8, 8192, 1536]⟩ .f32) (x5 : FVec Ideal ⟨3, ![4, 64, 64]⟩ .f32) (b : Fin 8)
    (s : Fin 8192) (d : Fin 64) :
    val_main_v62 (F := Ideal) x2 x5 (ix3 b s d)
      = ∑ k : Fin 64, centred (uCol x2 b) s (at_ 2 k) * x5 (ix3 (2 : Fin 4) k d) := by
  rw [val_main_v62_apply]
  refine Finset.sum_congr rfl fun k _ => ?_
  rw [show lidx_main_v62 (ix3 b s d) k = ix3 b s k from eq_ix3 _, show ridx_main_v62 (ix3 b s d) k = ix2 k d from eq_ix2 _,
    centred_2, matrix_2]

/-! ## Group 3: windows of 16 -/

theorem slice_3 (x2 : FVec Ideal ⟨3, ![8, 8192, 1536]⟩ .f32) (b : Fin 8) (s : Fin 8192) (j : Fin 64) :
    val_main_v63 (F := Ideal) x2 (ix3 b s j) = uCol x2 b s (at_ 3 j) := by
  rw [val_main_v63_apply, val_main_v0_apply]
  refine congrArg x2 (funext fun a => Fin.ext ?_)
  match a with
  | ⟨0, _⟩ => rfl
  | ⟨1, _⟩ => rfl
  | ⟨2, _⟩ => first | rfl | (show 192 + j.val = 64 * 3 + j.val; omega) | (show j.val + 192 = 64 * 3 + j.val; omega)

theorem count_val_3 (s : Fin 8192) : val_main_v75 (F := Ideal) (ix1 s) = (((cnt 3 s : ℕ) : ℝ) : EReal) := by
  rw [val_main_v75_apply]
  have e : val_main_v74 (F := Ideal) (ix1 s) = countWord 16#32 8#32 s.val := by
    simp only [val_main_v74_apply, val_main_v71_apply, val_main_v66_apply, val_main_v65_apply, val_main_v64_apply, val_main_v70_apply, val_main_v69_apply, val_main_v68_apply, val_main_v67_apply, val_main_v2_apply, val_main_call6_v0_apply, val_main_call6_v1_apply, val_main_call6_v2_apply, val_main_call6_v3_apply, val_main_call6_v4_apply, val_main_call7_v0_apply, val_main_call7_v1_apply, val_main_call7_v2_apply, val_main_call7_v3_apply, val_main_call7_v4_apply, val_main_c_22_apply, val_main_c_23_apply, val_main_c_24_apply, val_main_c_25_apply, val_main_c_26_apply, val_main_c_27_apply, val_main_c_28_apply]; rfl
  rw [e]
  show ((((countWord 16#32 8#32 s.val).toInt : ℤ) : ℝ) : EReal) = _
  rw [show (countWord 16#32 8#32 s.val).toInt = ((cnt 3 s : ℕ) : ℤ) from count 3 s, Int.cast_natCast]

theorem window_3 (x2 : FVec Ideal ⟨3, ![8, 8192, 1536]⟩ .f32) (b : Fin 8) (s : Fin 8192) (j : Fin 64) :
    val_main_v73 (F := Ideal) x2 (ix3 b s j) = winSum (fun t => uCol x2 b t (at_ 3 j)) 3 s := by
  refine (Window.apply 16 8 7 (val_main_v63 (F := Ideal) x2) (val_main_v72 (F := Ideal)) ?_ _ _ (by decide) b s j).trans ?_
  · rw [val_main_v72_apply, val_main_cst_29_apply]; exact Ideal.ofBits_zero_f32
  · simp only [slice_3]; rfl

theorem centred_3 (x2 : FVec Ideal ⟨3, ![8, 8192, 1536]⟩ .f32) (b : Fin 8) (s : Fin 8192) (j : Fin 64) :
    val_main_v79 (F := Ideal) x2 (ix3 b s j) = centred (uCol x2 b) s (at_ 3 j) := by
  rw [val_main_v79_apply, val_main_v78_apply, val_main_v77_apply, val_main_v76_apply, slice_3, window_3,
    show idx_main_v76 (idx_main_v77 (ix3 b s j)) = ix1 s from eq_ix1 _, count_val_3]
  unfold centred
  rw [grp_at]; rfl

theorem matrix_3 (x5 : FVec Ideal ⟨3, ![4, 64, 64]⟩ .f32) (k d : Fin 64) :
    val_main_v81 (F := Ideal) x5 (ix2 k d) = x5 (ix3 (3 : Fin 4) k d) := by
  rw [val_main_v81_apply, val_main_v80_apply]
  refine congrArg x5 (funext fun a => Fin.ext ?_)
  match a with
  | ⟨0, _⟩ => rfl
  | ⟨1, _⟩ => show (k.val * 64 + d.val) / 64 % 64 = k.val; omega
  | ⟨2, _⟩ => show (k.val * 64 + d.val) % 64 = d.val; omega

theorem product_3 (x2 : FVec Ideal ⟨3, ![8, 8192, 1536]⟩ .f32) (x5 : FVec Ideal ⟨3, ![4, 64, 64]⟩ .f32) (b : Fin 8)
    (s : Fin 8192) (d : Fin 64) :
    val_main_v82 (F := Ideal) x2 x5 (ix3 b s d)
      = ∑ k : Fin 64, centred (uCol x2 b) s (at_ 3 k) * x5 (ix3 (3 : Fin 4) k d) := by
  rw [val_main_v82_apply]
  refine Finset.sum_congr rfl fun k _ => ?_
  rw [show lidx_main_v82 (ix3 b s d) k = ix3 b s k from eq_ix3 _, show ridx_main_v82 (ix3 b s d) k = ix2 k d from eq_ix2 _,
    centred_3, matrix_3]

/-! ## The four groups side by side -/

theorem side_0 (p0 p1 p2 p3 : S8x8192x64.Idx → EReal)
    (h : Shape.Concatenates ([⟨S8x8192x64, p0⟩, ⟨S8x8192x64, p1⟩, ⟨S8x8192x64, p2⟩, ⟨S8x8192x64, p3⟩].map
      (fun p : (s : Shape) × (s.Idx → EReal) => p.1)) S8x8192x256 2) (b : Fin 8) (s : Fin 8192) (d : Fin 64) :
    concatenate S8x8192x256 2 [⟨S8x8192x64, p0⟩, ⟨S8x8192x64, p1⟩, ⟨S8x8192x64, p2⟩, ⟨S8x8192x64, p3⟩] h
      (ix3 b s (at_ 0 d)) = p0 (ix3 b s d) := by
  refine concatenate_apply_piece (t := S8x8192x256) (2 : Fin 3) [⟨S8x8192x64, p0⟩, ⟨S8x8192x64, p1⟩, ⟨S8x8192x64, p2⟩, ⟨S8x8192x64, p3⟩] h
    (ix3 b s (at_ 0 d)) 0 (by show 0 < 4; decide) S8x8192x64 p0 rfl rfl 0 rfl (ix3 b s d) (fun a ha => ?_) ?_
  · match a with
    | ⟨0, _⟩ => rfl
    | ⟨1, _⟩ => rfl
    | ⟨2, _⟩ => exact absurd rfl ha
  · show 0 + d.val = 64 * 0 + d.val; omega

theorem side_1 (p0 p1 p2 p3 : S8x8192x64.Idx → EReal)
    (h : Shape.Concatenates ([⟨S8x8192x64, p0⟩, ⟨S8x8192x64, p1⟩, ⟨S8x8192x64, p2⟩, ⟨S8x8192x64, p3⟩].map
      (fun p : (s : Shape) × (s.Idx → EReal) => p.1)) S8x8192x256 2) (b : Fin 8) (s : Fin 8192) (d : Fin 64) :
    concatenate S8x8192x256 2 [⟨S8x8192x64, p0⟩, ⟨S8x8192x64, p1⟩, ⟨S8x8192x64, p2⟩, ⟨S8x8192x64, p3⟩] h
      (ix3 b s (at_ 1 d)) = p1 (ix3 b s d) := by
  refine concatenate_apply_piece (t := S8x8192x256) (2 : Fin 3) [⟨S8x8192x64, p0⟩, ⟨S8x8192x64, p1⟩, ⟨S8x8192x64, p2⟩, ⟨S8x8192x64, p3⟩] h
    (ix3 b s (at_ 1 d)) 1 (by show 1 < 4; decide) S8x8192x64 p1 rfl rfl 64 rfl (ix3 b s d) (fun a ha => ?_) ?_
  · match a with
    | ⟨0, _⟩ => rfl
    | ⟨1, _⟩ => rfl
    | ⟨2, _⟩ => exact absurd rfl ha
  · show 64 + d.val = 64 * 1 + d.val; omega

theorem side_2 (p0 p1 p2 p3 : S8x8192x64.Idx → EReal)
    (h : Shape.Concatenates ([⟨S8x8192x64, p0⟩, ⟨S8x8192x64, p1⟩, ⟨S8x8192x64, p2⟩, ⟨S8x8192x64, p3⟩].map
      (fun p : (s : Shape) × (s.Idx → EReal) => p.1)) S8x8192x256 2) (b : Fin 8) (s : Fin 8192) (d : Fin 64) :
    concatenate S8x8192x256 2 [⟨S8x8192x64, p0⟩, ⟨S8x8192x64, p1⟩, ⟨S8x8192x64, p2⟩, ⟨S8x8192x64, p3⟩] h
      (ix3 b s (at_ 2 d)) = p2 (ix3 b s d) := by
  refine concatenate_apply_piece (t := S8x8192x256) (2 : Fin 3) [⟨S8x8192x64, p0⟩, ⟨S8x8192x64, p1⟩, ⟨S8x8192x64, p2⟩, ⟨S8x8192x64, p3⟩] h
    (ix3 b s (at_ 2 d)) 2 (by show 2 < 4; decide) S8x8192x64 p2 rfl rfl 128 rfl (ix3 b s d) (fun a ha => ?_) ?_
  · match a with
    | ⟨0, _⟩ => rfl
    | ⟨1, _⟩ => rfl
    | ⟨2, _⟩ => exact absurd rfl ha
  · show 128 + d.val = 64 * 2 + d.val; omega

theorem side_3 (p0 p1 p2 p3 : S8x8192x64.Idx → EReal)
    (h : Shape.Concatenates ([⟨S8x8192x64, p0⟩, ⟨S8x8192x64, p1⟩, ⟨S8x8192x64, p2⟩, ⟨S8x8192x64, p3⟩].map
      (fun p : (s : Shape) × (s.Idx → EReal) => p.1)) S8x8192x256 2) (b : Fin 8) (s : Fin 8192) (d : Fin 64) :
    concatenate S8x8192x256 2 [⟨S8x8192x64, p0⟩, ⟨S8x8192x64, p1⟩, ⟨S8x8192x64, p2⟩, ⟨S8x8192x64, p3⟩] h
      (ix3 b s (at_ 3 d)) = p3 (ix3 b s d) := by
  refine concatenate_apply_piece (t := S8x8192x256) (2 : Fin 3) [⟨S8x8192x64, p0⟩, ⟨S8x8192x64, p1⟩, ⟨S8x8192x64, p2⟩, ⟨S8x8192x64, p3⟩] h
    (ix3 b s (at_ 3 d)) 3 (by show 3 < 4; decide) S8x8192x64 p3 rfl rfl 192 rfl (ix3 b s d) (fun a ha => ?_) ?_
  · match a with
    | ⟨0, _⟩ => rfl
    | ⟨1, _⟩ => rfl
    | ⟨2, _⟩ => exact absurd rfl ha
  · show 192 + d.val = 64 * 3 + d.val; omega

theorem joined (x2 : FVec Ideal ⟨3, ![8, 8192, 1536]⟩ .f32) (x5 : FVec Ideal ⟨3, ![4, 64, 64]⟩ .f32) (b : Fin 8)
    (s : Fin 8192) (g : Fin 4) (d : Fin 64) :
    val_main_v83 (F := Ideal) x2 x5 (ix3 b s (at_ g d))
      = ∑ k : Fin 64, centred (uCol x2 b) s (at_ g k) * x5 (ix3 g k d) := by
  unfold val_main_v83
  match g with
  | ⟨0, _⟩ => exact (side_0 _ _ _ _ _ b s d).trans (product_0 x2 x5 b s d)
  | ⟨1, _⟩ => exact (side_1 _ _ _ _ _ b s d).trans (product_1 x2 x5 b s d)
  | ⟨2, _⟩ => exact (side_2 _ _ _ _ _ b s d).trans (product_2 x2 x5 b s d)
  | ⟨3, _⟩ => exact (side_3 _ _ _ _ _ b s d).trans (product_3 x2 x5 b s d)

/-- The reference's pooling mixer at `(b, s, c)`. -/
theorem pool (x2 : FVec Ideal ⟨3, ![8, 8192, 1536]⟩ .f32) (x5 : FVec Ideal ⟨3, ![4, 64, 64]⟩ .f32)
    (x6 : FVec Ideal ⟨1, ![256]⟩ .f32) (b : Fin 8) (s : Fin 8192) (c : Fin 256) :
    val_main_v86 (F := Ideal) x2 x5 x6 (ix3 b s c)
      = poolRow (centred (uCol x2 b) s) (fun g k d => x5 (ix3 g k d)) (fun c => x6 (ix1 c)) c := by
  rw [val_main_v86_apply, val_main_v85_apply, val_main_v84_apply,
    show idx_main_v84 (idx_main_v85 (ix3 b s c)) = ix1 c from eq_ix1 _]
  have e := joined x2 x5 b s (grp c) (lane c)
  rw [at_grp_lane] at e
  rw [e]; rfl

end Cert.Post.RefPool

end
-- ==== Proof.Post.RefRow.lean ====
/-
  The reference read at an index, from its pooling mixer on: the normed and gated recurrence output, the joined row, the
  projection with the residual, and the feed-forward block.
-/
module

public import proofs.«01_k».proof.Proof.Post.RefPool

@[expose] public section

set_option maxRecDepth 16384

noncomputable section

namespace Cert.Post.RefRow

open Idealize.ShloMosaic Idealize.ShloMosaic.ValueIdx
open Cert.PostRefIdeal Cert.PostRefIdeal.Read
open Cert.Post.Rows Cert.Post.RefPool
open scoped BigOperators

variable (x0 : FVec Ideal ⟨3, ![8, 8192, 1024]⟩ .f32)
  (x1 : FVec Ideal ⟨3, ![8, 8192, 512]⟩ .f32)
  (x2 : FVec Ideal ⟨3, ![8, 8192, 1536]⟩ .f32)
  (x3 : FVec Ideal ⟨3, ![8, 8192, 256]⟩ .f32)
  (x4 : FVec Ideal ⟨3, ![8, 8192, 256]⟩ .f32)
  (x5 : FVec Ideal ⟨3, ![4, 64, 64]⟩ .f32)
  (x6 : FVec Ideal ⟨1, ![256]⟩ .f32)
  (x7 : FVec Ideal ⟨1, ![64]⟩ .f32)
  (x8 : FVec Ideal ⟨2, ![1024, 1024]⟩ .f32)
  (x9 : FVec Ideal ⟨1, ![1024]⟩ .f32)
  (x10 : FVec Ideal ⟨2, ![1024, 2816]⟩ .f32)
  (x11 : FVec Ideal ⟨2, ![1024, 2816]⟩ .f32)
  (x12 : FVec Ideal ⟨2, ![2816, 1024]⟩ .f32)

/-! ## The formulas' arguments, from the arrays -/

/-- The recurrence's output of a token: both directions added. -/
def oRow (b : Fin 8) (s : Fin 8192) (c : Fin 256) : EReal := x3 (ix3 b s c) + x4 (ix3 b s c)
/-- The gate of a token: the last 256 columns of the projection's remainder. -/
def gRow (b : Fin 8) (s : Fin 8192) (c : Fin 256) : EReal := x2 (ix3 b s (⟨1280 + c.val, by omega⟩ : Fin 1536))
/-- The pooling mixer's row. -/
def pRow (b : Fin 8) (s : Fin 8192) : Fin 256 → EReal :=
  poolRow (centred (uCol x2 b) s) (fun g k d => x5 (ix3 g k d)) (fun c => x6 (ix1 c))
/-- The recurrence's row. -/
def rRow (b : Fin 8) (s : Fin 8192) : Fin 256 → EReal := recRow (oRow x3 x4 b s) (gRow x2 b s) (fun j => x7 (ix1 j))
/-- The three mixers' rows side by side. -/
def cRow (b : Fin 8) (s : Fin 8192) : Fin 1024 → EReal :=
  catRow (fun k => x1 (ix3 b s k)) (pRow x2 x5 x6 b s) (rRow x2 x3 x4 x7 b s)
/-- The residual plus the projected row. -/
def hRow (b : Fin 8) (s : Fin 8192) : Fin 1024 → EReal :=
  mixed (fun d => x0 (ix3 b s d)) (cRow x1 x2 x3 x4 x5 x6 x7 b s) (fun k d => x8 (ix2 k d))
/-- What the second half of the layer gives a token. -/
def outRow (b : Fin 8) (s : Fin 8192) : Fin 1024 → EReal :=
  ffn (hRow x0 x1 x2 x3 x4 x5 x6 x7 x8 b s) (fun d => x9 (ix1 d)) (fun k f => x10 (ix2 k f)) (fun k f => x11 (ix2 k f))
    (fun f d => x12 (ix2 f d))

/-! ## The recurrence's row -/

theorem split (b : Fin 8) (s : Fin 8192) (g : Fin 4) (j : Fin 64) : idx_main_v88 (ix4 b s g j) = ix3 b s (at_ g j) := by
  refine funext fun a => Fin.ext ?_
  match a with
  | ⟨0, _⟩ => show (((b.val * 8192 + s.val) * 4 + g.val) * 64 + j.val) / 2097152 = b.val; omega
  | ⟨1, _⟩ => show (((b.val * 8192 + s.val) * 4 + g.val) * 64 + j.val) / 256 % 8192 = s.val; omega
  | ⟨2, _⟩ => show (((b.val * 8192 + s.val) * 4 + g.val) * 64 + j.val) % 256 = 64 * g.val + j.val; omega

theorem merge (b : Fin 8) (s : Fin 8192) (g : Fin 4) (j : Fin 64) : idx_main_v105 (ix3 b s (at_ g j)) = ix4 b s g j := by
  refine funext fun a => Fin.ext ?_
  match a with
  | ⟨0, _⟩ => show ((b.val * 8192 + s.val) * 256 + (64 * g.val + j.val)) / 2097152 = b.val; omega
  | ⟨1, _⟩ => show ((b.val * 8192 + s.val) * 256 + (64 * g.val + j.val)) / 256 % 8192 = s.val; omega
  | ⟨2, _⟩ => show ((b.val * 8192 + s.val) * 256 + (64 * g.val + j.val)) / 64 % 4 = g.val; omega
  | ⟨3, _⟩ => show ((b.val * 8192 + s.val) * 256 + (64 * g.val + j.val)) % 64 = j.val; omega

theorem summed (b : Fin 8) (s : Fin 8192) (g : Fin 4) (j : Fin 64) :
    val_main_v88 (F := Ideal) x3 x4 (ix4 b s g j) = oRow x3 x4 b s (at_ g j) := by
  rw [val_main_v88_apply, split, val_main_v87_apply]; rfl

theorem square (b : Fin 8) (s : Fin 8192) (g : Fin 4) :
    val_main_v90 (F := Ideal) x3 x4 (ix3 b s g) = ∑ j : Fin 64, oRow x3 x4 b s (at_ g j) * oRow x3 x4 b s (at_ g j) := by
  rw [val_main_v90_apply, val_main_cst_30_apply]
  refine (congrArg (· + _) Ideal.ofBits_zero_f32).trans ((zero_add _).trans (Finset.sum_congr rfl fun j _ => ?_))
  rw [show idx_main_v90 (ix3 b s g) j = ix4 b s g j from eq_ix4 _, val_main_v89_apply, summed]; rfl

theorem gate (b : Fin 8) (s : Fin 8192) (g : Fin 4) (j : Fin 64) :
    val_main_v102 (F := Ideal) x2 (ix4 b s g j) = gRow x2 b s (at_ g j) := by
  rw [val_main_v102_apply, show idx_main_v102 (ix4 b s g j) = ix3 b s (at_ g j) from split b s g j, val_main_v1_apply]
  exact congrArg x2 (eq_ix3 _)

theorem gated (b : Fin 8) (s : Fin 8192) (g : Fin 4) (j : Fin 64) :
    val_main_v103 (F := Ideal) x2 (ix4 b s g j) = swish (gRow x2 b s (at_ g j)) := by
  rw [val_main_v103_apply, val_main_call8_v5_apply, val_main_call8_v4_apply, val_main_call8_cst_0_apply, val_main_call8_v3_apply,
    val_main_call8_v2_apply, val_main_call8_cst_apply, val_main_call8_v1_apply, val_main_call8_v0_apply, gate]
  show _ * Ideal.div (Ideal.ofBits .f32 _) (Ideal.ofBits .f32 _ + _) = _
  rw [Ideal.ofBits_one_f32]; rfl

theorem recurrence (b : Fin 8) (s : Fin 8192) (c : Fin 256) :
    val_main_v105 (F := Ideal) x2 x3 x4 x7 (ix3 b s c) = rRow x2 x3 x4 x7 b s c := by
  obtain ⟨g, j, rfl⟩ : ∃ g j, c = at_ g j := ⟨grp c, lane c, (at_grp_lane c).symm⟩
  rw [val_main_v105_apply, merge, val_main_v104_apply, val_main_v101_apply, val_main_v98_apply, gated, val_main_v100_apply,
    val_main_v99_apply, val_main_v97_apply, val_main_v96_apply, val_main_v95_apply, val_main_v94_apply, val_main_cst_32_apply,
    val_main_v93_apply, val_main_v92_apply, val_main_cst_31_apply, val_main_v91_apply, summed,
    show idx_main_v91 (idx_main_v97 (ix4 b s g j)) = ix3 b s g from eq_ix3 _, square,
    show idx_main_v99 (idx_main_v100 (ix4 b s g j)) = ix1 j from eq_ix1 _]
  unfold rRow recRow
  rw [grp_at, lane_at]; rfl

/-! ## The joined row -/

theorem attention (p0 : S8x8192x512.Idx → EReal) (p1 p2 : S8x8192x256.Idx → EReal)
    (h : Shape.Concatenates ([⟨S8x8192x512, p0⟩, ⟨S8x8192x256, p1⟩, ⟨S8x8192x256, p2⟩].map (fun p : (s : Shape) × (s.Idx → EReal) => p.1)) S8x8192x1024 2)
    (b : Fin 8) (s : Fin 8192) (k : Fin 1024) (q : Fin 512) (hk : 0 + q.val = k.val) :
    concatenate S8x8192x1024 2 [⟨S8x8192x512, p0⟩, ⟨S8x8192x256, p1⟩, ⟨S8x8192x256, p2⟩] h (ix3 b s k) = p0 (ix3 b s q) := by
  refine concatenate_apply_piece (t := S8x8192x1024) (2 : Fin 3) [⟨S8x8192x512, p0⟩, ⟨S8x8192x256, p1⟩, ⟨S8x8192x256, p2⟩] h
    (ix3 b s k) 0 (by show 0 < 3; decide) S8x8192x512 p0 rfl rfl 0 rfl (ix3 b s q) (fun a ha => ?_) hk
  match a with
  | ⟨0, _⟩ => rfl
  | ⟨1, _⟩ => rfl
  | ⟨2, _⟩ => exact absurd rfl ha

theorem pooled (p0 : S8x8192x512.Idx → EReal) (p1 p2 : S8x8192x256.Idx → EReal)
    (h : Shape.Concatenates ([⟨S8x8192x512, p0⟩, ⟨S8x8192x256, p1⟩, ⟨S8x8192x256, p2⟩].map (fun p : (s : Shape) × (s.Idx → EReal) => p.1)) S8x8192x1024 2)
    (b : Fin 8) (s : Fin 8192) (k : Fin 1024) (q : Fin 256) (hk : 512 + q.val = k.val) :
    concatenate S8x8192x1024 2 [⟨S8x8192x512, p0⟩, ⟨S8x8192x256, p1⟩, ⟨S8x8192x256, p2⟩] h (ix3 b s k) = p1 (ix3 b s q) := by
  refine concatenate_apply_piece (t := S8x8192x1024) (2 : Fin 3) [⟨S8x8192x512, p0⟩, ⟨S8x8192x256, p1⟩, ⟨S8x8192x256, p2⟩] h
    (ix3 b s k) 1 (by show 1 < 3; decide) S8x8192x256 p1 rfl rfl 512 rfl (ix3 b s q) (fun a ha => ?_) hk
  match a with
  | ⟨0, _⟩ => rfl
  | ⟨1, _⟩ => rfl
  | ⟨2, _⟩ => exact absurd rfl ha

theorem recurred (p0 : S8x8192x512.Idx → EReal) (p1 p2 : S8x8192x256.Idx → EReal)
    (h : Shape.Concatenates ([⟨S8x8192x512, p0⟩, ⟨S8x8192x256, p1⟩, ⟨S8x8192x256, p2⟩].map (fun p : (s : Shape) × (s.Idx → EReal) => p.1)) S8x8192x1024 2)
    (b : Fin 8) (s : Fin 8192) (k : Fin 1024) (q : Fin 256) (hk : 768 + q.val = k.val) :
    concatenate S8x8192x1024 2 [⟨S8x8192x512, p0⟩, ⟨S8x8192x256, p1⟩, ⟨S8x8192x256, p2⟩] h (ix3 b s k) = p2 (ix3 b s q) := by
  refine concatenate_apply_piece (t := S8x8192x1024) (2 : Fin 3) [⟨S8x8192x512, p0⟩, ⟨S8x8192x256, p1⟩, ⟨S8x8192x256, p2⟩] h
    (ix3 b s k) 2 (by show 2 < 3; decide) S8x8192x256 p2 rfl rfl 768 rfl (ix3 b s q) (fun a ha => ?_) hk
  match a with
  | ⟨0, _⟩ => rfl
  | ⟨1, _⟩ => rfl
  | ⟨2, _⟩ => exact absurd rfl ha

theorem joined (b : Fin 8) (s : Fin 8192) (k : Fin 1024) :
    val_main_v106 (F := Ideal) x1 x2 x3 x4 x5 x6 x7 (ix3 b s k) = cRow x1 x2 x3 x4 x5 x6 x7 b s k := by
  unfold val_main_v106 cRow catRow
  by_cases h : k.val < 512
  · rw [dif_pos h]
    exact attention _ _ _ _ b s k ⟨k.val, h⟩ (Nat.zero_add _)
  · rw [dif_neg h]
    by_cases h2 : k.val < 768
    · rw [dif_pos h2]
      exact (pooled _ _ _ _ b s k ⟨k.val - 512, by omega⟩ (by show 512 + (k.val - 512) = k.val; omega)).trans (pool x2 x5 x6 b s _)
    · rw [dif_neg h2]
      exact (recurred _ _ _ _ b s k ⟨k.val - 768, by omega⟩ (by show 768 + (k.val - 768) = k.val; omega)).trans
        (recurrence x2 x3 x4 x7 b s _)

/-! ## The projection and the feed-forward block -/

theorem projected (b : Fin 8) (s : Fin 8192) (d : Fin 1024) :
    val_main_v108 (F := Ideal) x0 x1 x2 x3 x4 x5 x6 x7 x8 (ix3 b s d) = hRow x0 x1 x2 x3 x4 x5 x6 x7 x8 b s d := by
  rw [val_main_v108_apply, val_main_v107_apply]
  refine congrArg (x0 (ix3 b s d) + ·) (Finset.sum_congr rfl fun k _ => ?_)
  rw [show lidx_main_v107 (ix3 b s d) k = ix3 b s k from eq_ix3 _, show ridx_main_v107 (ix3 b s d) k = ix2 k d from eq_ix2 _, joined]

theorem meanSquare (b : Fin 8) (s : Fin 8192) :
    val_main_v110 (F := Ideal) x0 x1 x2 x3 x4 x5 x6 x7 x8 (ix2 b s)
      = ∑ k : Fin 1024, hRow x0 x1 x2 x3 x4 x5 x6 x7 x8 b s k * hRow x0 x1 x2 x3 x4 x5 x6 x7 x8 b s k := by
  rw [val_main_v110_apply, val_main_cst_33_apply]
  refine (congrArg (· + _) Ideal.ofBits_zero_f32).trans ((zero_add _).trans (Finset.sum_congr rfl fun k _ => ?_))
  rw [show idx_main_v110 (ix2 b s) k = ix3 b s k from eq_ix3 _, val_main_v109_apply, projected]; rfl

theorem norm (b : Fin 8) (s : Fin 8192) (d : Fin 1024) :
    val_main_v121 (F := Ideal) x0 x1 x2 x3 x4 x5 x6 x7 x8 x9 (ix3 b s d)
      = normed (hRow x0 x1 x2 x3 x4 x5 x6 x7 x8 b s) (fun d => x9 (ix1 d)) d := by
  rw [val_main_v121_apply, val_main_v118_apply, val_main_v120_apply, val_main_v119_apply, val_main_v117_apply, val_main_v116_apply,
    val_main_v115_apply, val_main_v114_apply, val_main_cst_35_apply, val_main_v113_apply, val_main_v112_apply, val_main_cst_34_apply,
    val_main_v111_apply, projected, show idx_main_v111 (idx_main_v117 (ix3 b s d)) = ix2 b s from eq_ix2 _, meanSquare,
    show idx_main_v119 (idx_main_v120 (ix3 b s d)) = ix1 d from eq_ix1 _]
  rfl

theorem unit (b : Fin 8) (s : Fin 8192) (f : Fin 2816) :
    val_main_v125 (F := Ideal) x0 x1 x2 x3 x4 x5 x6 x7 x8 x9 x10 x11 (ix3 b s f)
      = hidden (normed (hRow x0 x1 x2 x3 x4 x5 x6 x7 x8 b s) (fun d => x9 (ix1 d))) (fun k f => x10 (ix2 k f)) (fun k f => x11 (ix2 k f)) f := by
  have e1 : val_main_v122 (F := Ideal) x0 x1 x2 x3 x4 x5 x6 x7 x8 x9 x10 (ix3 b s f)
      = ∑ k : Fin 1024, normed (hRow x0 x1 x2 x3 x4 x5 x6 x7 x8 b s) (fun d => x9 (ix1 d)) k * x10 (ix2 k f) := by
    rw [val_main_v122_apply]
    refine Finset.sum_congr rfl fun k _ => ?_
    rw [show lidx_main_v122 (ix3 b s f) k = ix3 b s k from eq_ix3 _, show ridx_main_v122 (ix3 b s f) k = ix2 k f from eq_ix2 _, norm]
  have e2 : val_main_v124 (F := Ideal) x0 x1 x2 x3 x4 x5 x6 x7 x8 x9 x11 (ix3 b s f)
      = ∑ k : Fin 1024, normed (hRow x0 x1 x2 x3 x4 x5 x6 x7 x8 b s) (fun d => x9 (ix1 d)) k * x11 (ix2 k f) := by
    rw [val_main_v124_apply]
    refine Finset.sum_congr rfl fun k _ => ?_
    rw [show lidx_main_v124 (ix3 b s f) k = ix3 b s k from eq_ix3 _, show ridx_main_v124 (ix3 b s f) k = ix2 k f from eq_ix2 _, norm]
  rw [val_main_v125_apply, val_main_v123_apply, val_main_call9_v5_apply, val_main_call9_v4_apply, val_main_call9_cst_0_apply,
    val_main_call9_v3_apply, val_main_call9_v2_apply, val_main_call9_cst_apply, val_main_call9_v1_apply, val_main_call9_v0_apply, e1, e2]
  show _ * Ideal.div (Ideal.ofBits .f32 _) (Ideal.ofBits .f32 _ + _) * _ = _
  rw [Ideal.ofBits_one_f32]; rfl

/-- The reference's result at `(b, s, d)`. -/
theorem result (b : Fin 8) (s : Fin 8192) (d : Fin 1024) :
    val_main_v129 (F := Ideal) x0 x1 x2 x3 x4 x5 x6 x7 x8 x9 x10 x11 x12 (ix3 b s d)
      = outRow x0 x1 x2 x3 x4 x5 x6 x7 x8 x9 x10 x11 x12 b s d := by
  rw [val_main_v129_apply, val_main_v128_apply, val_main_v127_apply, val_main_cst_36_apply, val_main_v126_apply, projected]
  refine congrArg (hRow x0 x1 x2 x3 x4 x5 x6 x7 x8 b s d + half * ·) (Finset.sum_congr rfl fun f _ => ?_)
  rw [show lidx_main_v126 (ix3 b s d) f = ix3 b s f from eq_ix3 _, show ridx_main_v126 (ix3 b s d) f = ix2 f d from eq_ix2 _, unit]

end Cert.Post.RefRow

end
-- ==== Proof.Post.Tile.lean ====
/-
  One grid point's output rows are the layer's formulas at the tile's tokens, when its blocks are what the arrays hold there.
-/
module

public import proofs.«01_k».proof.Proof.Post.Units
public import proofs.«01_k».proof.Proof.Post.PayPool
public import proofs.«01_k».proof.Proof.Post.RefRow

@[expose] public section

set_option maxRecDepth 16384

noncomputable section

namespace Cert.Post.Tile

open Idealize.ShloMosaic Idealize.ShloMosaic.TcCoe Idealize.ShloMosaic.ValueIdx
open Cert.PostIdeal Cert.PostIdeal.Gen
open Cert.Post.Rows
open scoped BigOperators

open Cert.Post.Body Cert.Post.Planes Cert.Post.RefPool Cert.Post.RefRow

/-! ## The constants -/

theorem headDim_eq : headDim = ((64 : ℝ) : EReal) := by
  unfold headDim
  simp [Ideal.ofBits, Ideal.ieee, -EReal.coe_mul]; norm_num

theorem sixtyFourth : Ideal.ofBits .f32 0x3C800000#32 = ((1 / 64 : ℝ) : EReal) := by
  simp [Ideal.ofBits, Ideal.ieee, -EReal.coe_mul]; norm_num

/-- A product with a 64th is the quotient by the head's size. -/
theorem mul_sixtyFourth (x : EReal) : x * Ideal.ofBits .f32 0x3C800000#32 = Ideal.div x headDim := by
  rw [headDim_eq, Ideal.div_coe (by norm_num) x, sixtyFourth]

theorem cnt_pos (g : Fin 4) (s : Fin 8192) : 0 < cnt g s := by
  have hs := s.isLt
  unfold cnt
  match g with
  | 0 => show 0 < min (s.val + 1) 8192 - (s.val - 1); omega
  | 1 => show 0 < min (s.val + 2) 8192 - (s.val - 2); omega
  | 2 => show 0 < min (s.val + 4) 8192 - (s.val - 4); omega
  | 3 => show 0 < min (s.val + 8) 8192 - (s.val - 8); omega

/-- A product with an inverse count is the quotient by the count. -/
theorem mul_inv_cnt (g : Fin 4) (s : Fin 8192) (x : EReal) :
    x * Ideal.div 1 (((cnt g s : ℕ) : ℝ) : EReal) = Ideal.div x (((cnt g s : ℕ) : ℝ) : EReal) := by
  have h : ((cnt g s : ℕ) : ℝ) ≠ 0 := Nat.cast_ne_zero.mpr (cnt_pos g s).ne'
  rw [Ideal.div_coe h, Ideal.div_coe h, one_mul]

section Tile
variable (i : grid0.Coords)
  (x0 : Vec Ideal S1x512x1024 .f32)
  (x1 : Vec Ideal S1x512x512 .f32)
  (x2 : Vec Ideal S1x512x256 .f32)
  (x3 : Vec Ideal S1x8x256 .f32)
  (x4 : Vec Ideal S1x8x256 .f32)
  (x5 : Vec Ideal S512x256 .f32)
  (x6 : Vec Ideal S1x512x256 .f32)
  (x7 : Vec Ideal S1x512x256 .f32)
  (x8 : Vec Ideal S1x512x256 .f32)
  (x9 : Vec Ideal S256x256 .bf16)
  (x10 : Vec Ideal S1x256 .f32)
  (x11 : Vec Ideal S1x256 .f32)
  (x12 : Vec Ideal S256x256 .bf16)
  (x13 : Vec Ideal S1024x1024 .bf16)
  (x14 : Vec Ideal S1x1024 .f32)
  (x15 : Vec Ideal S1024x2816 .bf16)
  (x16 : Vec Ideal S1024x2816 .bf16)
  (x17 : Vec Ideal S2816x1024 .bf16)
  (X0 : FVec Ideal ⟨3, ![8, 8192, 1024]⟩ .f32) (X1 : FVec Ideal ⟨3, ![8, 8192, 512]⟩ .f32) (X2 : FVec Ideal ⟨3, ![8, 8192, 1536]⟩ .f32)
  (X3 X4 : FVec Ideal ⟨3, ![8, 8192, 256]⟩ .f32) (X5 : FVec Ideal ⟨3, ![4, 64, 64]⟩ .f32) (X6 : FVec Ideal ⟨1, ![256]⟩ .f32)
  (X7 : FVec Ideal ⟨1, ![64]⟩ .f32) (X8 : FVec Ideal ⟨2, ![1024, 1024]⟩ .f32) (X9 : FVec Ideal ⟨1, ![1024]⟩ .f32)
  (X10 X11 : FVec Ideal ⟨2, ![1024, 2816]⟩ .f32) (X12 : FVec Ideal ⟨2, ![2816, 1024]⟩ .f32) (b : Fin 8) (q : Fin 16)

/-- The blocks of a grid point are what the arrays hold for tile `q` of batch entry `b`. -/
structure Blocks : Prop where
  tile : IsTile i x2 x3 x4 q (uCol X2 b)
  residual : ∀ (r : Fin 512) (d : Fin 1024), x0 (ix3 0 r d) = X0 (ix3 b (tok q r) d)
  attention : ∀ (r : Fin 512) (k : Fin 512), x1 (ix3 0 r k) = X1 (ix3 b (tok q r) k)
  inverse : ∀ (r : Fin 512) (c : Fin 256), x5 (ix2 r c) = Ideal.div 1 (((cnt (grp c) (tok q r) : ℕ) : ℝ) : EReal)
  forward : ∀ (r : Fin 512) (c : Fin 256), x6 (ix3 0 r c) = X3 (ix3 b (tok q r) c)
  backward : ∀ (r : Fin 512) (c : Fin 256), x7 (ix3 0 r c) = X4 (ix3 b (tok q r) c)
  gate : ∀ (r : Fin 512) (c : Fin 256), x8 (ix3 0 r c) = gRow X2 b (tok q r) c
  poolIn : ∀ (g : Fin 4) (j k : Fin 64), x9 (ix2 (at_ g j) (at_ g k)) = X5 (ix3 g j k)
  poolOut : ∀ j c : Fin 256, grp j ≠ grp c → x9 (ix2 j c) = 0
  poolScale : ∀ c : Fin 256, x10 (ix2 0 c) = X6 (ix1 c)
  headGain : ∀ c : Fin 256, x11 (ix2 0 c) = X7 (ix1 (lane c))
  headIn : ∀ (g : Fin 4) (j k : Fin 64), x12 (ix2 (at_ g j) (at_ g k)) = 1
  headOut : ∀ j c : Fin 256, grp j ≠ grp c → x12 (ix2 j c) = 0
  project : ∀ k d : Fin 1024, x13 (ix2 k d) = X8 (ix2 k d)
  gain : ∀ d : Fin 1024, x14 (ix2 0 d) = X9 (ix1 d)
  wGate : ∀ (k : Fin 1024) (f : Fin 2816), x15 (ix2 k f) = X10 (ix2 k f)
  wUp : ∀ (k : Fin 1024) (f : Fin 2816), x16 (ix2 k f) = X11 (ix2 k f)
  wDown : ∀ (f : Fin 2816) (d : Fin 1024), x17 (ix2 f d) = X12 (ix2 f d)

variable {i x0 x1 x2 x3 x4 x5 x6 x7 x8 x9 x10 x11 x12 x13 x14 x15 x16 x17 X0 X1 X2 X3 X4 X5 X6 X7 X8 X9 X10 X11 X12 b q}
  (H : Blocks i x0 x1 x2 x3 x4 x5 x6 x7 x8 x9 x10 x11 x12 x13 x14 x15 x16 x17 X0 X1 X2 X3 X4 X5 X6 X7 X8 X9 X10 X11 X12 b q)
include H

/-- The centred column the pooling matrix is applied to. -/
theorem centred_eq (r : Fin 512) (j : Fin 256) :
    (![sum2 i x2 x3 x4 (ix2 r j), sum4 i x2 x3 x4 (ix2 r j), sum8 i x2 x3 x4 (ix2 r j), sum16 i x2 x3 x4 (ix2 r j)] : Fin 4 → EReal) (grp j)
        * x5 (ix2 r j) - uCol X2 b (tok q r) j = centred (uCol X2 b) (tok q r) j := by
  have e : (![sum2 i x2 x3 x4 (ix2 r j), sum4 i x2 x3 x4 (ix2 r j), sum8 i x2 x3 x4 (ix2 r j), sum16 i x2 x3 x4 (ix2 r j)] : Fin 4 → EReal) (grp j)
      = winSum (fun t => uCol X2 b t j) (grp j) (tok q r) := by
    rw [sum2_apply H.tile, sum4_apply H.tile, sum8_apply H.tile, sum16_apply H.tile]
    generalize grp j = g
    match g with
    | 0 => rfl
    | 1 => rfl
    | 2 => rfl
    | 3 => rfl
  rw [e, H.inverse, mul_inv_cnt]
  rfl

theorem pool_eq (r : Fin 512) (c : Fin 256) :
    Body.pooled i x2 x3 x4 x5 x9 (ix2 r c) * x10 (ix2 0 c) = pRow X2 X5 X6 b (tok q r) c := by
  unfold Body.pooled pRow poolRow
  rw [H.poolScale, PayPool.pooled]
  refine congrArg (· * X6 (ix1 c)) ?_
  refine (Finset.sum_congr rfl fun j _ => ?_).trans
    (PayPool.blockSum (fun j => centred (uCol X2 b) (tok q r) j) (fun j => x9 (ix2 j c)) (fun j => X5 (ix3 (grp c) j (lane c))) (grp c) (fun j => ?_) fun j h => ?_)
  · rw [self_apply H.tile, centred_eq H]
  · have := H.poolIn (grp c) j (lane c)
    rwa [at_grp_lane] at this
  · exact H.poolOut j c h

theorem rec_eq (r : Fin 512) (c : Fin 256) :
    PayRow.headRow (fun j => x6 (ix3 0 r j) + x7 (ix3 0 r j)) x12 c * x11 (ix2 0 c) * swish (x8 (ix3 0 r c))
      = rRow X2 X3 X4 X7 b (tok q r) c := by
  unfold PayRow.headRow rRow recRow
  simp only [H.forward, H.backward, H.headGain, H.gate]
  refine congrArg (fun z => oRow X3 X4 b (tok q r) c * Ideal.rsqrt (z + eps) * X7 (ix1 (lane c)) * swish (gRow X2 b (tok q r) c)) ?_
  rw [mul_sixtyFourth]
  refine congrArg (Ideal.div · headDim) ?_
  refine (PayPool.blockSum (fun j => oRow X3 X4 b (tok q r) j * oRow X3 X4 b (tok q r) j) (fun j => x12 (ix2 j c)) (fun _ => 1) (grp c) (fun j => ?_) fun j h => ?_).trans ?_
  · have := H.headIn (grp c) j (lane c)
    rwa [at_grp_lane] at this
  · exact H.headOut j c h
  · simp only [mul_one]

theorem cat_eq (r : Fin 512) : (fun k => cat i x1 x2 x3 x4 x5 x6 x7 x8 x9 x10 x11 x12 (ix2 r k)) = cRow X1 X2 X3 X4 X5 X6 X7 b (tok q r) := by
  funext k
  unfold cat cRow
  rw [PayRow.joined]
  refine congrArg (fun z => z k) (congr (congrArg₂ catRow (funext fun k => H.attention r k) (funext fun c => pool_eq H r c)) (funext fun c => rec_eq H r c))

theorem hid_eq (r : Fin 512) : (fun d => hid i x0 x1 x2 x3 x4 x5 x6 x7 x8 x9 x10 x11 x12 x13 (ix2 r d)) = hRow X0 X1 X2 X3 X4 X5 X6 X7 X8 b (tok q r) := by
  funext d
  unfold hid hRow
  rw [PayRow.projected, cat_eq H]
  simp only [H.residual, H.project]

theorem nrm_eq (r : Fin 512) : (fun d => nrm i x0 x1 x2 x3 x4 x5 x6 x7 x8 x9 x10 x11 x12 x13 x14 (ix2 r d))
    = normed (hRow X0 X1 X2 X3 X4 X5 X6 X7 X8 b (tok q r)) (fun d => X9 (ix1 d)) := by
  funext d
  have h := hid_eq H r
  unfold hid at h
  unfold nrm
  rw [PayRow.normed_apply, h]
  simp only [H.gain]

/-- The point's output. -/
theorem out_eq (r : Fin 512) (d : Fin 1024) :
    out i x0 x1 x2 x3 x4 x5 x6 x7 x8 x9 x10 x11 x12 x13 x14 x15 x16 x17 (ix3 0 r d)
      = outRow X0 X1 X2 X3 X4 X5 X6 X7 X8 X9 X10 X11 X12 b (tok q r) d := by
  unfold out outRow ffn
  rw [PayRow.output]
  refine congrArg₂ (· + ·) (congrFun (hid_eq H r) d) (congrArg (half * ·) (Finset.sum_congr rfl fun f _ => congrArg₂ (· * ·) ?_ (H.wDown f d)))
  have e : ((Rect.unit (s := S512x2816) ![0, 0] S512x2816.size inb_S512x2816_S512x2816_0_0).toLoadRect.idx (ix2 r f) : S512x2816.Idx) = ix2 r f := by
    funext a
    refine Fin.ext ((Rect.idx_unit_val (s := S512x2816) ![0, 0] S512x2816.size inb_S512x2816_S512x2816_0_0 (ix2 r f) a).trans ?_)
    match a with
    | ⟨0, _⟩ => exact Nat.zero_add _
    | ⟨1, _⟩ => exact Nat.zero_add _
  refine (congrArg (View.canon _) e).trans ?_
  have hn := nrm_eq H r
  unfold nrm at hn ⊢
  rw [Units.units_eq, Units.chunks_apply, hn]
  simp only [H.wGate, H.wUp]

end Tile

end Cert.Post.Tile

end
-- ==== Proof.Post.Stage.lean ====
/-
  The blocks a grid point works on are what the arguments and the prepared arrays hold for one tile of one batch entry.
-/
module

public import proofs.«01_k».proof.Proof.Frames.PostIdeal.Value
public import proofs.«01_k».proof.Proof.Post.HostRow
public import proofs.«01_k».proof.Proof.Post.Tile
public import Idealize.ShloMosaic.Lib.Pipeline.Value

@[expose] public section

set_option maxRecDepth 16384

noncomputable section

namespace Cert.Post.Stage

open Idealize.ShloMosaic Idealize.ShloMosaic.TcCoe Idealize.ShloMosaic.ValueIdx
open Cert.PostIdeal Cert.PostIdeal.Gen Idealize.SL.Sem
open Cert.Post.Rows Cert.Post.Planes Cert.Post.RefPool Cert.Post.RefRow
open scoped BigOperators

/-- The batch entry of a grid point, and its tile of 512 tokens. -/
def bOf (t : Fin cfg0.N) : Fin 8 := ⟨(grid0.coords t 0).val, (grid0.coords t 0).isLt⟩
def qOf (t : Fin cfg0.N) : Fin 16 := ⟨(grid0.coords t 1).val, (grid0.coords t 1).isLt⟩

/-! ## The index maps over the grid -/

theorem idx_tok : ∀ t : Fin cfg0.N, (win0_0.index t = ![(bOf t).val, (qOf t).val, 0] ∧ win0_1.index t = ![(bOf t).val, (qOf t).val, 0]
      ∧ win0_2.index t = ![(bOf t).val, (qOf t).val, 0]) ∧ (win0_6.index t = ![(bOf t).val, (qOf t).val, 0]
      ∧ win0_7.index t = ![(bOf t).val, (qOf t).val, 0] ∧ win0_8.index t = ![(bOf t).val, (qOf t).val, 5]
      ∧ win0_18.index t = ![(bOf t).val, (qOf t).val, 0]) :=
  (by decide +kernel : ∀ t : Fin grid0.N, (win0_0.index t = ![(grid0.coords t 0).val, (grid0.coords t 1).val, 0]
      ∧ win0_1.index t = ![(grid0.coords t 0).val, (grid0.coords t 1).val, 0]
      ∧ win0_2.index t = ![(grid0.coords t 0).val, (grid0.coords t 1).val, 0]) ∧ (win0_6.index t = ![(grid0.coords t 0).val, (grid0.coords t 1).val, 0]
      ∧ win0_7.index t = ![(grid0.coords t 0).val, (grid0.coords t 1).val, 0] ∧ win0_8.index t = ![(grid0.coords t 0).val, (grid0.coords t 1).val, 5]
      ∧ win0_18.index t = ![(grid0.coords t 0).val, (grid0.coords t 1).val, 0]))

theorem idx_halo : ∀ t : Fin cfg0.N, win0_3.index t = ![(bOf t).val, (qOf t).val * 64 - 1, 0]
      ∧ win0_4.index t = ![(bOf t).val, min ((qOf t).val * 64 + 64) 1023, 0] ∧ win0_5.index t = ![(qOf t).val, 0] :=
  (by decide +kernel : ∀ t : Fin grid0.N, win0_3.index t = ![(grid0.coords t 0).val, (grid0.coords t 1).val * 64 - 1, 0]
      ∧ win0_4.index t = ![(grid0.coords t 0).val, min ((grid0.coords t 1).val * 64 + 64) 1023, 0] ∧ win0_5.index t = ![(grid0.coords t 1).val, 0])

theorem idx_whole : ∀ t : Fin cfg0.N, (∀ a, win0_9.index t a = 0) ∧ (∀ a, win0_10.index t a = 0) ∧ (∀ a, win0_11.index t a = 0)
      ∧ (∀ a, win0_12.index t a = 0) ∧ (∀ a, win0_13.index t a = 0) ∧ (∀ a, win0_14.index t a = 0) ∧ (∀ a, win0_15.index t a = 0)
      ∧ (∀ a, win0_16.index t a = 0) ∧ (∀ a, win0_17.index t a = 0) :=
  (by decide +kernel : ∀ t : Fin grid0.N, (∀ a, win0_9.index t a = 0) ∧ (∀ a, win0_10.index t a = 0) ∧ (∀ a, win0_11.index t a = 0)
      ∧ (∀ a, win0_12.index t a = 0) ∧ (∀ a, win0_13.index t a = 0) ∧ (∀ a, win0_14.index t a = 0) ∧ (∀ a, win0_15.index t a = 0)
      ∧ (∀ a, win0_16.index t a = 0) ∧ (∀ a, win0_17.index t a = 0))

/-- A point is named by its batch entry and tile. -/
theorem point : ∀ (b : Fin 8) (q : Fin 16), ∃ t : Fin cfg0.N, bOf t = b ∧ qOf t = q :=
  (by decide +kernel : ∀ (b : Fin 8) (q : Fin 16), ∃ t : Fin grid0.N, (⟨(grid0.coords t 0).val, (grid0.coords t 0).isLt⟩ : Fin 8) = b
      ∧ (⟨(grid0.coords t 1).val, (grid0.coords t 1).isLt⟩ : Fin 16) = q)

/-! ## The blocks, read -/

variable (m : (ℓ : Loc nD τ sig) → Buf (Elt Ideal) ℓ) (c : Dev nD) (t : Fin cfg0.N)

theorem blk0 (r : Fin 512) (d : Fin 1024) :
    iblk m c 0 t (ix3 0 r d) = m ((c : Thread nD τ).loc main_arg0) (ix3 (bOf t) (tok (qOf t) r) d) := by
  rw [← V_main_arg0 m c]
  refine congrArg (V m c main_arg0) (funext fun a => Fin.ext ?_)
  refine (Pipeline.Window.rect_emb_val win0_0 t (ix3 0 r d) a).trans ?_
  rw [(idx_tok t).1.1]
  match a with
  | ⟨0, _⟩ => show (bOf t).val * 1 + 0 = (bOf t).val; omega
  | ⟨1, _⟩ => show (qOf t).val * 512 + r.val = 512 * (qOf t).val + r.val; omega
  | ⟨2, _⟩ => show 0 * 1024 + d.val = d.val; omega

theorem blk1 (r : Fin 512) (k : Fin 512) :
    iblk m c 1 t (ix3 0 r k) = m ((c : Thread nD τ).loc main_arg1) (ix3 (bOf t) (tok (qOf t) r) k) := by
  rw [← V_main_arg1 m c]
  refine congrArg (V m c main_arg1) (funext fun a => Fin.ext ?_)
  refine (Pipeline.Window.rect_emb_val win0_1 t (ix3 0 r k) a).trans ?_
  rw [(idx_tok t).1.2.1]
  match a with
  | ⟨0, _⟩ => show (bOf t).val * 1 + 0 = (bOf t).val; omega
  | ⟨1, _⟩ => show (qOf t).val * 512 + r.val = 512 * (qOf t).val + r.val; omega
  | ⟨2, _⟩ => show 0 * 512 + k.val = k.val; omega

theorem blk2 (r : Fin 512) (l : Fin 256) :
    iblk m c 2 t (ix3 0 r l) = uCol (m ((c : Thread nD τ).loc main_arg2)) (bOf t) (tok (qOf t) r) l := by
  unfold uCol
  rw [← V_main_arg2 m c]
  refine congrArg (V m c main_arg2) (funext fun a => Fin.ext ?_)
  refine (Pipeline.Window.rect_emb_val win0_2 t (ix3 0 r l) a).trans ?_
  rw [(idx_tok t).1.2.2]
  match a with
  | ⟨0, _⟩ => show (bOf t).val * 1 + 0 = (bOf t).val; omega
  | ⟨1, _⟩ => show (qOf t).val * 512 + r.val = 512 * (qOf t).val + r.val; omega
  | ⟨2, _⟩ => show 0 * 256 + l.val = l.val; omega

theorem blk3 (h : 0 < (qOf t).val) (r : Fin 8) (l : Fin 256) :
    iblk m c 3 t (ix3 0 r l) = uCol (m ((c : Thread nD τ).loc main_arg2)) (bOf t) ⟨512 * (qOf t).val + r.val - 8, by omega⟩ l := by
  unfold uCol
  rw [← V_main_arg2 m c]
  refine congrArg (V m c main_arg2) (funext fun a => Fin.ext ?_)
  refine (Pipeline.Window.rect_emb_val win0_3 t (ix3 0 r l) a).trans ?_
  rw [(idx_halo t).1]
  match a with
  | ⟨0, _⟩ => show (bOf t).val * 1 + 0 = (bOf t).val; omega
  | ⟨1, _⟩ => show ((qOf t).val * 64 - 1) * 8 + r.val = 512 * (qOf t).val + r.val - 8; omega
  | ⟨2, _⟩ => show 0 * 256 + l.val = l.val; omega

theorem blk4 (h : (qOf t).val < 15) (r : Fin 8) (l : Fin 256) :
    iblk m c 4 t (ix3 0 r l) = uCol (m ((c : Thread nD τ).loc main_arg2)) (bOf t) ⟨512 * (qOf t).val + 512 + r.val, by omega⟩ l := by
  unfold uCol
  rw [← V_main_arg2 m c]
  refine congrArg (V m c main_arg2) (funext fun a => Fin.ext ?_)
  refine (Pipeline.Window.rect_emb_val win0_4 t (ix3 0 r l) a).trans ?_
  rw [(idx_halo t).2.1]
  match a with
  | ⟨0, _⟩ => show (bOf t).val * 1 + 0 = (bOf t).val; omega
  | ⟨1, _⟩ => show (min ((qOf t).val * 64 + 64) 1023) * 8 + r.val = 512 * (qOf t).val + 512 + r.val; omega
  | ⟨2, _⟩ => show 0 * 256 + l.val = l.val; omega

theorem blk5 (r : Fin 512) (l : Fin 256) :
    iblk m c 5 t (ix2 r l) = Ideal.div 1 (((cnt (grp l) (tok (qOf t) r) : ℕ) : ℝ) : EReal) := by
  refine Eq.trans ?_ (HostRow.inverse m c (tok (qOf t) r) l)
  refine congrArg (V m c main_v26) (funext fun a => Fin.ext ?_)
  refine (Pipeline.Window.rect_emb_val win0_5 t (ix2 r l) a).trans ?_
  rw [(idx_halo t).2.2]
  match a with
  | ⟨0, _⟩ => show (qOf t).val * 512 + r.val = 512 * (qOf t).val + r.val; omega
  | ⟨1, _⟩ => show 0 * 256 + l.val = l.val; omega

theorem blk6 (r : Fin 512) (l : Fin 256) :
    iblk m c 6 t (ix3 0 r l) = m ((c : Thread nD τ).loc main_arg3) (ix3 (bOf t) (tok (qOf t) r) l) := by
  rw [← V_main_arg3 m c]
  refine congrArg (V m c main_arg3) (funext fun a => Fin.ext ?_)
  refine (Pipeline.Window.rect_emb_val win0_6 t (ix3 0 r l) a).trans ?_
  rw [(idx_tok t).2.1]
  match a with
  | ⟨0, _⟩ => show (bOf t).val * 1 + 0 = (bOf t).val; omega
  | ⟨1, _⟩ => show (qOf t).val * 512 + r.val = 512 * (qOf t).val + r.val; omega
  | ⟨2, _⟩ => show 0 * 256 + l.val = l.val; omega

theorem blk7 (r : Fin 512) (l : Fin 256) :
    iblk m c 7 t (ix3 0 r l) = m ((c : Thread nD τ).loc main_arg4) (ix3 (bOf t) (tok (qOf t) r) l) := by
  rw [← V_main_arg4 m c]
  refine congrArg (V m c main_arg4) (funext fun a => Fin.ext ?_)
  refine (Pipeline.Window.rect_emb_val win0_7 t (ix3 0 r l) a).trans ?_
  rw [(idx_tok t).2.2.1]
  match a with
  | ⟨0, _⟩ => show (bOf t).val * 1 + 0 = (bOf t).val; omega
  | ⟨1, _⟩ => show (qOf t).val * 512 + r.val = 512 * (qOf t).val + r.val; omega
  | ⟨2, _⟩ => show 0 * 256 + l.val = l.val; omega

theorem blk8 (r : Fin 512) (l : Fin 256) :
    iblk m c 8 t (ix3 0 r l) = gRow (m ((c : Thread nD τ).loc main_arg2)) (bOf t) (tok (qOf t) r) l := by
  unfold gRow
  rw [← V_main_arg2 m c]
  refine congrArg (V m c main_arg2) (funext fun a => Fin.ext ?_)
  refine (Pipeline.Window.rect_emb_val win0_8 t (ix3 0 r l) a).trans ?_
  rw [(idx_tok t).2.2.2.1]
  match a with
  | ⟨0, _⟩ => show (bOf t).val * 1 + 0 = (bOf t).val; omega
  | ⟨1, _⟩ => show (qOf t).val * 512 + r.val = 512 * (qOf t).val + r.val; omega
  | ⟨2, _⟩ => show 5 * 256 + l.val = 1280 + l.val; omega

theorem blk9 (y) : iblk m c 9 t y = V m c main_v39 y :=
  congrArg (V m c main_v39) (funext fun a => Fin.ext (Pipeline.Window.rect_emb_val_of_index_zero win0_9 t a ((idx_whole t).1 a) y))
theorem blk10 (y) : iblk m c 10 t y = V m c main_v40 y :=
  congrArg (V m c main_v40) (funext fun a => Fin.ext (Pipeline.Window.rect_emb_val_of_index_zero win0_10 t a ((idx_whole t).2.1 a) y))
theorem blk11 (y) : iblk m c 11 t y = V m c main_v44 y :=
  congrArg (V m c main_v44) (funext fun a => Fin.ext (Pipeline.Window.rect_emb_val_of_index_zero win0_11 t a ((idx_whole t).2.2.1 a) y))
theorem blk12 (y) : iblk m c 12 t y = V m c main_cst y :=
  congrArg (V m c main_cst) (funext fun a => Fin.ext (Pipeline.Window.rect_emb_val_of_index_zero win0_12 t a ((idx_whole t).2.2.2.1 a) y))
theorem blk13 (y) : iblk m c 13 t y = V m c main_v0 y :=
  congrArg (V m c main_v0) (funext fun a => Fin.ext (Pipeline.Window.rect_emb_val_of_index_zero win0_13 t a ((idx_whole t).2.2.2.2.1 a) y))
theorem blk14 (y) : iblk m c 14 t y = V m c main_v45 y :=
  congrArg (V m c main_v45) (funext fun a => Fin.ext (Pipeline.Window.rect_emb_val_of_index_zero win0_14 t a ((idx_whole t).2.2.2.2.2.1 a) y))
theorem blk15 (y) : iblk m c 15 t y = V m c main_v1 y :=
  congrArg (V m c main_v1) (funext fun a => Fin.ext (Pipeline.Window.rect_emb_val_of_index_zero win0_15 t a ((idx_whole t).2.2.2.2.2.2.1 a) y))
theorem blk16 (y) : iblk m c 16 t y = V m c main_v2 y :=
  congrArg (V m c main_v2) (funext fun a => Fin.ext (Pipeline.Window.rect_emb_val_of_index_zero win0_16 t a ((idx_whole t).2.2.2.2.2.2.2.1 a) y))
theorem blk17 (y) : iblk m c 17 t y = V m c main_v3 y :=
  congrArg (V m c main_v3) (funext fun a => Fin.ext (Pipeline.Window.rect_emb_val_of_index_zero win0_17 t a ((idx_whole t).2.2.2.2.2.2.2.2 a) y))

/-- The blocks of a point are what the arrays hold for its tile. -/
theorem staged : Tile.Blocks (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t)
    (iblk m c 15 t) (iblk m c 16 t) (iblk m c 17 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (bOf t) (qOf t) where
  tile := {
    place := rfl
    tile := fun r l => blk2 m c t r l
    before := fun h r l => blk3 m c t h r l
    after := fun h r l => blk4 m c t h r l }
  residual := blk0 m c t
  attention := blk1 m c t
  inverse := blk5 m c t
  forward := blk6 m c t
  backward := blk7 m c t
  gate := blk8 m c t
  poolIn g j k := (blk9 m c t _).trans (HostRow.poolIn m c g j k)
  poolOut j l h := (blk9 m c t _).trans (HostRow.poolOut m c j l h)
  poolScale l := (blk10 m c t _).trans (HostRow.scale m c l)
  headGain l := (blk11 m c t _).trans (HostRow.headGain m c l)
  headIn g j k := (blk12 m c t _).trans ((HostRow.ones m c _ _).trans (if_pos (by rw [grp_at, grp_at])))
  headOut j l h := (blk12 m c t _).trans ((HostRow.ones m c j l).trans (if_neg h))
  project k d := (blk13 m c t _).trans (Host.wOut_eq m c _)
  gain d := (blk14 m c t _).trans (HostRow.gain m c d)
  wGate k f := (blk15 m c t _).trans (Host.wGate_eq m c _)
  wUp k f := (blk16 m c t _).trans (Host.wUp_eq m c _)
  wDown f d := (blk17 m c t _).trans (Host.wDown_eq m c _)

end Cert.Post.Stage

end
-- ==== Proof.Post.Term.lean ====
/-
  The output block of a grid point, as the frame's run names it, is the written-out one of the Body module at the
  point's input blocks.
-/
module

public import proofs.«01_k».proof.Proof.Frames.PostIdeal.Frame
public import proofs.«01_k».proof.Proof.Post.Body
public import Idealize.ShloMosaic.Lib.Pipeline.Value

@[expose] public section

set_option maxRecDepth 16384

noncomputable section

namespace Cert.Post.Term

open Idealize.ShloMosaic Idealize.ShloMosaic.TcCoe Idealize.ShloMosaic.Tactic
open Cert.PostIdeal Cert.PostIdeal.Gen

variable (m : (ℓ : Loc nD τ sig) → Buf (Elt Ideal) ℓ)

set_option maxHeartbeats 4000000 in
theorem outs (c : Dev nD) (t : Fin cfg0.N) :
    outsAt0 (F := Ideal) m c t = Body.out (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by
  unfold outsAt0 out0_A_18
  rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  have z3 : (![0, 0, 0] : Fin 3 → ℕ) = fun _ => 0 := by funext a; match a with | ⟨0, _⟩ => rfl | ⟨1, _⟩ => rfl | ⟨2, _⟩ => rfl
  have z2 : (![0, 0] : Fin 2 → ℕ) = fun _ => 0 := by funext a; match a with | ⟨0, _⟩ => rfl | ⟨1, _⟩ => rfl
  refine (View.canon_unit_zero (S := S1x512x1024) z3 _ _).trans ?_
  unfold Body.out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  generalize iblk m c 15 t = x15
  generalize iblk m c 16 t = x16
  generalize iblk m c 17 t = x17
  sl_unfold_words
  simp only [View.readCov_eq_canon', View.readAt_eq_ld, Memref.IsWhole.read_unread,
    View.ld_unit_zero (S := S1x512x1024) z3, View.ld_unit_zero (S := S1x512x512) z3, View.ld_unit_zero (S := S1x512x256) z3, View.ld_unit_zero (S := S1x8x256) z3, View.ld_unit_zero (S := S512x256) z2, View.ld_unit_zero (S := S256x256) z2, View.ld_unit_zero (S := S1x256) z2, View.ld_unit_zero (S := S1024x1024) z2, View.ld_unit_zero (S := S1x1024) z2, View.ld_unit_zero (S := S2816x1024) z2]
  rfl

end Cert.Post.Term

end
-- ==== Proof.Post.Final.lean ====
/-
  The result array after the call: every block written back is the block of one array, the layer's second half token by
  token, and the blocks fill the array.
-/
module

public import proofs.«01_k».proof.Proof.Post.Stage
public import proofs.«01_k».proof.Proof.Post.Term

@[expose] public section

set_option maxRecDepth 16384

noncomputable section

namespace Cert.Post.Final

open Idealize.ShloMosaic Idealize.ShloMosaic.TcCoe Idealize.ShloMosaic.ValueIdx
open Idealize.ShloMosaic.Pipeline (Dat)
open Cert.PostIdeal Cert.PostIdeal.Gen Idealize.SL.Sem
open Cert.Post.Rows Cert.Post.Planes Cert.Post.RefPool Cert.Post.RefRow Cert.Post.Stage
open scoped BigOperators

variable (m : (ℓ : Loc nD τ sig) → Buf (Elt Ideal) ℓ) (ρ : Dev nD → PrngReg) (c : Dev nD)

/-- What the result array is shown to hold, from the arguments. -/
abbrev rows (X0 : FVec Ideal ⟨3, ![8, 8192, 1024]⟩ .f32) (X1 : FVec Ideal ⟨3, ![8, 8192, 512]⟩ .f32) (X2 : FVec Ideal ⟨3, ![8, 8192, 1536]⟩ .f32)
    (X3 X4 : FVec Ideal ⟨3, ![8, 8192, 256]⟩ .f32) (X5 : FVec Ideal ⟨3, ![4, 64, 64]⟩ .f32) (X6 : FVec Ideal ⟨1, ![256]⟩ .f32)
    (X7 : FVec Ideal ⟨1, ![64]⟩ .f32) (X8 : FVec Ideal ⟨2, ![1024, 1024]⟩ .f32) (X9 : FVec Ideal ⟨1, ![1024]⟩ .f32)
    (X10 X11 : FVec Ideal ⟨2, ![1024, 2816]⟩ .f32) (X12 : FVec Ideal ⟨2, ![2816, 1024]⟩ .f32) : FVec Ideal ⟨3, ![8, 8192, 1024]⟩ .f32 :=
  fun i => outRow X0 X1 X2 X3 X4 X5 X6 X7 X8 X9 X10 X11 X12 (i 0) (i 1) (i 2)

/-- It, of a device's arguments. -/
abbrev res : Buf (Elt Ideal) ((c : Thread nD τ).loc main_v46) :=
  rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- Where a point's block lies in the result. -/
theorem place (t : Fin cfg0.N) (r : Fin 512) (d : Fin 1024) :
    ((cfg0.win 18).blk t).view.emb (ix3 0 r d) = ix3 (bOf t) (tok (qOf t) r) d := by
  refine funext fun a => Fin.ext ?_
  refine (Pipeline.Window.rect_emb_val win0_18 t (ix3 0 r d) a).trans ?_
  rw [(idx_tok t).2.2.2.2]
  match a with
  | ⟨0, _⟩ => show (bOf t).val * 1 + 0 = (bOf t).val; omega
  | ⟨1, _⟩ => show (qOf t).val * 512 + r.val = 512 * (qOf t).val + r.val; omega
  | ⟨2, _⟩ => show 0 * 1024 + d.val = d.val; omega

/-- What a point writes back is its block of that array. -/
theorem flushed_eq (t : Fin cfg0.N) :
    (dats m 0 c).flushed 18 t = ((cfg0.win 18).blk t).view.read (Elt Ideal) (res m c) := by
  rw [Value.flushed18, Term.outs]
  refine funext fun (y : S1x512x1024.Idx) => ?_
  obtain ⟨r, hr⟩ : ∃ r : Fin 512, r = y 1 := ⟨_, rfl⟩
  obtain ⟨d, hd⟩ : ∃ d : Fin 1024, d = y 2 := ⟨_, rfl⟩
  obtain rfl : y = ix3 (0 : Fin 1) r d := by
    refine funext fun a => ?_
    match a with
    | ⟨0, _⟩ => exact Subsingleton.elim (α := Fin 1) _ _
    | ⟨1, _⟩ => exact hr.symm
    | ⟨2, _⟩ => exact hd.symm
  refine (Tile.out_eq (H := staged m c t) r d).trans ?_
  show _ = res m c (((cfg0.win 18).blk t).view.emb (ix3 0 r d))
  rw [place]

/-- The blocks fill the array. -/
theorem cover (i : S8x8192x1024.Idx) :
    ∃ t : Fin cfg0.N, (cfg0.win 18).flush t = true ∧ i ∈ ((cfg0.win 18).blk t).view.set := by
  have h0 : (i 0 : ℕ) < 8 := (i 0).isLt
  have h1 : (i 1 : ℕ) < 8192 := (i 1).isLt
  have h2 : (i 2 : ℕ) < 1024 := (i 2).isLt
  obtain ⟨t, hb, hq⟩ := point ⟨i 0, h0⟩ ⟨(i 1 : ℕ) / 512, by omega⟩
  refine ⟨t, flush0_18 t, ?_⟩
  obtain ⟨r, hr⟩ : ∃ r : Fin 512, r.val = (i 1 : ℕ) % 512 := ⟨⟨(i 1 : ℕ) % 512, by omega⟩, rfl⟩
  obtain ⟨d, hd⟩ : ∃ d : Fin 1024, d.val = (i 2 : ℕ) := ⟨⟨i 2, h2⟩, rfl⟩
  have e : ((cfg0.win 18).blk t).view.emb (ix3 0 r d) = i := by
    rw [place, hb, hq]
    refine funext fun a => Fin.ext ?_
    match a with
    | ⟨0, _⟩ => rfl
    | ⟨1, _⟩ => show 512 * ((i 1 : ℕ) / 512) + r.val = (i 1 : ℕ); omega
    | ⟨2, _⟩ => exact hd
  rw [← e]
  exact ((cfg0.win 18).blk t).view.emb_mem_set _

/-- So the array ends holding it. -/
theorem final : (dats m 0 c).arrAt 18 cfg0.N = res m c :=
  (dats m 0 c).arrAt_eq_of_cover 18 (res m c) (fun t _ => flushed_eq m c t) cover

end Cert.Post.Final

end
-- ==== Proof.Post.Claim.lean ====
/-
  The value claim of the layer's second half: the call's result array and the reference's are one function of arguments
  that agree.
-/
module

public import proofs.«01_k».proof.Defs
public import proofs.«01_k».proof.Proof.Post.Final
public import proofs.«01_k».proof.Proof.Gen.PostRefIdeal.Run
public import proofs.«01_k».proof.Proof.Gen.PostRefIdeal.Read

@[expose] public section

noncomputable section

namespace Cert.Post.Claim

open Idealize.ShloMosaic Idealize.ShloMosaic.TcCoe Idealize.ShloMosaic.ValueIdx Idealize.SL.Sem

/-- The reference's result array, from its arguments. -/
theorem reference_eq (x0 x1 x2 x3 x4 x5 x6 x7 x8 x9 x10 x11 x12) :
    Cert.PostRefIdeal.Read.val_main_v129 (F := Ideal) x0 x1 x2 x3 x4 x5 x6 x7 x8 x9 x10 x11 x12
      = Final.rows x0 x1 x2 x3 x4 x5 x6 x7 x8 x9 x10 x11 x12 := by
  funext i
  obtain ⟨b, s, d, rfl⟩ : ∃ (b : Fin 8) (s : Fin 8192) (d : Fin 1024), i = ix3 b s d := ⟨i 0, i 1, i 2, eq_ix3 i⟩
  exact RefRow.result x0 x1 x2 x3 x4 x5 x6 x7 x8 x9 x10 x11 x12 b s d

/-- Rows of equal arrays. -/
theorem rows_congr {x0 y0 x1 y1 x2 y2 x3 y3 x4 y4 x5 y5 x6 y6 x7 y7 x8 y8 x9 y9 x10 y10 x11 y11 x12 y12} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Final.rows x0 x1 x2 x3 x4 x5 x6 x7 x8 x9 x10 x11 x12 = Final.rows y0 y1 y2 y3 y4 y5 y6 y7 y8 y9 y10 y11 y12 := by
  subst h0 h1 h2 h3 h4 h5 h6 h7 h8 h9 h10 h11 h12
  rfl

theorem algebraic : Cert.algebraic_PostIdeal_PostRefIdeal (hPostIdeal := Cert.PostIdeal.Gen.facts) (hPostRefIdeal := Cert.PostRefIdeal.Gen.facts) := by
  intro m ρ m' ρ' _ hagree
  refine ⟨fun c => Final.res m c, ?_, ?_⟩
  · exact (θ_run Cert.PostIdeal.defs _ _).mono (fun _ h c => ⟨(h c).1.trans (Final.final m c), (h c).2⟩)
      (Cert.PostIdeal.Value.run_blocks (F := Ideal) m ρ)
  refine (θ_run Cert.PostRefIdeal.defs _ _).mono (fun _ h c => ⟨(h c).1.trans ?_, (h c).2⟩) (Cert.PostRefIdeal.Value.run (F := Ideal) m' ρ')
  refine (Cert.PostRefIdeal.Read.val_main_v129_eq _).trans ((reference_eq _ _ _ _ _ _ _ _ _ _ _ _ _).trans ?_)
  obtain ⟨h0, h1, h2, h3, h4, h5, h6, h7, h8, h9, h10, h11, h12⟩ := hagree c
  exact rows_congr h0 h1 h2 h3 h4 h5 h6 h7 h8 h9 h10 h11 h12

end Cert.Post.Claim

end
-- ==== Proof.Pre.Ones.A.lean ====
/-
  The constant table of ones on the diagonal blocks of 64, read at the entries of rows 0 to 63, eight rows at a time.
-/
module

public import proofs.«01_k».proof.PreIdeal
public import proofs.«01_k».proof.Proof.Post.Rows

@[expose] public section

set_option maxRecDepth 100000

namespace Cert.Pre.Ones

open Idealize.ShloMosaic
open Cert.PreIdeal

/-- Rows 0 to 7. -/
theorem rows0 : ∀ r : Fin 8, ∀ c : Fin 256, lit0t (256 * (0 + r.val) + c.val) = if (0 + r.val) / 64 = c.val / 64 then 0x3F80#16 else 0#16 := by
  decide +kernel

/-- Rows 8 to 15. -/
theorem rows1 : ∀ r : Fin 8, ∀ c : Fin 256, lit0t (256 * (8 + r.val) + c.val) = if (8 + r.val) / 64 = c.val / 64 then 0x3F80#16 else 0#16 := by
  decide +kernel

/-- Rows 16 to 23. -/
theorem rows2 : ∀ r : Fin 8, ∀ c : Fin 256, lit0t (256 * (16 + r.val) + c.val) = if (16 + r.val) / 64 = c.val / 64 then 0x3F80#16 else 0#16 := by
  decide +kernel

/-- Rows 24 to 31. -/
theorem rows3 : ∀ r : Fin 8, ∀ c : Fin 256, lit0t (256 * (24 + r.val) + c.val) = if (24 + r.val) / 64 = c.val / 64 then 0x3F80#16 else 0#16 := by
  decide +kernel

/-- Rows 32 to 39. -/
theorem rows4 : ∀ r : Fin 8, ∀ c : Fin 256, lit0t (256 * (32 + r.val) + c.val) = if (32 + r.val) / 64 = c.val / 64 then 0x3F80#16 else 0#16 := by
  decide +kernel

/-- Rows 40 to 47. -/
theorem rows5 : ∀ r : Fin 8, ∀ c : Fin 256, lit0t (256 * (40 + r.val) + c.val) = if (40 + r.val) / 64 = c.val / 64 then 0x3F80#16 else 0#16 := by
  decide +kernel

/-- Rows 48 to 55. -/
theorem rows6 : ∀ r : Fin 8, ∀ c : Fin 256, lit0t (256 * (48 + r.val) + c.val) = if (48 + r.val) / 64 = c.val / 64 then 0x3F80#16 else 0#16 := by
  decide +kernel

/-- Rows 56 to 63. -/
theorem rows7 : ∀ r : Fin 8, ∀ c : Fin 256, lit0t (256 * (56 + r.val) + c.val) = if (56 + r.val) / 64 = c.val / 64 then 0x3F80#16 else 0#16 := by
  decide +kernel

end Cert.Pre.Ones
-- ==== Proof.Pre.Ones.B.lean ====
/-
  The constant table of ones on the diagonal blocks of 64, read at the entries of rows 64 to 127, eight rows at a time.
-/
module

public import proofs.«01_k».proof.PreIdeal
public import proofs.«01_k».proof.Proof.Post.Rows

@[expose] public section

set_option maxRecDepth 100000

namespace Cert.Pre.Ones

open Idealize.ShloMosaic
open Cert.PreIdeal

/-- Rows 64 to 71. -/
theorem rows8 : ∀ r : Fin 8, ∀ c : Fin 256, lit0t (256 * (64 + r.val) + c.val) = if (64 + r.val) / 64 = c.val / 64 then 0x3F80#16 else 0#16 := by
  decide +kernel

/-- Rows 72 to 79. -/
theorem rows9 : ∀ r : Fin 8, ∀ c : Fin 256, lit0t (256 * (72 + r.val) + c.val) = if (72 + r.val) / 64 = c.val / 64 then 0x3F80#16 else 0#16 := by
  decide +kernel

/-- Rows 80 to 87. -/
theorem rows10 : ∀ r : Fin 8, ∀ c : Fin 256, lit0t (256 * (80 + r.val) + c.val) = if (80 + r.val) / 64 = c.val / 64 then 0x3F80#16 else 0#16 := by
  decide +kernel

/-- Rows 88 to 95. -/
theorem rows11 : ∀ r : Fin 8, ∀ c : Fin 256, lit0t (256 * (88 + r.val) + c.val) = if (88 + r.val) / 64 = c.val / 64 then 0x3F80#16 else 0#16 := by
  decide +kernel

/-- Rows 96 to 103. -/
theorem rows12 : ∀ r : Fin 8, ∀ c : Fin 256, lit0t (256 * (96 + r.val) + c.val) = if (96 + r.val) / 64 = c.val / 64 then 0x3F80#16 else 0#16 := by
  decide +kernel

/-- Rows 104 to 111. -/
theorem rows13 : ∀ r : Fin 8, ∀ c : Fin 256, lit0t (256 * (104 + r.val) + c.val) = if (104 + r.val) / 64 = c.val / 64 then 0x3F80#16 else 0#16 := by
  decide +kernel

/-- Rows 112 to 119. -/
theorem rows14 : ∀ r : Fin 8, ∀ c : Fin 256, lit0t (256 * (112 + r.val) + c.val) = if (112 + r.val) / 64 = c.val / 64 then 0x3F80#16 else 0#16 := by
  decide +kernel

/-- Rows 120 to 127. -/
theorem rows15 : ∀ r : Fin 8, ∀ c : Fin 256, lit0t (256 * (120 + r.val) + c.val) = if (120 + r.val) / 64 = c.val / 64 then 0x3F80#16 else 0#16 := by
  decide +kernel

end Cert.Pre.Ones
-- ==== Proof.Pre.Ones.C.lean ====
/-
  The constant table of ones on the diagonal blocks of 64, read at the entries of rows 128 to 191, eight rows at a time.
-/
module

public import proofs.«01_k».proof.PreIdeal
public import proofs.«01_k».proof.Proof.Post.Rows

@[expose] public section

set_option maxRecDepth 100000

namespace Cert.Pre.Ones

open Idealize.ShloMosaic
open Cert.PreIdeal

/-- Rows 128 to 135. -/
theorem rows16 : ∀ r : Fin 8, ∀ c : Fin 256, lit0t (256 * (128 + r.val) + c.val) = if (128 + r.val) / 64 = c.val / 64 then 0x3F80#16 else 0#16 := by
  decide +kernel

/-- Rows 136 to 143. -/
theorem rows17 : ∀ r : Fin 8, ∀ c : Fin 256, lit0t (256 * (136 + r.val) + c.val) = if (136 + r.val) / 64 = c.val / 64 then 0x3F80#16 else 0#16 := by
  decide +kernel

/-- Rows 144 to 151. -/
theorem rows18 : ∀ r : Fin 8, ∀ c : Fin 256, lit0t (256 * (144 + r.val) + c.val) = if (144 + r.val) / 64 = c.val / 64 then 0x3F80#16 else 0#16 := by
  decide +kernel

/-- Rows 152 to 159. -/
theorem rows19 : ∀ r : Fin 8, ∀ c : Fin 256, lit0t (256 * (152 + r.val) + c.val) = if (152 + r.val) / 64 = c.val / 64 then 0x3F80#16 else 0#16 := by
  decide +kernel

/-- Rows 160 to 167. -/
theorem rows20 : ∀ r : Fin 8, ∀ c : Fin 256, lit0t (256 * (160 + r.val) + c.val) = if (160 + r.val) / 64 = c.val / 64 then 0x3F80#16 else 0#16 := by
  decide +kernel

/-- Rows 168 to 175. -/
theorem rows21 : ∀ r : Fin 8, ∀ c : Fin 256, lit0t (256 * (168 + r.val) + c.val) = if (168 + r.val) / 64 = c.val / 64 then 0x3F80#16 else 0#16 := by
  decide +kernel

/-- Rows 176 to 183. -/
theorem rows22 : ∀ r : Fin 8, ∀ c : Fin 256, lit0t (256 * (176 + r.val) + c.val) = if (176 + r.val) / 64 = c.val / 64 then 0x3F80#16 else 0#16 := by
  decide +kernel

/-- Rows 184 to 191. -/
theorem rows23 : ∀ r : Fin 8, ∀ c : Fin 256, lit0t (256 * (184 + r.val) + c.val) = if (184 + r.val) / 64 = c.val / 64 then 0x3F80#16 else 0#16 := by
  decide +kernel

end Cert.Pre.Ones
-- ==== Proof.Pre.Ones.D.lean ====
/-
  The constant table of ones on the diagonal blocks of 64, read at the entries of rows 192 to 255, eight rows at a time.
-/
module

public import proofs.«01_k».proof.PreIdeal
public import proofs.«01_k».proof.Proof.Post.Rows

@[expose] public section

set_option maxRecDepth 100000

namespace Cert.Pre.Ones

open Idealize.ShloMosaic
open Cert.PreIdeal

/-- Rows 192 to 199. -/
theorem rows24 : ∀ r : Fin 8, ∀ c : Fin 256, lit0t (256 * (192 + r.val) + c.val) = if (192 + r.val) / 64 = c.val / 64 then 0x3F80#16 else 0#16 := by
  decide +kernel

/-- Rows 200 to 207. -/
theorem rows25 : ∀ r : Fin 8, ∀ c : Fin 256, lit0t (256 * (200 + r.val) + c.val) = if (200 + r.val) / 64 = c.val / 64 then 0x3F80#16 else 0#16 := by
  decide +kernel

/-- Rows 208 to 215. -/
theorem rows26 : ∀ r : Fin 8, ∀ c : Fin 256, lit0t (256 * (208 + r.val) + c.val) = if (208 + r.val) / 64 = c.val / 64 then 0x3F80#16 else 0#16 := by
  decide +kernel

/-- Rows 216 to 223. -/
theorem rows27 : ∀ r : Fin 8, ∀ c : Fin 256, lit0t (256 * (216 + r.val) + c.val) = if (216 + r.val) / 64 = c.val / 64 then 0x3F80#16 else 0#16 := by
  decide +kernel

/-- Rows 224 to 231. -/
theorem rows28 : ∀ r : Fin 8, ∀ c : Fin 256, lit0t (256 * (224 + r.val) + c.val) = if (224 + r.val) / 64 = c.val / 64 then 0x3F80#16 else 0#16 := by
  decide +kernel

/-- Rows 232 to 239. -/
theorem rows29 : ∀ r : Fin 8, ∀ c : Fin 256, lit0t (256 * (232 + r.val) + c.val) = if (232 + r.val) / 64 = c.val / 64 then 0x3F80#16 else 0#16 := by
  decide +kernel

/-- Rows 240 to 247. -/
theorem rows30 : ∀ r : Fin 8, ∀ c : Fin 256, lit0t (256 * (240 + r.val) + c.val) = if (240 + r.val) / 64 = c.val / 64 then 0x3F80#16 else 0#16 := by
  decide +kernel

/-- Rows 248 to 255. -/
theorem rows31 : ∀ r : Fin 8, ∀ c : Fin 256, lit0t (256 * (248 + r.val) + c.val) = if (248 + r.val) / 64 = c.val / 64 then 0x3F80#16 else 0#16 := by
  decide +kernel

end Cert.Pre.Ones
-- ==== Proof.Pre.Ones.lean ====
/-
  The constant table of ones on the four diagonal blocks of 64, read at an entry.
-/
module

public import proofs.«01_k».proof.Proof.Pre.Ones.A
public import proofs.«01_k».proof.Proof.Pre.Ones.B
public import proofs.«01_k».proof.Proof.Pre.Ones.C
public import proofs.«01_k».proof.Proof.Pre.Ones.D

@[expose] public section

namespace Cert.Pre.Ones

open Idealize.ShloMosaic
open Cert.PreIdeal

/-- Eight rows' entries, at a row among them. -/
theorem among (N : ℕ) (h : ∀ k : Fin 8, ∀ c : Fin 256, lit0t (256 * (N + k.val) + c.val) = if (N + k.val) / 64 = c.val / 64 then 0x3F80#16 else 0#16)
    (r c : Fin 256) (h0 : N ≤ r.val) (h1 : r.val < N + 8) : lit0t (256 * r.val + c.val) = if r.val / 64 = c.val / 64 then 0x3F80#16 else 0#16 := by
  have e : N + (r.val - N) = r.val := by omega
  have := h ⟨r.val - N, by omega⟩ c
  rw [e] at this
  exact this

/-- Entry `(r, c)` of the table is one on the diagonal blocks and zero elsewhere. -/
theorem table (r c : Fin 256) : lit0t (256 * r.val + c.val) = if r.val / 64 = c.val / 64 then 0x3F80#16 else 0#16 := by
  have hr := r.isLt
  by_cases h0 : r.val < 8
  · exact among 0 rows0 r c (by omega) (by omega)
  by_cases h1 : r.val < 16
  · exact among 8 rows1 r c (by omega) (by omega)
  by_cases h2 : r.val < 24
  · exact among 16 rows2 r c (by omega) (by omega)
  by_cases h3 : r.val < 32
  · exact among 24 rows3 r c (by omega) (by omega)
  by_cases h4 : r.val < 40
  · exact among 32 rows4 r c (by omega) (by omega)
  by_cases h5 : r.val < 48
  · exact among 40 rows5 r c (by omega) (by omega)
  by_cases h6 : r.val < 56
  · exact among 48 rows6 r c (by omega) (by omega)
  by_cases h7 : r.val < 64
  · exact among 56 rows7 r c (by omega) (by omega)
  by_cases h8 : r.val < 72
  · exact among 64 rows8 r c (by omega) (by omega)
  by_cases h9 : r.val < 80
  · exact among 72 rows9 r c (by omega) (by omega)
  by_cases h10 : r.val < 88
  · exact among 80 rows10 r c (by omega) (by omega)
  by_cases h11 : r.val < 96
  · exact among 88 rows11 r c (by omega) (by omega)
  by_cases h12 : r.val < 104
  · exact among 96 rows12 r c (by omega) (by omega)
  by_cases h13 : r.val < 112
  · exact among 104 rows13 r c (by omega) (by omega)
  by_cases h14 : r.val < 120
  · exact among 112 rows14 r c (by omega) (by omega)
  by_cases h15 : r.val < 128
  · exact among 120 rows15 r c (by omega) (by omega)
  by_cases h16 : r.val < 136
  · exact among 128 rows16 r c (by omega) (by omega)
  by_cases h17 : r.val < 144
  · exact among 136 rows17 r c (by omega) (by omega)
  by_cases h18 : r.val < 152
  · exact among 144 rows18 r c (by omega) (by omega)
  by_cases h19 : r.val < 160
  · exact among 152 rows19 r c (by omega) (by omega)
  by_cases h20 : r.val < 168
  · exact among 160 rows20 r c (by omega) (by omega)
  by_cases h21 : r.val < 176
  · exact among 168 rows21 r c (by omega) (by omega)
  by_cases h22 : r.val < 184
  · exact among 176 rows22 r c (by omega) (by omega)
  by_cases h23 : r.val < 192
  · exact among 184 rows23 r c (by omega) (by omega)
  by_cases h24 : r.val < 200
  · exact among 192 rows24 r c (by omega) (by omega)
  by_cases h25 : r.val < 208
  · exact among 200 rows25 r c (by omega) (by omega)
  by_cases h26 : r.val < 216
  · exact among 208 rows26 r c (by omega) (by omega)
  by_cases h27 : r.val < 224
  · exact among 216 rows27 r c (by omega) (by omega)
  by_cases h28 : r.val < 232
  · exact among 224 rows28 r c (by omega) (by omega)
  by_cases h29 : r.val < 240
  · exact among 232 rows29 r c (by omega) (by omega)
  by_cases h30 : r.val < 248
  · exact among 240 rows30 r c (by omega) (by omega)
  exact among 248 rows31 r c (by omega) (by omega)

end Cert.Pre.Ones
-- ==== Proof.Pre.Host.lean ====
/-
  The arrays the host prepares for the call, read at an entry: the weights cast, the gains as rows, the table of ones.
-/
module

public import proofs.«01_k».proof.Proof.Gen.PreIdeal.Frame.Runs
public import proofs.«01_k».proof.Proof.Pre.Ones
public import Idealize.ShloMosaic.Lib.Claim
public import Idealize.ShloMosaic.Lib.IdealHost
public import Idealize.ShloMosaic.Lib.ValueLayout
public import Idealize.ShloMosaic.Lib.Pipeline.Value
public import Idealize.ShloMosaic.Lib.StableHlo.RunRead

@[expose] public section

set_option maxRecDepth 16384

noncomputable section

namespace Cert.Pre.Host

open Idealize.ShloMosaic Idealize.ShloMosaic.TcCoe Idealize.ShloMosaic.ValueIdx
open Cert.PreIdeal Cert.PreIdeal.Gen Idealize.SL.Sem
open Cert.Post.Rows

variable (m : (ℓ : Loc nD τ sig) → Buf (Elt Ideal) ℓ) (c : Dev nD)

/-! ## The prepared arrays as terms in the arguments -/

theorem gate_eq : V (F := Ideal) m c main_v0 = (truncf .bf16 (m ((c : Thread nD τ).loc main_arg2) : FVec Ideal S1024x2816 .f32) bitsLt_bf16_f32 : FVec Ideal S1024x2816 .bf16) := by
  unfold V
  simp only [hostOps0, List.flatten_cons, List.flatten_nil, List.append_nil, List.cons_append, List.nil_append]
  after_reads_simp

theorem up_eq : V (F := Ideal) m c main_v1 = (truncf .bf16 (m ((c : Thread nD τ).loc main_arg3) : FVec Ideal S1024x2816 .f32) bitsLt_bf16_f32 : FVec Ideal S1024x2816 .bf16) := by
  unfold V
  simp only [hostOps0, List.flatten_cons, List.flatten_nil, List.append_nil, List.cons_append, List.nil_append]
  after_reads_simp

theorem down_eq : V (F := Ideal) m c main_v2 = (truncf .bf16 (m ((c : Thread nD τ).loc main_arg4) : FVec Ideal S2816x1024 .f32) bitsLt_bf16_f32 : FVec Ideal S2816x1024 .bf16) := by
  unfold V
  simp only [hostOps0, List.flatten_cons, List.flatten_nil, List.append_nil, List.cons_append, List.nil_append]
  after_reads_simp

theorem proj_eq : V (F := Ideal) m c main_v3 = (truncf .bf16 (m ((c : Thread nD τ).loc main_arg6) : FVec Ideal S1024x3072 .f32) bitsLt_bf16_f32 : FVec Ideal S1024x3072 .bf16) := by
  unfold V
  simp only [hostOps0, List.flatten_cons, List.flatten_nil, List.append_nil, List.cons_append, List.nil_append]
  after_reads_simp

theorem gain1_eq : V (F := Ideal) m c main_v4 = (shapeCast S1x1024 (m ((c : Thread nD τ).loc main_arg1) : FVec Ideal S1024 .f32) shapeCasts_S1024_S1x1024 : FVec Ideal S1x1024 .f32) := by
  unfold V
  simp only [hostOps0, List.flatten_cons, List.flatten_nil, List.append_nil, List.cons_append, List.nil_append]
  after_reads_simp
  rfl

theorem gain2_eq : V (F := Ideal) m c main_v5 = (shapeCast S1x1024 (m ((c : Thread nD τ).loc main_arg5) : FVec Ideal S1024 .f32) shapeCasts_S1024_S1x1024 : FVec Ideal S1x1024 .f32) := by
  unfold V
  simp only [hostOps0, List.flatten_cons, List.flatten_nil, List.append_nil, List.cons_append, List.nil_append]
  after_reads_simp
  rfl

theorem query_eq : V (F := Ideal) m c main_v6 = (shapeCast S1x512 (m ((c : Thread nD τ).loc main_arg7) : FVec Ideal S8x64 .f32) shapeCasts_S8x64_S1x512 : FVec Ideal S1x512 .f32) := by
  unfold V
  simp only [hostOps0, List.flatten_cons, List.flatten_nil, List.append_nil, List.cons_append, List.nil_append]
  after_reads_simp
  rfl

theorem key_eq : V (F := Ideal) m c main_v7 = (shapeCast S1x512 (m ((c : Thread nD τ).loc main_arg8) : FVec Ideal S8x64 .f32) shapeCasts_S8x64_S1x512 : FVec Ideal S1x512 .f32) := by
  unfold V
  simp only [hostOps0, List.flatten_cons, List.flatten_nil, List.append_nil, List.cons_append, List.nil_append]
  after_reads_simp
  rfl

theorem ones_eq (i) : V (F := Ideal) m c main_cst i = Ideal.ofBits .bf16 (lit0 (S256x256.rowMajor i)) := by
  unfold V
  simp only [hostOps0, List.flatten_cons, List.flatten_nil, List.append_nil, List.cons_append, List.nil_append]
  after_reads_simp
  rfl

/-! ## At an entry -/

theorem gain1 (d : Fin 1024) : V (F := Ideal) m c main_v4 (ix2 0 d) = m ((c : Thread nD τ).loc main_arg1) (ix1 d) := by
  rw [gain1_eq]
  refine shapeCast_apply _ _ _ (ix1 d) ?_
  rw [Shape.rowMajor_val_one, Shape.rowMajor_val_two]
  show d.val = 0 * 1024 + d.val
  omega

theorem gain2 (d : Fin 1024) : V (F := Ideal) m c main_v5 (ix2 0 d) = m ((c : Thread nD τ).loc main_arg5) (ix1 d) := by
  rw [gain2_eq]
  refine shapeCast_apply _ _ _ (ix1 d) ?_
  rw [Shape.rowMajor_val_one, Shape.rowMajor_val_two]
  show d.val = 0 * 1024 + d.val
  omega

theorem query (e : Fin 512) : V (F := Ideal) m c main_v6 (ix2 0 e)
    = m ((c : Thread nD τ).loc main_arg7) (ix2 (⟨e.val / 64, by omega⟩ : Fin 8) (⟨e.val % 64, by omega⟩ : Fin 64)) := by
  rw [query_eq]
  refine shapeCast_apply _ _ _ (ix2 (⟨e.val / 64, by omega⟩ : Fin 8) (⟨e.val % 64, by omega⟩ : Fin 64)) ?_
  rw [Shape.rowMajor_val_two, Shape.rowMajor_val_two]
  show e.val / 64 * 64 + e.val % 64 = 0 * 512 + e.val
  omega

theorem key (e : Fin 512) : V (F := Ideal) m c main_v7 (ix2 0 e)
    = m ((c : Thread nD τ).loc main_arg8) (ix2 (⟨e.val / 64, by omega⟩ : Fin 8) (⟨e.val % 64, by omega⟩ : Fin 64)) := by
  rw [key_eq]
  refine shapeCast_apply _ _ _ (ix2 (⟨e.val / 64, by omega⟩ : Fin 8) (⟨e.val % 64, by omega⟩ : Fin 64)) ?_
  rw [Shape.rowMajor_val_two, Shape.rowMajor_val_two]
  show e.val / 64 * 64 + e.val % 64 = 0 * 512 + e.val
  omega

theorem ones (r l : Fin 256) : V (F := Ideal) m c main_cst (ix2 r l) = if grp r = grp l then (1 : EReal) else 0 := by
  rw [ones_eq]
  have e : lit0 (S256x256.rowMajor (ix2 r l)) = lit0t (256 * r.val + l.val) := by
    have : (S256x256.rowMajor (ix2 r l)).val = 256 * r.val + l.val := by
      rw [Shape.rowMajor_val_two]
      show r.val * 256 + l.val = _
      omega
    rw [← this]
  rw [e, Ones.table]
  by_cases h : r.val / 64 = l.val / 64
  · rw [if_pos h, if_pos (Fin.ext h)]; exact Ideal.ofBits_one_bf16
  · rw [if_neg h, if_neg fun h' => h (congrArg Fin.val h')]; exact Ideal.ofBits_zero_bf16

end Cert.Pre.Host

end
-- ==== Proof.Pre.Body.lean ====
/-
  What one grid point of the layer's first half leaves: the rows with half their feed-forward block added, those rows normed
  for the next point, and, of the normed rows it was given, the projection in its six-by-256-column chunks.
-/
module

public import proofs.«01_k».proof.Proof.Gen.PreIdeal.Skeleton
public import proofs.«01_k».proof.Proof.Post.Planes

@[expose] public section

set_option maxRecDepth 16384

noncomputable section

namespace Cert.Pre.Body

open Idealize.ShloMosaic Idealize.ShloMosaic.TcCoe Idealize.ShloMosaic.ValueIdx
open Cert.PreIdeal Cert.PreIdeal.Gen

/-- A store into the scratch array of hidden units. -/
abbrev UnitPiece := View.Piece (Elt Ideal) S512x2816 .bf16

/-- A chunk of 256 columns of a feed-forward weight. -/
abbrev cols (w : Vec Ideal S1024x2816 .bf16) (o : ℕ) (h : ∀ a, (![0, o] : Fin 2 → ℕ) a + S1024x256.size a ≤ S1024x2816.size a) : Vec Ideal S1024x256 .bf16 :=
  View.ld w (Rect.unit (s := S1024x2816) ![0, o] S1024x256.size h)

/-- A chunk of 256 columns of the projection's weight. -/
abbrev cols6 (w : Vec Ideal S1024x3072 .bf16) (o : ℕ) (h : ∀ a, (![0, o] : Fin 2 → ℕ) a + S1024x256.size a ≤ S1024x3072.size a) : Vec Ideal S1024x256 .bf16 :=
  View.ld w (Rect.unit (s := S1024x3072) ![0, o] S1024x256.size h)

/-- A chunk of 256 columns of a gain. -/
abbrev gain (g : Vec Ideal S1x512 .f32) (o : ℕ) (h : ∀ a, (![0, o] : Fin 2 → ℕ) a + S1x256.size a ≤ S1x512.size a) : Vec Ideal S1x256 .f32 :=
  View.ld g (Rect.unit (s := S1x512) ![0, o] S1x256.size h)

section Units
variable (n : FVec Ideal S512x1024 .bf16) (wg wu : Vec Ideal S1024x2816 .bf16)

/-- The store of the chunk at column `o`. -/
def piece (o : ℕ) (hk : ∀ a, (![0, o] : Fin 2 → ℕ) a + S512x256.size a ≤ S512x2816.size a)
    (h : ∀ a, (![0, o] : Fin 2 → ℕ) a + S1024x256.size a ≤ S1024x2816.size a) : UnitPiece :=
  ⟨Rect.unit (s := S512x2816) ![0, o] S512x256.size hk, k0_pay33 (F := Ideal) n (cols wg o h) (cols wu o h)⟩

/-- The eleven stores, the last first. -/
def chunks : List UnitPiece :=
  [piece n wg wu 2560 inb_S512x2816_S512x256_0_2560 inb_S1024x2816_S1024x256_0_2560,
   piece n wg wu 2304 inb_S512x2816_S512x256_0_2304 inb_S1024x2816_S1024x256_0_2304,
   piece n wg wu 2048 inb_S512x2816_S512x256_0_2048 inb_S1024x2816_S1024x256_0_2048,
   piece n wg wu 1792 inb_S512x2816_S512x256_0_1792 inb_S1024x2816_S1024x256_0_1792,
   piece n wg wu 1536 inb_S512x2816_S512x256_0_1536 inb_S1024x2816_S1024x256_0_1536,
   piece n wg wu 1280 inb_S512x2816_S512x256_0_1280 inb_S1024x2816_S1024x256_0_1280,
   piece n wg wu 1024 inb_S512x2816_S512x256_0_1024 inb_S1024x2816_S1024x256_0_1024,
   piece n wg wu 768 inb_S512x2816_S512x256_0_768 inb_S1024x2816_S1024x256_0_768,
   piece n wg wu 512 inb_S512x2816_S512x256_0_512 inb_S1024x2816_S1024x256_0_512,
   piece n wg wu 256 inb_S512x2816_S512x256_0_256 inb_S1024x2816_S1024x256_0_256,
   piece n wg wu 0 inb_S512x2816_S512x256_0_0 inb_S1024x2816_S1024x256_0_0]

end Units

variable (x0 : Vec Ideal S512x1024 .f32) (x1 : Vec Ideal S1x1024 .f32) (x2 x3 : Vec Ideal S1024x2816 .bf16) (x4 : Vec Ideal S2816x1024 .bf16)
  (x5 : Vec Ideal S1x1024 .f32) (x6 : Vec Ideal S1024x3072 .bf16) (x7 x8 : Vec Ideal S1x512 .f32) (x9 : Vec Ideal S256x256 .bf16)
  (v : Vec Ideal S512x1024 .bf16)

/-- The scratch array of hidden units, read whole. -/
def units : Vec Ideal S512x2816 .bf16 :=
  fun j => View.canon (chunks (k0_pay17 (F := Ideal) x0 x1) x2 x3)
    ((Rect.unit (s := S512x2816) ![0, 0] S512x2816.size inb_S512x2816_S512x2816_0_0).toLoadRect.idx j)

/-- The rows with half their feed-forward block added. -/
def res : FVec Ideal S512x1024 .f32 := k0_pay103 (F := Ideal) x0 (units x0 x1 x2 x3) x4

/-- Those rows normed. -/
def nrm : FVec Ideal S512x1024 .bf16 :=
  k0_pay1 (F := Ideal) (res x0 x1 x2 x3 x4) (k0_pay106 (F := Ideal) x5) (k0_pay107 (F := Ideal) x0 (units x0 x1 x2 x3) x4)

/-- Chunk `c` of queries, keys and values, of the normed rows `v`. -/
def chunkOf (c : Fin 6) : FVec Ideal S512x256 .f32 :=
  match c with
  | 0 => k0_pay3 (F := Ideal) x9 v (cols6 x6 0 inb_S1024x3072_S1024x256_0_0) (gain x7 0 inb_S1x512_S1x256_0_0)
  | 1 => k0_pay3 (F := Ideal) x9 v (cols6 x6 256 inb_S1024x3072_S1024x256_0_256) (gain x7 256 inb_S1x512_S1x256_0_256)
  | 2 => k0_pay34 (F := Ideal) x9 v (cols6 x6 512 inb_S1024x3072_S1024x256_0_512) (gain x8 0 inb_S1x512_S1x256_0_0)
  | 3 => k0_pay34 (F := Ideal) x9 v (cols6 x6 768 inb_S1024x3072_S1024x256_0_768) (gain x8 256 inb_S1x512_S1x256_0_256)
  | 4 => k0_pay63 (F := Ideal) v (cols6 x6 1024 inb_S1024x3072_S1024x256_0_1024)
  | 5 => k0_pay63 (F := Ideal) v (cols6 x6 1280 inb_S1024x3072_S1024x256_0_1280)

/-- The four slabs: row `j` of slab `r` is row `4 j + r` of the tile. -/
def slabs : Vec Ideal S1x4x128x1536 .f32 := fun y =>
  chunkOf x6 x7 x8 x9 v ⟨(y 3).val / 256, by have h : (y 3).val < 1536 := (y 3).isLt; omega⟩
    (ix2 (⟨4 * (y 2).val + (y 1).val, by have h : (y 2).val < 128 := (y 2).isLt; have h' : (y 1).val < 4 := (y 1).isLt; omega⟩ : Fin 512)
      (⟨(y 3).val % 256, by omega⟩ : Fin 256))

/-- Chunk `c` of the other columns. -/
def restOf (c : Fin 6) : FVec Ideal S512x256 .f32 :=
  match c with
  | 0 => k0_pay63 (F := Ideal) v (cols6 x6 1536 inb_S1024x3072_S1024x256_0_1536)
  | 1 => k0_pay63 (F := Ideal) v (cols6 x6 1792 inb_S1024x3072_S1024x256_0_1792)
  | 2 => k0_pay63 (F := Ideal) v (cols6 x6 2048 inb_S1024x3072_S1024x256_0_2048)
  | 3 => k0_pay63 (F := Ideal) v (cols6 x6 2304 inb_S1024x3072_S1024x256_0_2304)
  | 4 => k0_pay63 (F := Ideal) v (cols6 x6 2560 inb_S1024x3072_S1024x256_0_2560)
  | 5 => k0_pay63 (F := Ideal) v (cols6 x6 2816 inb_S1024x3072_S1024x256_0_2816)

/-- The other columns. -/
def rest : Vec Ideal S512x1536 .f32 := fun y =>
  restOf x6 v ⟨(y 1).val / 256, by have h : (y 1).val < 1536 := (y 1).isLt; omega⟩
    (ix2 (y 0 : Fin 512) (⟨(y 1).val % 256, by omega⟩ : Fin 256))

end Cert.Pre.Body

end
-- ==== Proof.Pre.Rows.lean ====
/-
  What the first half of the layer computes for one token, over the extended reals, beyond the feed-forward block it shares
  with the second half: the projection of the normed row, the norm of a head's 64 columns, and the row of queries, keys and
  values. No program is mentioned here.
-/
module

public import proofs.«01_k».proof.Proof.Post.Rows

@[expose] public section

noncomputable section

namespace Cert.Pre.Rows

open Idealize.ShloMosaic
open Cert.Post.Rows
open scoped BigOperators

/-- The scale of the queries, by its float word. -/
def scale : EReal := Ideal.ofBits .f32 0x3E38AA3B#32

/-- A projected row. -/
def proj (n : Fin 1024 → EReal) (w : Fin 1024 → Fin 3072 → EReal) (e : Fin 3072) : EReal := ∑ k : Fin 1024, n k * w k e

/-- Column `j` of the head that column `e` lies in. -/
def mate (e : Fin 3072) (j : Fin 64) : Fin 3072 := ⟨64 * (e.val / 64) + j.val, by omega⟩

/-- A column scaled so that its head has unit mean square. -/
def headNorm (z : Fin 3072 → EReal) (e : Fin 3072) : EReal :=
  z e * Ideal.rsqrt (Ideal.div (∑ j : Fin 64, z (mate e j) * z (mate e j)) headDim + eps)

/-- Queries, keys and values of a token: the first 512 columns normed, times the gain and the scale; the next 512 normed,
    times the gain; the last 512 as they are. -/
def qkvRow (z : Fin 3072 → EReal) (qg kg : Fin 8 → Fin 64 → EReal) (e : Fin 1536) : EReal :=
  if h : e.val < 512 then headNorm z ⟨e.val, by omega⟩ * qg ⟨e.val / 64, by omega⟩ ⟨e.val % 64, by omega⟩ * scale
  else if h2 : e.val < 1024 then headNorm z ⟨e.val, by omega⟩ * kg ⟨(e.val - 512) / 64, by omega⟩ ⟨e.val % 64, by omega⟩
  else z ⟨e.val, by omega⟩

/-- The other 1536 projected columns. -/
def restRow (z : Fin 3072 → EReal) (e : Fin 1536) : EReal := z ⟨1536 + e.val, by omega⟩

/-- Token `4 s + r` of sequence `b`: row `s` of slab `r`. -/
def token (b : Fin 8) (r : Fin 4) (s : Fin 2048) : Fin 65536 := ⟨(b.val * 2048 + s.val) * 4 + r.val, by omega⟩

end Cert.Pre.Rows

end
-- ==== Proof.Pre.Pay.lean ====
/-
  The payloads at an index: the two norms, the hidden units, the rows with half the feed-forward block added, and the
  chunks of the projection, plain or normed per head.
-/
module

public import proofs.«01_k».proof.Proof.Pre.Body
public import proofs.«01_k».proof.Proof.Pre.Rows
public import Idealize.ShloMosaic.Lib.Pipeline.Value
public import Idealize.ShloMosaic.Lib.MatmulPlain
public import Idealize.ShloMosaic.Lib.IdealHost
public import Idealize.ShloMosaic.Lib.ValueLayout
public import Idealize.ShloMosaic.Lib.ValueLayoutCasts

@[expose] public section

set_option maxRecDepth 16384

noncomputable section

namespace Cert.Pre.Pay

open Idealize.ShloMosaic Idealize.ShloMosaic.TcCoe Idealize.ShloMosaic.ValueIdx
open Cert.PreIdeal Cert.PreIdeal.Gen
open Cert.Post.Rows Cert.Pre.Rows Cert.Pre.Body
open scoped BigOperators

/-! ## Norms and the feed-forward block -/

/-- The sum of a row's squares. -/
theorem rowSum (x : FVec Ideal S512x1024 .f32) (r : Fin 512) :
    multiReduction .add [1] S512 x 0x00000000#32 reduces_S512x1024_S512 (.inl rfl) rfl (ix1 r) = ∑ k : Fin 1024, x (ix2 r k) := by
  refine (Ideal.multiReduction_add_single x _ reduces_S512x1024_S512 (.inl rfl) rfl (ix1 r)).trans (Finset.sum_congr rfl fun k _ => congrArg x ?_)
  funext a
  match a with
  | ⟨0, _⟩ => rfl
  | ⟨1, _⟩ => rfl

theorem first (x : Vec Ideal S512x1024 .f32) (g : Vec Ideal S1x1024 .f32) (r : Fin 512) (d : Fin 1024) :
    k0_pay17 (F := Ideal) x g (ix2 r d) = normed (fun d => x (ix2 r d)) (fun d => g (ix2 0 d)) d := by
  unfold k0_pay17
  refine congrArg₂ (· * ·) (congrArg (x (ix2 r d) * ·) ?_) ?_
  · refine (broadcastTo_apply _ _ (ix2 r d) (ix2 r (0 : Fin 1)) fun a => ?_).trans ?_
    · match a with
      | ⟨0, _⟩ => rfl
      | ⟨1, _⟩ => rfl
    refine congrArg (fun z => Ideal.rsqrt (Ideal.div z modelDim + eps)) ?_
    exact (shapeCast_a_a1_apply _ _ r 0).trans (rowSum _ r)
  · rw [broadcastTo_1b_ab_apply, shapeCast_self]

/-- The plain product with a chunk of columns. -/
theorem product (n : FVec Ideal S512x1024 .bf16) (w : Vec Ideal S1024x256 .bf16) (r : Fin 512) (c : Fin 256) :
    k0_pay63 (F := Ideal) n w (ix2 r c) = ∑ k : Fin 1024, n (ix2 r k) * w (ix2 k c) :=
  (Ideal.matmul_plain_apply none _ _ _ r c).trans ((congrArg₂ (· + ·) Ideal.ofBits_zero_f32 rfl).trans ((zero_add _).trans
    (Finset.sum_congr rfl fun k _ => congrArg (n (ix2 r k) * ·) (congrFun (shapeCast_self (s := S1024x256) w _) (ix2 k c)))))

theorem chunk (n : FVec Ideal S512x1024 .bf16) (wg wu : Vec Ideal S1024x256 .bf16) (r : Fin 512) (c : Fin 256) :
    k0_pay33 (F := Ideal) n wg wu (ix2 r c)
      = swish (∑ k : Fin 1024, n (ix2 r k) * wg (ix2 k c)) * ∑ k : Fin 1024, n (ix2 r k) * wu (ix2 k c) := by
  unfold k0_pay33
  refine (congrFun (shapeCast_self (s := S512x256) _ _) (ix2 r c)).trans ?_
  exact congrArg₂ (· * ·) (congrArg swish (product n wg r c)) (product n wu r c)

theorem added (x : Vec Ideal S512x1024 .f32) (a : Vec Ideal S512x2816 .bf16) (w : Vec Ideal S2816x1024 .bf16) (r : Fin 512) (d : Fin 1024) :
    k0_pay103 (F := Ideal) x a w (ix2 r d) = x (ix2 r d) + half * ∑ f : Fin 2816, a (ix2 r f) * w (ix2 f d) := by
  unfold k0_pay103
  refine congrArg (x (ix2 r d) + half * ·) ?_
  exact (Ideal.matmul_plain_apply none _ _ _ r d).trans ((congrArg₂ (· + ·) Ideal.ofBits_zero_f32 rfl).trans ((zero_add _).trans
    (Finset.sum_congr rfl fun f _ => congrArg (a (ix2 r f) * ·) (congrFun (shapeCast_self (s := S2816x1024) w _) (ix2 f d)))))

theorem second (x : Vec Ideal S512x1024 .f32) (a : Vec Ideal S512x2816 .bf16) (w : Vec Ideal S2816x1024 .bf16) (g : Vec Ideal S1x1024 .f32)
    (r : Fin 512) (d : Fin 1024) :
    k0_pay1 (F := Ideal) (k0_pay103 (F := Ideal) x a w) (k0_pay106 (F := Ideal) g) (k0_pay107 (F := Ideal) x a w) (ix2 r d)
      = normed (fun d => k0_pay103 (F := Ideal) x a w (ix2 r d)) (fun d => g (ix2 0 d)) d := by
  unfold k0_pay1 k0_pay106 k0_pay107
  generalize k0_pay103 (F := Ideal) x a w = h
  refine (congrFun (shapeCast_self (s := S512x1024) _ _) (ix2 r d)).trans ?_
  refine congrArg₂ (· * ·) (congrArg (h (ix2 r d) * ·) ?_) ?_
  · refine (broadcastTo_apply _ _ (ix2 r d) (ix2 r (0 : Fin 1)) fun a => ?_).trans ?_
    · match a with
      | ⟨0, _⟩ => rfl
      | ⟨1, _⟩ => rfl
    refine congrArg (fun z => Ideal.rsqrt (Ideal.div z modelDim + eps)) ?_
    exact (shapeCast_a_a1_apply _ _ r 0).trans (rowSum _ r)
  · rw [broadcastTo_1b_ab_apply, shapeCast_self]

/-! ## Normed heads -/

/-- A column normed as the kernel takes it: the head's squares through a block-diagonal matrix of ones, times a 64th. -/
def headRow (z : Fin 256 → EReal) (bd : Vec Ideal S256x256 .bf16) (c : Fin 256) : EReal :=
  z c * Ideal.rsqrt ((∑ j : Fin 256, z j * z j * bd (ix2 j c)) * Ideal.ofBits .f32 0x3C800000#32 + eps)

/-- The head's squares through the matrix. -/
theorem squares (z : FVec Ideal S512x256 .f32) (bd : Vec Ideal S256x256 .bf16) (r : Fin 512) (c : Fin 256) :
    (matmul (φ₂ := .bf16) dot_S512x256_S256x256_S512x256_1_0_0_1_n_n none (truncf .bf16 (mulf z z) bitsLt_bf16_f32 : FVec Ideal S512x256 .bf16) bd
      (constant S512x256 .f32 0x00000000#32) : FVec Ideal S512x256 .f32) (ix2 r c) = ∑ j : Fin 256, z (ix2 r j) * z (ix2 r j) * bd (ix2 j c) :=
  (Ideal.matmul_plain_apply none _ _ _ r c).trans ((congrArg₂ (· + ·) Ideal.ofBits_zero_f32 rfl).trans (zero_add _))

/-- A chunk of the queries. -/
theorem query (bd : Vec Ideal S256x256 .bf16) (v : Vec Ideal S512x1024 .bf16) (w : Vec Ideal S1024x256 .bf16) (g : Vec Ideal S1x256 .f32)
    (r : Fin 512) (c : Fin 256) :
    k0_pay3 (F := Ideal) bd v w g (ix2 r c)
      = headRow (fun j => ∑ k : Fin 1024, v (ix2 r k) * w (ix2 k j)) bd c * (g (ix2 0 c) * scale) := by
  unfold k0_pay3
  refine congrArg₂ (· * ·) (congrArg₂ (· * ·) (product v w r c) (congrArg (fun z => Ideal.rsqrt (z * Ideal.ofBits .f32 0x3C800000#32 + eps)) ?_)) ?_
  · refine (squares _ bd r c).trans ?_
    exact Finset.sum_congr rfl fun j _ => congrArg (fun z : EReal => z * z * bd (ix2 j c)) (product v w r j)
  · refine (broadcastTo_1b_ab_apply _ _ r c).trans (congrArg (· * scale) ?_)
    rw [shapeCast_self]

/-- A chunk of the keys. -/
theorem key (bd : Vec Ideal S256x256 .bf16) (v : Vec Ideal S512x1024 .bf16) (w : Vec Ideal S1024x256 .bf16) (g : Vec Ideal S1x256 .f32)
    (r : Fin 512) (c : Fin 256) :
    k0_pay34 (F := Ideal) bd v w g (ix2 r c)
      = headRow (fun j => ∑ k : Fin 1024, v (ix2 r k) * w (ix2 k j)) bd c * g (ix2 0 c) := by
  unfold k0_pay34
  refine congrArg₂ (· * ·) (congrArg₂ (· * ·) (product v w r c) (congrArg (fun z => Ideal.rsqrt (z * Ideal.ofBits .f32 0x3C800000#32 + eps)) ?_)) ?_
  · refine (squares _ bd r c).trans ?_
    exact Finset.sum_congr rfl fun j _ => congrArg (fun z : EReal => z * z * bd (ix2 j c)) (product v w r j)
  · rw [broadcastTo_1b_ab_apply, shapeCast_self]

end Cert.Pre.Pay

end
-- ==== Proof.Pre.Units.lean ====
/-
  The scratch array of hidden units at an index: eleven stores side by side fill it.
-/
module

public import proofs.«01_k».proof.Proof.Pre.Pay

@[expose] public section

set_option maxRecDepth 16384

noncomputable section

namespace Cert.Pre.Units

open Idealize.ShloMosaic Idealize.ShloMosaic.TcCoe Idealize.ShloMosaic.ValueIdx
open Cert.PreIdeal Cert.PreIdeal.Gen
open Cert.Post.Rows Cert.Pre.Rows Cert.Pre.Body
open scoped BigOperators

theorem cols_apply (w : Vec Ideal S1024x2816 .bf16) (o : ℕ) (h) (k : Fin 1024) (c : Fin 256) (f : Fin 2816) (hf : f.val = o + c.val) :
    cols w o h (ix2 k c) = w (ix2 k f) :=
  View.ld_unit_apply_of w _ _ h _ (ix2 k f) fun a => by
    match a with
    | ⟨0, _⟩ => show k.val = 0 + k.val; omega
    | ⟨1, _⟩ => exact hf

section Units
variable (n : FVec Ideal S512x1024 .bf16) (wg wu : Vec Ideal S1024x2816 .bf16)

theorem piece_hit (o : ℕ) (hk) (h) (L : List UnitPiece) (r : Fin 512) (f : Fin 2816) (h1 : o ≤ f.val) (h2 : f.val < o + 256) :
    View.canon (piece n wg wu o hk h :: L) (ix2 r f)
      = Post.Rows.hidden (fun d => n (ix2 r d)) (fun k f => wg (ix2 k f)) (fun k f => wu (ix2 k f)) f := by
  have hf : f.val = o + (f.val - o) := by omega
  refine (Cert.Post.Planes.hit _ _ hk _ L _ (ix2 r (⟨f.val - o, by omega⟩ : Fin 256)) fun a => ?_).trans ((Pay.chunk n _ _ r _).trans ?_)
  · match a with
    | ⟨0, _⟩ => show r.val = 0 + r.val; omega
    | ⟨1, _⟩ => exact hf
  unfold Post.Rows.hidden
  have e : ∀ w : Vec Ideal S1024x2816 .bf16, (∑ k : Fin 1024, n (ix2 r k) * cols w o h (ix2 k (⟨f.val - o, by omega⟩ : Fin 256))) = ∑ k : Fin 1024, n (ix2 r k) * w (ix2 k f) :=
    fun w => Finset.sum_congr rfl fun k _ => congrArg (n (ix2 r k) * ·) (cols_apply w o h k _ f hf)
  rw [e, e]

theorem piece_miss (o : ℕ) (hk) (h) (L : List UnitPiece) (r : Fin 512) (f : Fin 2816) (h1 : f.val < o) :
    View.canon (piece n wg wu o hk h :: L) (ix2 r f) = View.canon L (ix2 r f) :=
  Cert.Post.Planes.miss _ _ hk _ L (ix2 r f) 1 (Or.inl h1)

theorem chunks_apply (r : Fin 512) (f : Fin 2816) : View.canon (chunks n wg wu) (ix2 r f)
    = Post.Rows.hidden (fun d => n (ix2 r d)) (fun k f => wg (ix2 k f)) (fun k f => wu (ix2 k f)) f := by
  unfold chunks
  by_cases h10 : 2560 ≤ f.val
  · exact piece_hit n wg wu _ _ _ _ r f h10 (by omega)
  refine (piece_miss n wg wu _ _ _ _ r f (by omega)).trans ?_
  by_cases h9 : 2304 ≤ f.val
  · exact piece_hit n wg wu _ _ _ _ r f h9 (by omega)
  refine (piece_miss n wg wu _ _ _ _ r f (by omega)).trans ?_
  by_cases h8 : 2048 ≤ f.val
  · exact piece_hit n wg wu _ _ _ _ r f h8 (by omega)
  refine (piece_miss n wg wu _ _ _ _ r f (by omega)).trans ?_
  by_cases h7 : 1792 ≤ f.val
  · exact piece_hit n wg wu _ _ _ _ r f h7 (by omega)
  refine (piece_miss n wg wu _ _ _ _ r f (by omega)).trans ?_
  by_cases h6 : 1536 ≤ f.val
  · exact piece_hit n wg wu _ _ _ _ r f h6 (by omega)
  refine (piece_miss n wg wu _ _ _ _ r f (by omega)).trans ?_
  by_cases h5 : 1280 ≤ f.val
  · exact piece_hit n wg wu _ _ _ _ r f h5 (by omega)
  refine (piece_miss n wg wu _ _ _ _ r f (by omega)).trans ?_
  by_cases h4 : 1024 ≤ f.val
  · exact piece_hit n wg wu _ _ _ _ r f h4 (by omega)
  refine (piece_miss n wg wu _ _ _ _ r f (by omega)).trans ?_
  by_cases h3 : 768 ≤ f.val
  · exact piece_hit n wg wu _ _ _ _ r f h3 (by omega)
  refine (piece_miss n wg wu _ _ _ _ r f (by omega)).trans ?_
  by_cases h2 : 512 ≤ f.val
  · exact piece_hit n wg wu _ _ _ _ r f h2 (by omega)
  refine (piece_miss n wg wu _ _ _ _ r f (by omega)).trans ?_
  by_cases h1 : 256 ≤ f.val
  · exact piece_hit n wg wu _ _ _ _ r f h1 (by omega)
  refine (piece_miss n wg wu _ _ _ _ r f (by omega)).trans ?_
  exact piece_hit n wg wu _ _ _ _ r f (by omega) (by omega)

end Units

end Cert.Pre.Units

end
-- ==== Proof.Pre.RefRow.lean ====
/-
  The reference of the layer's first half read at an index: the feed-forward block with its residual, the projection of the
  normed row, the normed heads, and the four slabs of queries, keys and values.
-/
module

public import proofs.«01_k».proof.Proof.Pre.Rows
public import proofs.«01_k».proof.Proof.Gen.PreRefIdeal.Read
public import Idealize.ShloMosaic.Lib.IdealHost

@[expose] public section

set_option maxRecDepth 16384

noncomputable section

namespace Cert.Pre.RefRow

open Idealize.ShloMosaic Idealize.ShloMosaic.ValueIdx
open Cert.PreRefIdeal Cert.PreRefIdeal.Read
open Cert.Post.Rows Cert.Pre.Rows
open scoped BigOperators

variable (x0 : FVec Ideal ⟨2, ![65536, 1024]⟩ .f32)
  (x1 : FVec Ideal ⟨1, ![1024]⟩ .f32)
  (x2 x3 : FVec Ideal ⟨2, ![1024, 2816]⟩ .f32)
  (x4 : FVec Ideal ⟨2, ![2816, 1024]⟩ .f32)
  (x5 : FVec Ideal ⟨1, ![1024]⟩ .f32)
  (x6 : FVec Ideal ⟨2, ![1024, 3072]⟩ .f32)
  (x7 x8 : FVec Ideal ⟨2, ![8, 64]⟩ .f32)

/-! ## The formulas' arguments, from the arrays -/

/-- The row plus half its feed-forward block. -/
def hRow (t : Fin 65536) : Fin 1024 → EReal :=
  ffn (fun d => x0 (ix2 t d)) (fun d => x1 (ix1 d)) (fun k f => x2 (ix2 k f)) (fun k f => x3 (ix2 k f)) (fun f d => x4 (ix2 f d))
/-- Its projection. -/
def zRow (t : Fin 65536) : Fin 3072 → EReal :=
  proj (normed (hRow x0 x1 x2 x3 x4 t) (fun d => x5 (ix1 d))) (fun k e => x6 (ix2 k e))
/-- Its queries, keys and values. -/
def aRow (t : Fin 65536) : Fin 1536 → EReal :=
  qkvRow (zRow x0 x1 x2 x3 x4 x5 x6 t) (fun h j => x7 (ix2 h j)) (fun h j => x8 (ix2 h j))

/-! ## The feed-forward block -/

theorem meanSquare (t : Fin 65536) :
    val_main_v1 (F := Ideal) x0 (ix1 t) = ∑ k : Fin 1024, x0 (ix2 t k) * x0 (ix2 t k) := by
  rw [val_main_v1_apply, val_main_cst_apply]
  refine (congrArg (· + _) Ideal.ofBits_zero_f32).trans ((zero_add _).trans (Finset.sum_congr rfl fun k _ => ?_))
  rw [show idx_main_v1 (ix1 t) k = ix2 t k from eq_ix2 _, val_main_v0_apply]; rfl

theorem norm (t : Fin 65536) (d : Fin 1024) :
    val_main_v12 (F := Ideal) x0 x1 (ix2 t d) = normed (fun d => x0 (ix2 t d)) (fun d => x1 (ix1 d)) d := by
  rw [val_main_v12_apply, val_main_v9_apply, val_main_v11_apply, val_main_v10_apply, val_main_v8_apply, val_main_v7_apply,
    val_main_v6_apply, val_main_v5_apply, val_main_cst_1_apply, val_main_v4_apply, val_main_v3_apply, val_main_cst_0_apply,
    val_main_v2_apply, show idx_main_v2 (idx_main_v8 (ix2 t d)) = ix1 t from eq_ix1 _, meanSquare,
    show idx_main_v10 (idx_main_v11 (ix2 t d)) = ix1 d from eq_ix1 _]
  rfl

theorem unit (t : Fin 65536) (f : Fin 2816) :
    val_main_v16 (F := Ideal) x0 x1 x2 x3 (ix2 t f)
      = hidden (normed (fun d => x0 (ix2 t d)) (fun d => x1 (ix1 d))) (fun k f => x2 (ix2 k f)) (fun k f => x3 (ix2 k f)) f := by
  have e1 : val_main_v13 (F := Ideal) x0 x1 x2 (ix2 t f)
      = ∑ k : Fin 1024, normed (fun d => x0 (ix2 t d)) (fun d => x1 (ix1 d)) k * x2 (ix2 k f) := by
    rw [val_main_v13_apply]
    refine Finset.sum_congr rfl fun k _ => ?_
    rw [show lidx_main_v13 (ix2 t f) k = ix2 t k from eq_ix2 _, show ridx_main_v13 (ix2 t f) k = ix2 k f from eq_ix2 _, norm]
  have e2 : val_main_v15 (F := Ideal) x0 x1 x3 (ix2 t f)
      = ∑ k : Fin 1024, normed (fun d => x0 (ix2 t d)) (fun d => x1 (ix1 d)) k * x3 (ix2 k f) := by
    rw [val_main_v15_apply]
    refine Finset.sum_congr rfl fun k _ => ?_
    rw [show lidx_main_v15 (ix2 t f) k = ix2 t k from eq_ix2 _, show ridx_main_v15 (ix2 t f) k = ix2 k f from eq_ix2 _, norm]
  rw [val_main_v16_apply, val_main_v14_apply, val_main_call0_v5_apply, val_main_call0_v4_apply, val_main_call0_cst_0_apply,
    val_main_call0_v3_apply, val_main_call0_v2_apply, val_main_call0_cst_apply, val_main_call0_v1_apply, val_main_call0_v0_apply, e1, e2]
  show _ * Ideal.div (Ideal.ofBits .f32 _) (Ideal.ofBits .f32 _ + _) * _ = _
  rw [Ideal.ofBits_one_f32]; rfl

/-- The first result at `(t, d)`. -/
theorem residual (t : Fin 65536) (d : Fin 1024) :
    val_main_v20 (F := Ideal) x0 x1 x2 x3 x4 (ix2 t d) = hRow x0 x1 x2 x3 x4 t d := by
  rw [val_main_v20_apply, val_main_v19_apply, val_main_v18_apply, val_main_cst_2_apply, val_main_v17_apply]
  refine congrArg (x0 (ix2 t d) + half * ·) (Finset.sum_congr rfl fun f _ => ?_)
  rw [show lidx_main_v17 (ix2 t d) f = ix2 t f from eq_ix2 _, show ridx_main_v17 (ix2 t d) f = ix2 f d from eq_ix2 _, unit]

/-! ## The projection -/

theorem meanSquare2 (t : Fin 65536) :
    val_main_v22 (F := Ideal) x0 x1 x2 x3 x4 (ix1 t) = ∑ k : Fin 1024, hRow x0 x1 x2 x3 x4 t k * hRow x0 x1 x2 x3 x4 t k := by
  rw [val_main_v22_apply, val_main_cst_3_apply]
  refine (congrArg (· + _) Ideal.ofBits_zero_f32).trans ((zero_add _).trans (Finset.sum_congr rfl fun k _ => ?_))
  rw [show idx_main_v22 (ix1 t) k = ix2 t k from eq_ix2 _, val_main_v21_apply, residual]; rfl

theorem norm2 (t : Fin 65536) (d : Fin 1024) :
    val_main_v33 (F := Ideal) x0 x1 x2 x3 x4 x5 (ix2 t d) = normed (hRow x0 x1 x2 x3 x4 t) (fun d => x5 (ix1 d)) d := by
  rw [val_main_v33_apply, val_main_v30_apply, val_main_v32_apply, val_main_v31_apply, val_main_v29_apply, val_main_v28_apply,
    val_main_v27_apply, val_main_v26_apply, val_main_cst_5_apply, val_main_v25_apply, val_main_v24_apply, val_main_cst_4_apply,
    val_main_v23_apply, residual, show idx_main_v23 (idx_main_v29 (ix2 t d)) = ix1 t from eq_ix1 _, meanSquare2,
    show idx_main_v31 (idx_main_v32 (ix2 t d)) = ix1 d from eq_ix1 _]
  rfl

theorem projected (t : Fin 65536) (e : Fin 3072) :
    val_main_v34 (F := Ideal) x0 x1 x2 x3 x4 x5 x6 (ix2 t e) = zRow x0 x1 x2 x3 x4 x5 x6 t e := by
  rw [val_main_v34_apply]
  unfold zRow proj
  refine Finset.sum_congr rfl fun k _ => ?_
  rw [show lidx_main_v34 (ix2 t e) k = ix2 t k from eq_ix2 _, show ridx_main_v34 (ix2 t e) k = ix2 k e from eq_ix2 _, norm2]

/-- The third result at `(t, e)`. -/
theorem rest (t : Fin 65536) (e : Fin 1536) :
    val_main_v73 (F := Ideal) x0 x1 x2 x3 x4 x5 x6 (ix2 t e) = restRow (zRow x0 x1 x2 x3 x4 x5 x6 t) e := by
  rw [val_main_v73_apply, show idx_main_v73 (ix2 t e) = ix2 t (⟨1536 + e.val, by omega⟩ : Fin 3072) from eq_ix2 _, projected]
  rfl

/-! ## The normed heads -/

/-- The column of head `h`'s place `j`, counted from `o`. -/
abbrev col (o : ℕ) (ho : o + 512 ≤ 3072) (h : Fin 8) (j : Fin 64) : Fin 3072 := ⟨o + (64 * h.val + j.val), by omega⟩

theorem mate_col (o : ℕ) (ho : o + 512 ≤ 3072) (h64 : o % 64 = 0) (h : Fin 8) (j k : Fin 64) : mate (col o ho h j) k = col o ho h k :=
  Fin.ext (by show 64 * ((o + (64 * h.val + j.val)) / 64) + k.val = o + (64 * h.val + k.val); omega)

theorem query (t : Fin 65536) (h : Fin 8) (j : Fin 64) :
    val_main_v36 (F := Ideal) x0 x1 x2 x3 x4 x5 x6 (ix3 t h j) = zRow x0 x1 x2 x3 x4 x5 x6 t (col 0 (by omega) h j) := by
  rw [val_main_v36_apply, val_main_v35_apply, ← projected]
  refine congrArg _ (funext fun a => Fin.ext ?_)
  match a with
  | ⟨0, _⟩ => show ((t.val * 8 + h.val) * 64 + j.val) / 512 = t.val; omega
  | ⟨1, _⟩ => show ((t.val * 8 + h.val) * 64 + j.val) % 512 = 0 + (64 * h.val + j.val); omega

theorem querySquare (t : Fin 65536) (h : Fin 8) :
    val_main_v38 (F := Ideal) x0 x1 x2 x3 x4 x5 x6 (ix2 t h)
      = ∑ j : Fin 64, zRow x0 x1 x2 x3 x4 x5 x6 t (col 0 (by omega) h j) * zRow x0 x1 x2 x3 x4 x5 x6 t (col 0 (by omega) h j) := by
  rw [val_main_v38_apply, val_main_cst_6_apply]
  refine (congrArg (· + _) Ideal.ofBits_zero_f32).trans ((zero_add _).trans (Finset.sum_congr rfl fun j _ => ?_))
  rw [show idx_main_v38 (ix2 t h) j = ix3 t h j from eq_ix3 _, val_main_v37_apply, query]; rfl

theorem queryNorm (t : Fin 65536) (h : Fin 8) (j : Fin 64) :
    val_main_v51 (F := Ideal) x0 x1 x2 x3 x4 x5 x6 x7 (ix3 t h j)
      = headNorm (zRow x0 x1 x2 x3 x4 x5 x6 t) (col 0 (by omega) h j) * x7 (ix2 h j) * scale := by
  rw [val_main_v51_apply, val_main_v50_apply, val_main_cst_9_apply, val_main_v49_apply, val_main_v48_apply, val_main_v47_apply,
    val_main_v46_apply, val_main_v45_apply, val_main_v44_apply, val_main_v43_apply, val_main_v42_apply, val_main_cst_8_apply,
    val_main_v41_apply, val_main_v40_apply, val_main_cst_7_apply, val_main_v39_apply, query,
    show idx_main_v39 (idx_main_v45 (ix3 t h j)) = ix2 t h from eq_ix2 _, querySquare,
    show idx_main_v47 (idx_main_v48 (ix3 t h j)) = ix2 h j from eq_ix2 _]
  unfold headNorm
  simp only [mate_col 0 (by omega) (by omega)]
  rfl

theorem key (t : Fin 65536) (h : Fin 8) (j : Fin 64) :
    val_main_v53 (F := Ideal) x0 x1 x2 x3 x4 x5 x6 (ix3 t h j) = zRow x0 x1 x2 x3 x4 x5 x6 t (col 512 (by omega) h j) := by
  rw [val_main_v53_apply, val_main_v52_apply, ← projected]
  refine congrArg _ (funext fun a => Fin.ext ?_)
  match a with
  | ⟨0, _⟩ => show ((t.val * 8 + h.val) * 64 + j.val) / 512 = t.val; omega
  | ⟨1, _⟩ => show 512 + ((t.val * 8 + h.val) * 64 + j.val) % 512 = 512 + (64 * h.val + j.val); omega

theorem keySquare (t : Fin 65536) (h : Fin 8) :
    val_main_v55 (F := Ideal) x0 x1 x2 x3 x4 x5 x6 (ix2 t h)
      = ∑ j : Fin 64, zRow x0 x1 x2 x3 x4 x5 x6 t (col 512 (by omega) h j) * zRow x0 x1 x2 x3 x4 x5 x6 t (col 512 (by omega) h j) := by
  rw [val_main_v55_apply, val_main_cst_10_apply]
  refine (congrArg (· + _) Ideal.ofBits_zero_f32).trans ((zero_add _).trans (Finset.sum_congr rfl fun j _ => ?_))
  rw [show idx_main_v55 (ix2 t h) j = ix3 t h j from eq_ix3 _, val_main_v54_apply, key]; rfl

theorem keyNorm (t : Fin 65536) (h : Fin 8) (j : Fin 64) :
    val_main_v66 (F := Ideal) x0 x1 x2 x3 x4 x5 x6 x8 (ix3 t h j)
      = headNorm (zRow x0 x1 x2 x3 x4 x5 x6 t) (col 512 (by omega) h j) * x8 (ix2 h j) := by
  rw [val_main_v66_apply, val_main_v65_apply, val_main_v64_apply, val_main_v63_apply, val_main_v62_apply, val_main_v61_apply,
    val_main_v60_apply, val_main_v59_apply, val_main_cst_12_apply, val_main_v58_apply, val_main_v57_apply, val_main_cst_11_apply,
    val_main_v56_apply, key, show idx_main_v56 (idx_main_v62 (ix3 t h j)) = ix2 t h from eq_ix2 _, keySquare,
    show idx_main_v64 (idx_main_v65 (ix3 t h j)) = ix2 h j from eq_ix2 _]
  unfold headNorm
  simp only [mate_col 512 (by omega) (by omega)]
  rfl

/-! ## The joined columns and the slabs -/

theorem joinedAt (p0 p1 p2 : S65536x512.Idx → EReal)
    (h : Shape.Concatenates ([⟨S65536x512, p0⟩, ⟨S65536x512, p1⟩, ⟨S65536x512, p2⟩].map (fun p : (s : Shape) × (s.Idx → EReal) => p.1)) S65536x1536 1)
    (t : Fin 65536) (e : Fin 1536) (q : Fin 512) :
    (0 + q.val = e.val → concatenate S65536x1536 1 [⟨S65536x512, p0⟩, ⟨S65536x512, p1⟩, ⟨S65536x512, p2⟩] h (ix2 t e) = p0 (ix2 t q))
    ∧ (512 + q.val = e.val → concatenate S65536x1536 1 [⟨S65536x512, p0⟩, ⟨S65536x512, p1⟩, ⟨S65536x512, p2⟩] h (ix2 t e) = p1 (ix2 t q))
    ∧ (1024 + q.val = e.val → concatenate S65536x1536 1 [⟨S65536x512, p0⟩, ⟨S65536x512, p1⟩, ⟨S65536x512, p2⟩] h (ix2 t e) = p2 (ix2 t q)) := by
  have off : ∀ a : Fin 2, a ≠ 1 → ((ix2 t q : S65536x512.Idx) a : ℕ) = ((ix2 t e : S65536x1536.Idx) a : ℕ) := fun a ha => by
    match a with
    | ⟨0, _⟩ => rfl
    | ⟨1, _⟩ => exact absurd rfl ha
  exact ⟨fun hk => concatenate_apply_piece (t := S65536x1536) (1 : Fin 2) [⟨S65536x512, p0⟩, ⟨S65536x512, p1⟩, ⟨S65536x512, p2⟩] h
      (ix2 t e) 0 (by show 0 < 3; decide) S65536x512 p0 rfl rfl 0 rfl (ix2 t q) off hk,
    fun hk => concatenate_apply_piece (t := S65536x1536) (1 : Fin 2) [⟨S65536x512, p0⟩, ⟨S65536x512, p1⟩, ⟨S65536x512, p2⟩] h
      (ix2 t e) 1 (by show 1 < 3; decide) S65536x512 p1 rfl rfl 512 rfl (ix2 t q) off hk,
    fun hk => concatenate_apply_piece (t := S65536x1536) (1 : Fin 2) [⟨S65536x512, p0⟩, ⟨S65536x512, p1⟩, ⟨S65536x512, p2⟩] h
      (ix2 t e) 2 (by show 2 < 3; decide) S65536x512 p2 rfl rfl 1024 rfl (ix2 t q) off hk⟩

theorem merge (t : Fin 65536) (q : Fin 512) :
    idx_main_v67 (ix2 t q) = ix3 t (⟨q.val / 64, by omega⟩ : Fin 8) (⟨q.val % 64, by omega⟩ : Fin 64) := by
  refine funext fun a => Fin.ext ?_
  match a with
  | ⟨0, _⟩ => show (t.val * 512 + q.val) / 512 = t.val; omega
  | ⟨1, _⟩ => show (t.val * 512 + q.val) / 64 % 8 = q.val / 64; omega
  | ⟨2, _⟩ => show (t.val * 512 + q.val) % 64 = q.val % 64; omega

theorem joined (t : Fin 65536) (e : Fin 1536) :
    val_main_v70 (F := Ideal) x0 x1 x2 x3 x4 x5 x6 x7 x8 (ix2 t e) = aRow x0 x1 x2 x3 x4 x5 x6 x7 x8 t e := by
  unfold val_main_v70 aRow qkvRow
  by_cases h : e.val < 512
  · rw [dif_pos h]
    refine ((joinedAt _ _ _ _ t e ⟨e.val, h⟩).1 (Nat.zero_add _)).trans ?_
    rw [val_main_v67_apply, merge, queryNorm]
    refine congrArg (headNorm _ · * _ * _) (Fin.ext ?_)
    show 0 + (64 * (e.val / 64) + e.val % 64) = e.val
    omega
  · rw [dif_neg h]
    by_cases h2 : e.val < 1024
    · rw [dif_pos h2]
      refine ((joinedAt _ _ _ _ t e ⟨e.val - 512, by omega⟩).2.1 (by show 512 + (e.val - 512) = e.val; omega)).trans ?_
      rw [val_main_v68_apply, show idx_main_v68 _ = _ from merge t _, keyNorm]
      refine congrArg₂ (· * ·) (congrArg (headNorm _) (Fin.ext ?_)) (congrArg x8 (congrArg (ix2 _) (Fin.ext ?_)))
      · show 512 + (64 * ((e.val - 512) / 64) + (e.val - 512) % 64) = e.val
        omega
      · show (e.val - 512) % 64 = e.val % 64
        omega
    · rw [dif_neg h2]
      refine ((joinedAt _ _ _ _ t e ⟨e.val - 1024, by omega⟩).2.2 (by show 1024 + (e.val - 1024) = e.val; omega)).trans ?_
      rw [val_main_v69_apply, ← projected]
      refine congrArg _ (funext fun a => Fin.ext ?_)
      match a with
      | ⟨0, _⟩ => rfl
      | ⟨1, _⟩ => show 1024 + (e.val - 1024) = e.val; omega

/-- The second result at `(b, r, s, e)`. -/
theorem slabs (b : Fin 8) (r : Fin 4) (s : Fin 2048) (e : Fin 1536) :
    val_main_v72 (F := Ideal) x0 x1 x2 x3 x4 x5 x6 x7 x8 (ix4 b r s e) = aRow x0 x1 x2 x3 x4 x5 x6 x7 x8 (token b r s) e := by
  rw [val_main_v72_apply, val_main_v71_apply, ← joined]
  refine congrArg _ (funext fun a => Fin.ext ?_)
  match a with
  | ⟨0, _⟩ => show (((b.val * 2048 + s.val) * 4 + r.val) * 1536 + e.val) / 1536 = (b.val * 2048 + s.val) * 4 + r.val; omega
  | ⟨1, _⟩ => show (((b.val * 2048 + s.val) * 4 + r.val) * 1536 + e.val) % 1536 = e.val; omega

end Cert.Pre.RefRow

end
-- ==== Proof.Pre.Tile.lean ====
/-
  One tile of 512 tokens: at blocks that are what the arrays hold, the written-out block is the layer's first half, token
  by token.
-/
module

public import proofs.«01_k».proof.Proof.Pre.Units
public import proofs.«01_k».proof.Proof.Pre.RefRow
public import proofs.«01_k».proof.Proof.Post.Tile

@[expose] public section

set_option maxRecDepth 16384

noncomputable section

namespace Cert.Pre.Tile

open Idealize.ShloMosaic Idealize.ShloMosaic.TcCoe Idealize.ShloMosaic.ValueIdx
open Cert.PreIdeal Cert.PreIdeal.Gen
open Cert.Post.Rows Cert.Pre.Rows Cert.Pre.Body Cert.Pre.RefRow
open scoped BigOperators

/-- Token `r` of tile `p`. -/
def tok (p : Fin 128) (r : Fin 512) : Fin 65536 := ⟨512 * p.val + r.val, by omega⟩

variable (x0 : Vec Ideal S512x1024 .f32) (x1 : Vec Ideal S1x1024 .f32) (x2 x3 : Vec Ideal S1024x2816 .bf16) (x4 : Vec Ideal S2816x1024 .bf16)
  (x5 : Vec Ideal S1x1024 .f32) (x6 : Vec Ideal S1024x3072 .bf16) (x7 x8 : Vec Ideal S1x512 .f32) (x9 : Vec Ideal S256x256 .bf16)
  (v : Vec Ideal S512x1024 .bf16)
  (X0 : FVec Ideal ⟨2, ![65536, 1024]⟩ .f32) (X1 : FVec Ideal ⟨1, ![1024]⟩ .f32) (X2 X3 : FVec Ideal ⟨2, ![1024, 2816]⟩ .f32)
  (X4 : FVec Ideal ⟨2, ![2816, 1024]⟩ .f32) (X5 : FVec Ideal ⟨1, ![1024]⟩ .f32) (X6 : FVec Ideal ⟨2, ![1024, 3072]⟩ .f32)
  (X7 X8 : FVec Ideal ⟨2, ![8, 64]⟩ .f32) (p : Fin 128)

/-- The blocks of the feed-forward part are what the arrays hold for tile `p`. -/
structure Rows1 : Prop where
  rows : ∀ (r : Fin 512) (d : Fin 1024), x0 (ix2 r d) = X0 (ix2 (tok p r) d)
  gain1 : ∀ d : Fin 1024, x1 (ix2 0 d) = X1 (ix1 d)
  wGate : ∀ (k : Fin 1024) (f : Fin 2816), x2 (ix2 k f) = X2 (ix2 k f)
  wUp : ∀ (k : Fin 1024) (f : Fin 2816), x3 (ix2 k f) = X3 (ix2 k f)
  wDown : ∀ (f : Fin 2816) (d : Fin 1024), x4 (ix2 f d) = X4 (ix2 f d)
  gain2 : ∀ d : Fin 1024, x5 (ix2 0 d) = X5 (ix1 d)

/-- The blocks of the projection are what the arrays hold, and the carried rows are the normed rows of tile `p`. -/
structure Rows2 : Prop where
  carried : ∀ (r : Fin 512) (k : Fin 1024), v (ix2 r k) = normed (hRow X0 X1 X2 X3 X4 (tok p r)) (fun d => X5 (ix1 d)) k
  wIn : ∀ (k : Fin 1024) (e : Fin 3072), x6 (ix2 k e) = X6 (ix2 k e)
  queryGain : ∀ e : Fin 512, x7 (ix2 0 e) = X7 (ix2 (⟨e.val / 64, by omega⟩ : Fin 8) (⟨e.val % 64, by omega⟩ : Fin 64))
  keyGain : ∀ e : Fin 512, x8 (ix2 0 e) = X8 (ix2 (⟨e.val / 64, by omega⟩ : Fin 8) (⟨e.val % 64, by omega⟩ : Fin 64))
  headIn : ∀ (g : Fin 4) (j k : Fin 64), x9 (ix2 (at_ g j) (at_ g k)) = 1
  headOut : ∀ j c : Fin 256, grp j ≠ grp c → x9 (ix2 j c) = 0

section First
variable {x0 x1 x2 x3 x4 x5 X0 X1 X2 X3 X4 X5 p} (H : Rows1 x0 x1 x2 x3 x4 x5 X0 X1 X2 X3 X4 X5 p)
include H

theorem units_eq (r : Fin 512) (f : Fin 2816) : Body.units x0 x1 x2 x3 (ix2 r f)
    = Post.Rows.hidden (normed (fun d => X0 (ix2 (tok p r) d)) (fun d => X1 (ix1 d))) (fun k f => X2 (ix2 k f)) (fun k f => X3 (ix2 k f)) f := by
  unfold Body.units
  have e : (Rect.unit (s := S512x2816) ![0, 0] S512x2816.size inb_S512x2816_S512x2816_0_0).toLoadRect.idx (ix2 r f) = ix2 r f := by
    refine funext fun a => Fin.ext ?_
    match a with
    | ⟨0, _⟩ => show 0 + 1 * r.val = r.val; omega
    | ⟨1, _⟩ => show 0 + 1 * f.val = f.val; omega
  rw [e, Units.chunks_apply]
  have e1 : (fun d => k0_pay17 (F := Ideal) x0 x1 (ix2 r d)) = normed (fun d => X0 (ix2 (tok p r) d)) (fun d => X1 (ix1 d)) := by
    refine funext fun d => (Pay.first x0 x1 r d).trans ?_
    rw [show (fun d => x0 (ix2 r d)) = fun d => X0 (ix2 (tok p r) d) from funext (H.rows r), show (fun d => x1 (ix2 0 d)) = fun d => X1 (ix1 d) from funext H.gain1]
  have e2 : (fun (k : Fin 1024) (f : Fin 2816) => x2 (ix2 k f)) = fun k f => X2 (ix2 k f) := funext fun k => funext (H.wGate k)
  have e3 : (fun (k : Fin 1024) (f : Fin 2816) => x3 (ix2 k f)) = fun k f => X3 (ix2 k f) := funext fun k => funext (H.wUp k)
  rw [e1, e2, e3]

/-- The rows with half the block added. -/
theorem res_eq (r : Fin 512) (d : Fin 1024) : Body.res x0 x1 x2 x3 x4 (ix2 r d) = hRow X0 X1 X2 X3 X4 (tok p r) d := by
  refine (Pay.added _ _ _ r d).trans ?_
  refine congrArg₂ (· + ·) (H.rows r d) (congrArg (half * ·) (Finset.sum_congr rfl fun f _ => ?_))
  exact congrArg₂ (· * ·) (units_eq H r f) (H.wDown f d)

/-- Those rows normed. -/
theorem nrm_eq (r : Fin 512) (d : Fin 1024) :
    Body.nrm x0 x1 x2 x3 x4 x5 (ix2 r d) = normed (hRow X0 X1 X2 X3 X4 (tok p r)) (fun d => X5 (ix1 d)) d := by
  refine (Pay.second _ _ _ _ r d).trans ?_
  have e : (fun d => k0_pay103 (F := Ideal) x0 (Body.units x0 x1 x2 x3) x4 (ix2 r d)) = hRow X0 X1 X2 X3 X4 (tok p r) := funext (res_eq H r)
  rw [e, show (fun d => x5 (ix2 0 d)) = fun d => X5 (ix1 d) from funext H.gain2]

end First

/-! ## The projection -/

section Second
variable {x6 x7 x8 x9 v X0 X1 X2 X3 X4 X5 X6 X7 X8 p} (H : Rows2 x6 x7 x8 x9 v X0 X1 X2 X3 X4 X5 X6 X7 X8 p)
include H

/-- A product with a chunk of the projection's columns. -/
theorem column (o : ℕ) (h) (ho : o + 256 ≤ 3072) (r : Fin 512) (j : Fin 256) :
    (∑ k : Fin 1024, v (ix2 r k) * cols6 x6 o h (ix2 k j)) = zRow X0 X1 X2 X3 X4 X5 X6 (tok p r) ⟨o + j.val, by omega⟩ := by
  unfold zRow proj
  refine Finset.sum_congr rfl fun k _ => congrArg₂ (· * ·) (H.carried r k) (Eq.trans ?_ (H.wIn k _))
  exact View.ld_unit_apply_of x6 _ _ h _ (ix2 k (⟨o + j.val, by omega⟩ : Fin 3072)) fun a => by
    match a with
    | ⟨0, _⟩ => show k.val = 0 + k.val; omega
    | ⟨1, _⟩ => rfl

/-- The kernel's head norm is the reference's. -/
theorem normedHead (z : Fin 3072 → EReal) (o : ℕ) (ho : o + 256 ≤ 3072) (h64 : o % 64 = 0) (d : Fin 256) :
    Pay.headRow (fun j => z ⟨o + j.val, by omega⟩) x9 d = headNorm z ⟨o + d.val, by omega⟩ := by
  unfold Pay.headRow headNorm
  refine congrArg (fun s => z ⟨o + d.val, by omega⟩ * Ideal.rsqrt (s + eps)) ?_
  rw [Cert.Post.Tile.mul_sixtyFourth]
  refine congrArg (fun s => Ideal.div s headDim) ?_
  refine (Cert.Post.PayPool.blockSum (fun j => z ⟨o + j.val, by omega⟩ * z ⟨o + j.val, by omega⟩) (fun j => x9 (ix2 j d)) (fun _ => 1) (grp d)
    (fun j => ?_) fun j h => H.headOut j d h).trans (Finset.sum_congr rfl fun j _ => ?_)
  · have := H.headIn (grp d) j (lane d)
    rwa [at_grp_lane] at this
  · rw [mul_one]
    have e : (⟨o + (at_ (grp d) j).val, by omega⟩ : Fin 3072) = mate ⟨o + d.val, by omega⟩ j :=
      Fin.ext (by show o + (64 * (d.val / 64) + j.val) = 64 * ((o + d.val) / 64) + j.val; omega)
    rw [e]

/-- A chunk of a gain. -/
theorem gainAt (g : Vec Ideal S1x512 .f32) (X : FVec Ideal ⟨2, ![8, 64]⟩ .f32)
    (hg : ∀ e : Fin 512, g (ix2 0 e) = X (ix2 (⟨e.val / 64, by omega⟩ : Fin 8) (⟨e.val % 64, by omega⟩ : Fin 64)))
    (o : ℕ) (h) (ho : o + 256 ≤ 512) (d : Fin 256) :
    gain g o h (ix2 0 d) = X (ix2 (⟨(o + d.val) / 64, by omega⟩ : Fin 8) (⟨(o + d.val) % 64, by omega⟩ : Fin 64)) := by
  refine Eq.trans ?_ (hg (⟨o + d.val, by omega⟩ : Fin 512))
  exact View.ld_unit_apply_of g _ _ h _ (ix2 0 (⟨o + d.val, by omega⟩ : Fin 512)) fun a => by
    match a with
    | ⟨0, _⟩ => rfl
    | ⟨1, _⟩ => rfl

theorem queryAt (o : ℕ) (h) (h') (ho : o + 256 ≤ 512) (h64 : o % 64 = 0) (r : Fin 512) (d : Fin 256) :
    k0_pay3 (F := Ideal) x9 v (cols6 x6 o h) (gain x7 o h') (ix2 r d) = aRow X0 X1 X2 X3 X4 X5 X6 X7 X8 (tok p r) ⟨o + d.val, by omega⟩ := by
  rw [Pay.query, gainAt H x7 X7 H.queryGain o h' ho d,
    show (fun j => ∑ k : Fin 1024, v (ix2 r k) * cols6 x6 o h (ix2 k j)) = fun j => zRow X0 X1 X2 X3 X4 X5 X6 (tok p r) ⟨o + j.val, by omega⟩ from
      funext (column H o h (by omega) r), normedHead H _ o (by omega) h64 d]
  unfold aRow qkvRow
  rw [dif_pos (show (⟨o + d.val, by omega⟩ : Fin 1536).val < 512 by show o + d.val < 512; omega)]
  exact (mul_assoc _ _ _).symm

theorem keyAt (o o' : ℕ) (h) (h') (hoo : o = o' + 512) (ho : o' + 256 ≤ 512) (h64 : o' % 64 = 0) (r : Fin 512) (d : Fin 256) :
    k0_pay34 (F := Ideal) x9 v (cols6 x6 o h) (gain x8 o' h') (ix2 r d) = aRow X0 X1 X2 X3 X4 X5 X6 X7 X8 (tok p r) ⟨o + d.val, by omega⟩ := by
  rw [Pay.key, gainAt H x8 X8 H.keyGain o' h' ho d,
    show (fun j => ∑ k : Fin 1024, v (ix2 r k) * cols6 x6 o h (ix2 k j)) = fun j => zRow X0 X1 X2 X3 X4 X5 X6 (tok p r) ⟨o + j.val, by omega⟩ from
      funext (column H o h (by omega) r), normedHead H _ o (by omega) (by omega) d]
  unfold aRow qkvRow
  rw [dif_neg (show ¬(⟨o + d.val, by omega⟩ : Fin 1536).val < 512 by show ¬o + d.val < 512; omega),
    dif_pos (show (⟨o + d.val, by omega⟩ : Fin 1536).val < 1024 by show o + d.val < 1024; omega)]
  refine congrArg (_ * ·) (congrArg X8 (congrArg₂ ix2 (Fin.ext ?_) (Fin.ext ?_)))
  · show (o' + d.val) / 64 = (o + d.val - 512) / 64
    omega
  · show (o' + d.val) % 64 = (o + d.val) % 64
    omega

theorem valueAt (o : ℕ) (h) (ho : o + 256 ≤ 1536) (ho' : 1024 ≤ o) (r : Fin 512) (d : Fin 256) :
    k0_pay63 (F := Ideal) v (cols6 x6 o h) (ix2 r d) = aRow X0 X1 X2 X3 X4 X5 X6 X7 X8 (tok p r) ⟨o + d.val, by omega⟩ := by
  rw [Pay.product]
  refine (column H o h (by omega) r d).trans ?_
  unfold aRow qkvRow
  rw [dif_neg (show ¬(⟨o + d.val, by omega⟩ : Fin 1536).val < 512 by show ¬o + d.val < 512; omega),
    dif_neg (show ¬(⟨o + d.val, by omega⟩ : Fin 1536).val < 1024 by show ¬o + d.val < 1024; omega)]

/-- A chunk of queries, keys and values. -/
theorem chunk_eq (c : Fin 6) (r : Fin 512) (d : Fin 256) :
    Body.chunkOf x6 x7 x8 x9 v c (ix2 r d) = aRow X0 X1 X2 X3 X4 X5 X6 X7 X8 (tok p r) ⟨256 * c.val + d.val, by omega⟩ := by
  match c with
  | 0 => exact queryAt H 0 _ _ (by omega) (by omega) r d
  | 1 => exact queryAt H 256 _ _ (by omega) (by omega) r d
  | 2 => exact keyAt H 512 0 _ _ (by omega) (by omega) (by omega) r d
  | 3 => exact keyAt H 768 256 _ _ (by omega) (by omega) (by omega) r d
  | 4 => exact valueAt H 1024 _ (by omega) (by omega) r d
  | 5 => exact valueAt H 1280 _ (by omega) (by omega) r d

/-- The slabs: row `j` of slab `s` is token `4 j + s` of the tile. -/
theorem slabs_eq (s : Fin 4) (j : Fin 128) (e : Fin 1536) :
    Body.slabs x6 x7 x8 x9 v (ix4 0 s j e) = aRow X0 X1 X2 X3 X4 X5 X6 X7 X8 (tok p ⟨4 * j.val + s.val, by omega⟩) e := by
  refine (chunk_eq H ⟨e.val / 256, by omega⟩ ⟨4 * j.val + s.val, by omega⟩ ⟨e.val % 256, by omega⟩).trans (congrArg _ (Fin.ext ?_))
  show 256 * (e.val / 256) + e.val % 256 = e.val
  omega

theorem restAt (o o' : ℕ) (h) (hoo : o = 1536 + o') (ho : o' + 256 ≤ 1536) (r : Fin 512) (d : Fin 256) :
    k0_pay63 (F := Ideal) v (cols6 x6 o h) (ix2 r d) = restRow (zRow X0 X1 X2 X3 X4 X5 X6 (tok p r)) ⟨o' + d.val, by omega⟩ := by
  rw [Pay.product]
  refine (column H o h (by omega) r d).trans ?_
  unfold restRow
  refine congrArg _ (Fin.ext ?_)
  show o + d.val = 1536 + (o' + d.val)
  omega

theorem other_eq (c : Fin 6) (r : Fin 512) (d : Fin 256) :
    Body.restOf x6 v c (ix2 r d) = restRow (zRow X0 X1 X2 X3 X4 X5 X6 (tok p r)) ⟨256 * c.val + d.val, by omega⟩ := by
  match c with
  | 0 => exact restAt H 1536 0 _ (by omega) (by omega) r d
  | 1 => exact restAt H 1792 256 _ (by omega) (by omega) r d
  | 2 => exact restAt H 2048 512 _ (by omega) (by omega) r d
  | 3 => exact restAt H 2304 768 _ (by omega) (by omega) r d
  | 4 => exact restAt H 2560 1024 _ (by omega) (by omega) r d
  | 5 => exact restAt H 2816 1280 _ (by omega) (by omega) r d

/-- The other columns. -/
theorem rest_eq (r : Fin 512) (e : Fin 1536) :
    Body.rest x6 v (ix2 r e) = restRow (zRow X0 X1 X2 X3 X4 X5 X6 (tok p r)) e := by
  refine (other_eq H ⟨e.val / 256, by omega⟩ r ⟨e.val % 256, by omega⟩).trans (congrArg _ (Fin.ext ?_))
  show 256 * (e.val / 256) + e.val % 256 = e.val
  omega

end Second

end Cert.Pre.Tile

end
-- ==== Proof.Pre.TermNrm.lean ====
/-
  What a grid point keeps for the next is the written-out normed rows.
-/
module

public import proofs.«01_k».proof.Proof.Gen.PreIdeal.Frame
public import proofs.«01_k».proof.Proof.Pre.Body
public import Idealize.ShloMosaic.Lib.Pipeline.Value

@[expose] public section

set_option maxRecDepth 16384

noncomputable section

namespace Cert.Pre.Term

open Idealize.ShloMosaic Idealize.ShloMosaic.TcCoe Idealize.ShloMosaic.Tactic
open Cert.PreIdeal Cert.PreIdeal.Gen

variable (m : (ℓ : Loc nD τ sig) → Buf (Elt Ideal) ℓ)

/-- A list whose last store fills the block. -/
theorem whole_head (w : Vec Ideal S512x1024 .bf16) (L : List (View.Piece (Elt Ideal) S512x1024 .bf16)) (h) :
    View.canon ((⟨Rect.unit (s := S512x1024) ![0, 0] S512x1024.size h, w⟩ : View.Piece (Elt Ideal) S512x1024 .bf16) :: L) = w :=
  funext fun y => Cert.Post.Planes.hit _ _ h w L y y fun a => by
    match a with
    | ⟨0, _⟩ => exact (Nat.zero_add _).symm
    | ⟨1, _⟩ => exact (Nat.zero_add _).symm

set_option maxHeartbeats 4000000 in
theorem nrm_A (c : Dev nD) (t : Fin cfg0.N) (h0 : t.val % 129 = 0) :
    (outsAt0 (F := Ideal) m c t.val t.isLt).2.2.2 = Body.nrm (iblk m c 0 t) (iblk m c 1 t) (iblk m c 2 t) (iblk m c 3 t) (iblk m c 4 t) (iblk m c 5 t) := by
  rw [outsAt0_A m c t h0]
  dsimp only
  unfold sout0_A_2
  rw [View.read_writes_eq_canon (Val := Elt Ideal) _ _ _ (fun y => scover0_A_2 c _ _ _ _ _ _ _ _ _ _ _ _ _ _ _ _ _ _ _ _ _ _ _ _ _ _ _ _ _ _ _ _ _ _ _ _ _ _ _ _ _ _ _ _ y)]
  unfold kernelRun0_A
  dsimp only
  have z2 : (![0, 0] : Fin 2 → ℕ) = fun _ => 0 := by funext a; match a with | ⟨0, _⟩ => rfl | ⟨1, _⟩ => rfl
  refine (whole_head _ _ _).trans ?_
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  sl_unfold_words
  simp only [View.readCov_eq_canon', View.readAt_eq_ld, Memref.IsWhole.read_unread,
    View.ld_unit_zero (S := S512x1024) z2, View.ld_unit_zero (S := S1x1024) z2, View.ld_unit_zero (S := S2816x1024) z2, View.ld_unit_zero (S := S256x256) z2]
  rfl

set_option maxHeartbeats 4000000 in
theorem nrm_B (c : Dev nD) (t : Fin cfg0.N) (h0 : ¬t.val % 129 = 0) :
    (outsAt0 (F := Ideal) m c t.val t.isLt).2.2.2 = Body.nrm (iblk m c 0 t) (iblk m c 1 t) (iblk m c 2 t) (iblk m c 3 t) (iblk m c 4 t) (iblk m c 5 t) := by
  rw [outsAt0_B m c t h0]
  dsimp only
  unfold sout0_B_2
  rw [View.read_writes_eq_canon (Val := Elt Ideal) _ _ _ (fun y => scover0_B_2 c _ _ _ _ _ _ _ _ _ _ _ _ _ _ _ _ _ _ _ _ _ _ _ _ _ _ _ _ _ _ _ _ _ _ _ _ _ _ _ _ _ _ _ _ _ y)]
  unfold kernelRun0_B
  dsimp only
  have z2 : (![0, 0] : Fin 2 → ℕ) = fun _ => 0 := by funext a; match a with | ⟨0, _⟩ => rfl | ⟨1, _⟩ => rfl
  refine (whole_head _ _ _).trans ?_
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  sl_unfold_words
  simp only [View.readCov_eq_canon', View.readAt_eq_ld, Memref.IsWhole.read_unread,
    View.ld_unit_zero (S := S512x1024) z2, View.ld_unit_zero (S := S1x1024) z2, View.ld_unit_zero (S := S2816x1024) z2, View.ld_unit_zero (S := S256x256) z2]
  rfl

/-- The normed rows a point keeps, whichever point it is. -/
theorem nrm (c : Dev nD) (t : Fin cfg0.N) :
    (outsAt0 (F := Ideal) m c t.val t.isLt).2.2.2 = Body.nrm (iblk m c 0 t) (iblk m c 1 t) (iblk m c 2 t) (iblk m c 3 t) (iblk m c 4 t) (iblk m c 5 t) :=
  (Decidable.em (t.val % 129 = 0)).elim (nrm_A m c t) (nrm_B m c t)

end Cert.Pre.Term

end
-- ==== Proof.Pre.Stage.lean ====
/-
  The blocks a grid point works on are what the arguments and the prepared arrays hold for one tile of 512 tokens: at
  point `t` the rows of tile `min t 127`, and the normed rows kept from the point before are those of tile `t - 1`.
-/
module

public import proofs.«01_k».proof.Proof.Pre.Host
public import proofs.«01_k».proof.Proof.Pre.Tile
public import proofs.«01_k».proof.Proof.Pre.TermNrm
public import Idealize.ShloMosaic.Lib.Pipeline.Value

@[expose] public section

set_option maxRecDepth 16384

noncomputable section

namespace Cert.Pre.Stage

open Idealize.ShloMosaic Idealize.ShloMosaic.TcCoe Idealize.ShloMosaic.ValueIdx
open Cert.PreIdeal Cert.PreIdeal.Gen Idealize.SL.Sem
open Cert.Post.Rows Cert.Pre.Rows Cert.Pre.RefRow Cert.Pre.Tile

/-- The tile whose rows a point takes in. -/
def pOf (t : Fin cfg0.N) : Fin 128 := ⟨min t.val 127, by omega⟩

/-! ## The index maps over the grid -/

theorem idx_rows : ∀ t : Fin cfg0.N, win0_0.index t = ![(pOf t).val, 0] ∧ win0_10.index t = ![(pOf t).val, 0] :=
  (by decide +kernel : ∀ t : Fin grid0.N, win0_0.index t = ![min t.val 127, 0] ∧ win0_10.index t = ![min t.val 127, 0])

theorem idx_late : ∀ t : Fin cfg0.N, win0_11.index t = ![(t.val - 1) / 16, 0, (t.val - 1) % 16, 0] ∧ win0_12.index t = ![t.val - 1, 0] :=
  (by decide +kernel : ∀ t : Fin grid0.N, win0_11.index t = ![(t.val - 1) / 16, 0, (t.val - 1) % 16, 0] ∧ win0_12.index t = ![t.val - 1, 0])

theorem idx_whole : ∀ t : Fin cfg0.N, (∀ a, win0_1.index t a = 0) ∧ (∀ a, win0_2.index t a = 0) ∧ (∀ a, win0_3.index t a = 0) ∧ (∀ a, win0_4.index t a = 0) ∧ (∀ a, win0_5.index t a = 0) ∧ (∀ a, win0_6.index t a = 0) ∧ (∀ a, win0_7.index t a = 0) ∧ (∀ a, win0_8.index t a = 0) ∧ (∀ a, win0_9.index t a = 0) :=
  (by decide +kernel : ∀ t : Fin grid0.N, (∀ a, win0_1.index t a = 0) ∧ (∀ a, win0_2.index t a = 0) ∧ (∀ a, win0_3.index t a = 0) ∧ (∀ a, win0_4.index t a = 0) ∧ (∀ a, win0_5.index t a = 0) ∧ (∀ a, win0_6.index t a = 0) ∧ (∀ a, win0_7.index t a = 0) ∧ (∀ a, win0_8.index t a = 0) ∧ (∀ a, win0_9.index t a = 0))

/-! ## The blocks, read -/

variable (m : (ℓ : Loc nD τ sig) → Buf (Elt Ideal) ℓ) (c : Dev nD) (t : Fin cfg0.N)

theorem blk0 (r : Fin 512) (d : Fin 1024) :
    iblk m c 0 t (ix2 r d) = m ((c : Thread nD τ).loc main_arg0) (ix2 (tok (pOf t) r) d) := by
  rw [← V_main_arg0 m c]
  refine congrArg (V m c main_arg0) (funext fun a => Fin.ext ?_)
  refine (Pipeline.Window.rect_emb_val win0_0 t (ix2 r d) a).trans ?_
  rw [(idx_rows t).1]
  match a with
  | ⟨0, _⟩ => show (pOf t).val * 512 + r.val = 512 * (pOf t).val + r.val; omega
  | ⟨1, _⟩ => show 0 * 1024 + d.val = d.val; omega

theorem blk1 (y) : iblk m c 1 t y = V m c main_v4 y :=
  congrArg (V m c main_v4) (funext fun a => Fin.ext (Pipeline.Window.rect_emb_val_of_index_zero win0_1 t a ((idx_whole t).1 a) y))
theorem blk2 (y) : iblk m c 2 t y = V m c main_v0 y :=
  congrArg (V m c main_v0) (funext fun a => Fin.ext (Pipeline.Window.rect_emb_val_of_index_zero win0_2 t a ((idx_whole t).2.1 a) y))
theorem blk3 (y) : iblk m c 3 t y = V m c main_v1 y :=
  congrArg (V m c main_v1) (funext fun a => Fin.ext (Pipeline.Window.rect_emb_val_of_index_zero win0_3 t a ((idx_whole t).2.2.1 a) y))
theorem blk4 (y) : iblk m c 4 t y = V m c main_v2 y :=
  congrArg (V m c main_v2) (funext fun a => Fin.ext (Pipeline.Window.rect_emb_val_of_index_zero win0_4 t a ((idx_whole t).2.2.2.1 a) y))
theorem blk5 (y) : iblk m c 5 t y = V m c main_v5 y :=
  congrArg (V m c main_v5) (funext fun a => Fin.ext (Pipeline.Window.rect_emb_val_of_index_zero win0_5 t a ((idx_whole t).2.2.2.2.1 a) y))
theorem blk6 (y) : iblk m c 6 t y = V m c main_v3 y :=
  congrArg (V m c main_v3) (funext fun a => Fin.ext (Pipeline.Window.rect_emb_val_of_index_zero win0_6 t a ((idx_whole t).2.2.2.2.2.1 a) y))
theorem blk7 (y) : iblk m c 7 t y = V m c main_v6 y :=
  congrArg (V m c main_v6) (funext fun a => Fin.ext (Pipeline.Window.rect_emb_val_of_index_zero win0_7 t a ((idx_whole t).2.2.2.2.2.2.1 a) y))
theorem blk8 (y) : iblk m c 8 t y = V m c main_v7 y :=
  congrArg (V m c main_v7) (funext fun a => Fin.ext (Pipeline.Window.rect_emb_val_of_index_zero win0_8 t a ((idx_whole t).2.2.2.2.2.2.2.1 a) y))
theorem blk9 (y) : iblk m c 9 t y = V m c main_cst y :=
  congrArg (V m c main_cst) (funext fun a => Fin.ext (Pipeline.Window.rect_emb_val_of_index_zero win0_9 t a ((idx_whole t).2.2.2.2.2.2.2.2 a) y))

/-- The blocks of the feed-forward part. -/
theorem rows1 : Tile.Rows1 (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (pOf t) where
  rows := blk0 m c t
  gain1 d := (blk1 m c t _).trans (Host.gain1 m c d)
  wGate k f := (blk2 m c t _).trans (congrFun (Host.gate_eq m c) _)
  wUp k f := (blk3 m c t _).trans (congrFun (Host.up_eq m c) _)
  wDown f d := (blk4 m c t _).trans (congrFun (Host.down_eq m c) _)
  gain2 d := (blk5 m c t _).trans (Host.gain2 m c d)

/-- The tile a later point projects: the one the point before took in. -/
def qOf (h0 : ¬t.val % 129 = 0) : Fin 128 :=
  ⟨t.val - 1, by have h : t.val < 129 := t.isLt; omega⟩

/-- The kept normed rows and the blocks of the projection. -/
theorem rows2 (h0 : ¬t.val % 129 = 0) : Tile.Rows2 (iblk m c 6 t) (iblk m c 7 t) (iblk m c 8 t) (iblk m c 9 t)
    ((outsAt0 (F := Ideal) m c (t.val - 1) (Nat.lt_of_le_of_lt (Nat.sub_le _ _) t.isLt)).2.2.2)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (qOf t h0) where
  carried r k := by
    have e : pOf ⟨t.val - 1, Nat.lt_of_le_of_lt (Nat.sub_le _ _) t.isLt⟩ = qOf t h0 :=
      Fin.ext (by have h : t.val < 129 := t.isLt; show min (t.val - 1) 127 = t.val - 1; omega)
    refine (congrFun (Term.nrm m c ⟨t.val - 1, Nat.lt_of_le_of_lt (Nat.sub_le _ _) t.isLt⟩) (ix2 r k)).trans ?_
    refine (Tile.nrm_eq (rows1 m c ⟨t.val - 1, Nat.lt_of_le_of_lt (Nat.sub_le _ _) t.isLt⟩) r k).trans ?_
    rw [e]
  wIn k e := (blk6 m c t _).trans (congrFun (Host.proj_eq m c) _)
  queryGain e := (blk7 m c t _).trans (Host.query m c e)
  keyGain e := (blk8 m c t _).trans (Host.key m c e)
  headIn g j k := (blk9 m c t _).trans ((Host.ones m c _ _).trans (if_pos (by rw [grp_at, grp_at])))
  headOut j l h := (blk9 m c t _).trans ((Host.ones m c j l).trans (if_neg h))

end Cert.Pre.Stage

end
-- ==== Proof.Pre.TermRes.lean ====
/-
  The first output block of a grid point, as the run names it, is the written-out one.
-/
module

public import proofs.«01_k».proof.Proof.Gen.PreIdeal.Frame
public import proofs.«01_k».proof.Proof.Pre.Body
public import Idealize.ShloMosaic.Lib.Pipeline.Value

@[expose] public section

set_option maxRecDepth 16384

noncomputable section

namespace Cert.Pre.Term

open Idealize.ShloMosaic Idealize.ShloMosaic.TcCoe Idealize.ShloMosaic.Tactic
open Cert.PreIdeal Cert.PreIdeal.Gen

variable (m : (ℓ : Loc nD τ sig) → Buf (Elt Ideal) ℓ)

set_option maxHeartbeats 4000000 in
theorem res_A (c : Dev nD) (t : Fin cfg0.N) (h0 : t.val % 129 = 0) :
    (outsAt0 (F := Ideal) m c t.val t.isLt).1 = Body.res (iblk m c 0 t) (iblk m c 1 t) (iblk m c 2 t) (iblk m c 3 t) (iblk m c 4 t) := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _ _ _ _ _ _ _ _ _ _ _ _)]
  unfold kernelRun0_A
  dsimp only
  have z2 : (![0, 0] : Fin 2 → ℕ) = fun _ => 0 := by funext a; match a with | ⟨0, _⟩ => rfl | ⟨1, _⟩ => rfl
  refine (View.canon_unit_zero (S := S512x1024) z2 _ _).trans ?_
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  sl_unfold_words
  simp only [View.readCov_eq_canon', View.readAt_eq_ld, Memref.IsWhole.read_unread,
    View.ld_unit_zero (S := S512x1024) z2, View.ld_unit_zero (S := S1x1024) z2, View.ld_unit_zero (S := S2816x1024) z2, View.ld_unit_zero (S := S256x256) z2]
  rfl

set_option maxHeartbeats 4000000 in
theorem res_B (c : Dev nD) (t : Fin cfg0.N) (h0 : ¬t.val % 129 = 0) :
    (outsAt0 (F := Ideal) m c t.val t.isLt).1 = Body.res (iblk m c 0 t) (iblk m c 1 t) (iblk m c 2 t) (iblk m c 3 t) (iblk m c 4 t) := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _ _ _ _ _ _ _)]
  unfold kernelRun0_B
  dsimp only
  have z2 : (![0, 0] : Fin 2 → ℕ) = fun _ => 0 := by funext a; match a with | ⟨0, _⟩ => rfl | ⟨1, _⟩ => rfl
  refine (View.canon_unit_zero (S := S512x1024) z2 _ _).trans ?_
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  sl_unfold_words
  simp only [View.readCov_eq_canon', View.readAt_eq_ld, Memref.IsWhole.read_unread,
    View.ld_unit_zero (S := S512x1024) z2, View.ld_unit_zero (S := S1x1024) z2, View.ld_unit_zero (S := S2816x1024) z2, View.ld_unit_zero (S := S256x256) z2]
  rfl

/-- The rows a point writes back, whichever point it is. -/
theorem res (c : Dev nD) (t : Fin cfg0.N) :
    (outsAt0 (F := Ideal) m c t.val t.isLt).1 = Body.res (iblk m c 0 t) (iblk m c 1 t) (iblk m c 2 t) (iblk m c 3 t) (iblk m c 4 t) :=
  (Decidable.em (t.val % 129 = 0)).elim (res_A m c t) (res_B m c t)

end Cert.Pre.Term

end
-- ==== Proof.Pre.Slab.lean ====
/-
  One store into the slabs, or into the other columns: its payload is the part of the written-out block that its rectangle
  names. A slab's payload is read back from a scratch array, every fourth row, out of the store made just before.
-/
module

public import proofs.«01_k».proof.Proof.Pre.Body
public import Idealize.ShloMosaic.Lib.Pipeline.Value
public import Idealize.ShloMosaic.Lib.ValueLayout
public import Idealize.ShloMosaic.Lib.ValueLayoutCasts

@[expose] public section

set_option maxRecDepth 16384

noncomputable section

namespace Cert.Pre.Slab

open Idealize.ShloMosaic Idealize.ShloMosaic.TcCoe Idealize.ShloMosaic.ValueIdx
open Cert.PreIdeal Cert.PreIdeal.Gen
open Cert.Pre.Body

variable (x6 : Vec Ideal S1024x3072 .bf16) (x7 x8 : Vec Ideal S1x512 .f32) (x9 : Vec Ideal S256x256 .bf16) (v : Vec Ideal S512x1024 .bf16)

/-- The left half of a chunk as it is stored. -/
abbrev left (z : FVec Ideal S512x256 .f32) : FVec Ideal S1x1x512x128 .f32 :=
  shapeCast S1x1x512x128 (extractStridedSlice S512x128 ![0, 0] z slices_S512x256_o0_0_S512x128) shapeCasts_S512x128_S1x1x512x128
/-- The right half. -/
abbrev right (z : FVec Ideal S512x256 .f32) : FVec Ideal S1x1x512x128 .f32 :=
  shapeCast S1x1x512x128 (extractStridedSlice S512x128 ![0, 128] z slices_S512x256_o0_128_S512x128) shapeCasts_S512x128_S1x1x512x128

theorem spread (u : FVec Ideal S512x128 .f32) (r : Fin 512) (d : Fin 128) :
    (shapeCast S1x1x512x128 u shapeCasts_S512x128_S1x1x512x128 : FVec Ideal S1x1x512x128 .f32) (ix4 0 0 r d) = u (ix2 r d) := by
  refine shapeCast_apply _ _ _ (ix2 r d) ?_
  rw [Shape.rowMajor_val_two, Shape.rowMajor_val_four]
  show r.val * 128 + d.val = ((0 * 1 + 0) * 512 + r.val) * 128 + d.val
  omega

theorem left_apply (z : FVec Ideal S512x256 .f32) (r : Fin 512) (d : Fin 128) :
    left z (ix4 0 0 r d) = z (ix2 r (⟨d.val, by omega⟩ : Fin 256)) := by
  refine (spread _ r d).trans (extractStridedSlice_apply ![0, 0] z slices_S512x256_o0_0_S512x128 (ix2 r d) _ fun a => ?_)
  match a with
  | ⟨0, _⟩ => show r.val = 0 + r.val; omega
  | ⟨1, _⟩ => show d.val = 0 + d.val; omega

theorem right_apply (z : FVec Ideal S512x256 .f32) (r : Fin 512) (d : Fin 128) :
    right z (ix4 0 0 r d) = z (ix2 r (⟨128 + d.val, by omega⟩ : Fin 256)) := by
  refine (spread _ r d).trans (extractStridedSlice_apply ![0, 128] z slices_S512x256_o0_128_S512x128 (ix2 r d) _ fun a => ?_)
  match a with
  | ⟨0, _⟩ => show r.val = 0 + r.val; omega
  | ⟨1, _⟩ => rfl

/-- Two reshapes there and back. -/
theorem back (u : Vec Ideal S1x1x128x128 .f32) : k0_pay7 (F := Ideal) u = u := by
  refine funext fun (y : S1x1x128x128.Idx) => ?_
  unfold k0_pay7
  have e : ∀ w : FVec Ideal S128x128 .f32, (shapeCast S1x1x128x128 w shapeCasts_S128x128_S1x1x128x128 : FVec Ideal S1x1x128x128 .f32) y = w (ix2 (y 2) (y 3)) := fun w => by
    refine shapeCast_apply _ _ _ (ix2 (y 2) (y 3)) ?_
    rw [Shape.rowMajor_val_two, Shape.rowMajor_val_four]
    have h0 : (y 0).val < 1 := (y 0).isLt
    have h1 : (y 1).val < 1 := (y 1).isLt
    show (y 2).val * 128 + (y 3).val = (((y 0).val * 1 + (y 1).val) * 128 + (y 2).val) * 128 + (y 3).val
    omega
  refine (e _).trans (shapeCast_apply _ _ _ y ?_)
  rw [Shape.rowMajor_val_two, Shape.rowMajor_val_four]
  have h0 : (y 0).val < 1 := (y 0).isLt
  have h1 : (y 1).val < 1 := (y 1).isLt
  show (((y 0).val * 1 + (y 1).val) * 128 + (y 2).val) * 128 + (y 3).val = (y 2).val * 128 + (y 3).val
  omega

/-- Row `j` of slab `r`, read from the half chunk stored last. -/
theorem strided (c t r : ℕ) (i1) (i2) (w : FVec Ideal S1x1x512x128 .f32) (L : List (View.Piece (Elt Ideal) S6x2x512x128 .f32))
    (hr : r < 4) (y : S1x1x128x128.Idx) :
    View.canon ((⟨Rect.unit (s := S6x2x512x128) ![c, t, 0, 0] S1x1x512x128.size i1, w⟩ : View.Piece (Elt Ideal) S6x2x512x128 .f32) :: L)
      ((⟨![c, t, r, 0], S1x1x128x128.size, ![1, 1, 4, 1], i2⟩ : LoadRect S6x2x512x128).idx y)
      = w (ix4 0 0 (⟨r + 4 * (y 2).val, by have h : (y 2).val < 128 := (y 2).isLt; omega⟩ : Fin 512) (y 3 : Fin 128)) :=
  Cert.Post.Planes.hit _ _ i1 w L _ (ix4 0 0 (⟨r + 4 * (y 2).val, by have h : (y 2).val < 128 := (y 2).isLt; omega⟩ : Fin 512) (y 3 : Fin 128)) fun a => by
    have h0 : (y 0).val < 1 := (y 0).isLt
    have h1 : (y 1).val < 1 := (y 1).isLt
    match a with
    | ⟨0, _⟩ => show c + 1 * (y 0).val = c + 0; omega
    | ⟨1, _⟩ => show t + 1 * (y 1).val = t + 0; omega
    | ⟨2, _⟩ => show r + 4 * (y 2).val = 0 + (r + 4 * (y 2).val); omega
    | ⟨3, _⟩ => show 0 + 1 * (y 3).val = 0 + (y 3).val; omega

/-- A store of the left half of chunk `c` into slab `r`. -/
theorem slabL (c : Fin 6) (r o : ℕ) (hr : r < 4) (ho : o = 256 * c.val) (i1) (i2) (i3)
    (L : List (View.Piece (Elt Ideal) S6x2x512x128 .f32)) (y : S1x1x128x128.Idx) :
    k0_pay7 (F := Ideal) (fun j => View.canon ((⟨Rect.unit (s := S6x2x512x128) ![c.val, 0, 0, 0] S1x1x512x128.size i1, left (chunkOf x6 x7 x8 x9 v c)⟩ : View.Piece (Elt Ideal) S6x2x512x128 .f32) :: L)
      ((⟨![c.val, 0, r, 0], S1x1x128x128.size, ![1, 1, 4, 1], i2⟩ : LoadRect S6x2x512x128).idx j)) y
      = slabs x6 x7 x8 x9 v ((Rect.unit (s := S1x4x128x1536) ![0, r, 0, o] S1x1x128x128.size i3).emb y) := by
  subst ho
  rw [back]
  refine (strided c.val 0 r i1 i2 _ L hr y).trans ((left_apply _ _ _).trans ?_)
  have h1 : (y 1).val < 1 := (y 1).isLt
  have h2 : (y 2).val < 128 := (y 2).isLt
  have h3 : (y 3).val < 128 := (y 3).isLt
  have e1 : (((Rect.unit (s := S1x4x128x1536) ![0, r, 0, 256 * c.val] S1x1x128x128.size i3).emb y 1 : Fin 4) : ℕ) = r + (y 1).val := Rect.idx_unit_val (s := S1x4x128x1536) ![0, r, 0, 256 * c.val] _ i3 y 1
  have e2 : (((Rect.unit (s := S1x4x128x1536) ![0, r, 0, 256 * c.val] S1x1x128x128.size i3).emb y 2 : Fin 128) : ℕ) = 0 + (y 2).val := Rect.idx_unit_val (s := S1x4x128x1536) ![0, r, 0, 256 * c.val] _ i3 y 2
  have e3 : (((Rect.unit (s := S1x4x128x1536) ![0, r, 0, 256 * c.val] S1x1x128x128.size i3).emb y 3 : Fin 1536) : ℕ) = 256 * c.val + (y 3).val := Rect.idx_unit_val (s := S1x4x128x1536) ![0, r, 0, 256 * c.val] _ i3 y 3
  unfold slabs
  refine congr (congrArg _ (Fin.ext ?_)) (congrArg₂ ix2 (Fin.ext ?_) (Fin.ext ?_))
  · show c.val = _ / 256
    rw [e3]; omega
  · show r + 4 * (y 2).val = 4 * _ + _
    rw [e1, e2]; omega
  · show (y 3).val = _ % 256
    rw [e3]; omega

/-- A store of the right half. -/
theorem slabR (c : Fin 6) (r o : ℕ) (hr : r < 4) (ho : o = 256 * c.val + 128) (i1) (i2) (i3)
    (L : List (View.Piece (Elt Ideal) S6x2x512x128 .f32)) (y : S1x1x128x128.Idx) :
    k0_pay7 (F := Ideal) (fun j => View.canon ((⟨Rect.unit (s := S6x2x512x128) ![c.val, 1, 0, 0] S1x1x512x128.size i1, right (chunkOf x6 x7 x8 x9 v c)⟩ : View.Piece (Elt Ideal) S6x2x512x128 .f32) :: L)
      ((⟨![c.val, 1, r, 0], S1x1x128x128.size, ![1, 1, 4, 1], i2⟩ : LoadRect S6x2x512x128).idx j)) y
      = slabs x6 x7 x8 x9 v ((Rect.unit (s := S1x4x128x1536) ![0, r, 0, o] S1x1x128x128.size i3).emb y) := by
  subst ho
  rw [back]
  refine (strided c.val 1 r i1 i2 _ L hr y).trans ((right_apply _ _ _).trans ?_)
  have h1 : (y 1).val < 1 := (y 1).isLt
  have h2 : (y 2).val < 128 := (y 2).isLt
  have h3 : (y 3).val < 128 := (y 3).isLt
  have e1 : (((Rect.unit (s := S1x4x128x1536) ![0, r, 0, 256 * c.val + 128] S1x1x128x128.size i3).emb y 1 : Fin 4) : ℕ) = r + (y 1).val := Rect.idx_unit_val (s := S1x4x128x1536) ![0, r, 0, 256 * c.val + 128] _ i3 y 1
  have e2 : (((Rect.unit (s := S1x4x128x1536) ![0, r, 0, 256 * c.val + 128] S1x1x128x128.size i3).emb y 2 : Fin 128) : ℕ) = 0 + (y 2).val := Rect.idx_unit_val (s := S1x4x128x1536) ![0, r, 0, 256 * c.val + 128] _ i3 y 2
  have e3 : (((Rect.unit (s := S1x4x128x1536) ![0, r, 0, 256 * c.val + 128] S1x1x128x128.size i3).emb y 3 : Fin 1536) : ℕ) = 256 * c.val + 128 + (y 3).val := Rect.idx_unit_val (s := S1x4x128x1536) ![0, r, 0, 256 * c.val + 128] _ i3 y 3
  unfold slabs
  refine congr (congrArg _ (Fin.ext ?_)) (congrArg₂ ix2 (Fin.ext ?_) (Fin.ext ?_))
  · show c.val = _ / 256
    rw [e3]; omega
  · show r + 4 * (y 2).val = 4 * _ + _
    rw [e1, e2]; omega
  · show 128 + (y 3).val = _ % 256
    rw [e3]; omega

/-- The same with the scratch array as a run names it: read over a list whose last store is the left half. -/
theorem readL (c : Fin 6) (r o : ℕ) (hr : r < 4) (ho : o = 256 * c.val) (i1) (i2) (i3) {vv : View sig .tc .vmem S6x2x512x128 .f32}
    {w : FVec Ideal S1x1x512x128 .f32} {L : List (View.Piece (Elt Ideal) S6x2x512x128 .f32)} (hw : w = left (chunkOf x6 x7 x8 x9 v c)) (y : S1x1x128x128.Idx) :
    k0_pay7 (F := Ideal) (vv.readCov ((⟨Rect.unit (s := S6x2x512x128) ![c.val, 0, 0, 0] S1x1x512x128.size i1, w⟩ : View.Piece (Elt Ideal) S6x2x512x128 .f32) :: L)
      (⟨![c.val, 0, r, 0], S1x1x128x128.size, ![1, 1, 4, 1], i2⟩ : LoadRect S6x2x512x128)) y
      = slabs x6 x7 x8 x9 v ((Rect.unit (s := S1x4x128x1536) ![0, r, 0, o] S1x1x128x128.size i3).emb y) := by
  rw [View.readCov_eq_canon', hw]
  exact slabL x6 x7 x8 x9 v c r o hr ho i1 i2 i3 L y

/-- The same with the scratch array as a run names it: read over a list whose last store is the right half. -/
theorem readR (c : Fin 6) (r o : ℕ) (hr : r < 4) (ho : o = 256 * c.val + 128) (i1) (i2) (i3) {vv : View sig .tc .vmem S6x2x512x128 .f32}
    {w : FVec Ideal S1x1x512x128 .f32} {L : List (View.Piece (Elt Ideal) S6x2x512x128 .f32)} (hw : w = right (chunkOf x6 x7 x8 x9 v c)) (y : S1x1x128x128.Idx) :
    k0_pay7 (F := Ideal) (vv.readCov ((⟨Rect.unit (s := S6x2x512x128) ![c.val, 1, 0, 0] S1x1x512x128.size i1, w⟩ : View.Piece (Elt Ideal) S6x2x512x128 .f32) :: L)
      (⟨![c.val, 1, r, 0], S1x1x128x128.size, ![1, 1, 4, 1], i2⟩ : LoadRect S6x2x512x128)) y
      = slabs x6 x7 x8 x9 v ((Rect.unit (s := S1x4x128x1536) ![0, r, 0, o] S1x1x128x128.size i3).emb y) := by
  rw [View.readCov_eq_canon', hw]
  exact slabR x6 x7 x8 x9 v c r o hr ho i1 i2 i3 L y

/-- A store of a chunk of the other columns. -/
theorem other (c : Fin 6) (o : ℕ) (ho : o = 256 * c.val) (i1) (y : S512x256.Idx) :
    restOf x6 v c y = rest x6 v ((Rect.unit (s := S512x1536) ![0, o] S512x256.size i1).emb y) := by
  subst ho
  have h1 : (y 1).val < 256 := (y 1).isLt
  have e0 : (((Rect.unit (s := S512x1536) ![0, 256 * c.val] S512x256.size i1).emb y 0 : Fin 512) : ℕ) = 0 + (y 0).val := Rect.idx_unit_val (s := S512x1536) ![0, 256 * c.val] _ i1 y 0
  have e1 : (((Rect.unit (s := S512x1536) ![0, 256 * c.val] S512x256.size i1).emb y 1 : Fin 1536) : ℕ) = 256 * c.val + (y 1).val := Rect.idx_unit_val (s := S512x1536) ![0, 256 * c.val] _ i1 y 1
  unfold rest
  rw [show restOf x6 v c y = restOf x6 v c (ix2 (y 0) (y 1)) from congrArg _ (eq_ix2 y)]
  refine congr (congrArg _ (Fin.ext ?_)) (congrArg₂ ix2 (Fin.ext ?_) (Fin.ext ?_))
  · show c.val = _ / 256
    rw [e1]; omega
  · show (y 0).val = _
    rw [e0]; omega
  · show (y 1).val = _ % 256
    rw [e1]; omega

end Cert.Pre.Slab

end
-- ==== Proof.Pre.TermRest.lean ====
/-
  The other columns a later grid point writes back are the written-out ones, of the normed rows the point before kept.
-/
module

public import proofs.«01_k».proof.Proof.Gen.PreIdeal.Frame
public import proofs.«01_k».proof.Proof.Pre.Slab
public import Idealize.ShloMosaic.Lib.Pipeline.Value

@[expose] public section

set_option maxRecDepth 16384

noncomputable section

namespace Cert.Pre.Term

open Idealize.ShloMosaic Idealize.ShloMosaic.TcCoe Idealize.ShloMosaic.Tactic
open Cert.PreIdeal Cert.PreIdeal.Gen

variable (m : (ℓ : Loc nD τ sig) → Buf (Elt Ideal) ℓ)

set_option maxHeartbeats 4000000 in
/-- The other columns of a later point. -/
theorem rest (c : Dev nD) (t : Fin cfg0.N) (h0 : ¬t.val % 129 = 0) :
    (outsAt0 (F := Ideal) m c t.val t.isLt).2.2.1 = Body.rest (iblk m c 6 t) ((outsAt0 (F := Ideal) m c (t.val - 1) (Nat.lt_of_le_of_lt (Nat.sub_le _ _) t.isLt)).2.2.2) := by
  rw [outsAt0_B m c t h0]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _)]
  refine funext fun y => View.canon_apply_of_pieces _ _ ?_ y (cover0_B_12 c _ _ _ _ _ _ _ _ _ _ _ _ _ _ _ _ _ _ _ _ _ _ _ _ _ _ _ _ _ _ _ _ _ _ _ _ _ _ _ _ _ _ _ _ _ y)
  unfold kernelRun0_B
  dsimp only
  have z2 : (![0, 0] : Fin 2 → ℕ) = fun _ => 0 := by funext a; match a with | ⟨0, _⟩ => rfl | ⟨1, _⟩ => rfl
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize (outsAt0 (F := Ideal) m c (t.val - 1) (Nat.lt_of_le_of_lt (Nat.sub_le _ _) t.isLt)).2.2.2 = v
  have hv : View.read (Elt Ideal) (View.whole cc0_scratch2) ((Memref.isWhole_whole cc0_scratch2).unread v) = v := Memref.IsWhole.read_unread _ _
  sl_unfold_words
  simp only [View.readCov_eq_canon', View.readAt_eq_ld, Memref.IsWhole.read_unread, hv,
    View.ld_unit_zero (S := S512x1024) z2, View.ld_unit_zero (S := S1x1024) z2, View.ld_unit_zero (S := S2816x1024) z2, View.ld_unit_zero (S := S256x256) z2]
  refine List.forall_mem_cons.mpr ⟨fun x => Slab.other x6 v 5 1280 rfl inb_S512x1536_S512x256_0_1280 x, ?_⟩
  refine List.forall_mem_cons.mpr ⟨fun x => Slab.other x6 v 4 1024 rfl inb_S512x1536_S512x256_0_1024 x, ?_⟩
  refine List.forall_mem_cons.mpr ⟨fun x => Slab.other x6 v 3 768 rfl inb_S512x1536_S512x256_0_768 x, ?_⟩
  refine List.forall_mem_cons.mpr ⟨fun x => Slab.other x6 v 2 512 rfl inb_S512x1536_S512x256_0_512 x, ?_⟩
  refine List.forall_mem_cons.mpr ⟨fun x => Slab.other x6 v 1 256 rfl inb_S512x1536_S512x256_0_256 x, ?_⟩
  refine List.forall_mem_cons.mpr ⟨fun x => Slab.other x6 v 0 0 rfl inb_S512x1536_S512x256_0_0 x, ?_⟩
  exact List.forall_mem_nil _

end Cert.Pre.Term

end
-- ==== Proof.Pre.TermSlab.lean ====
/-
  The slabs a later grid point writes back are the written-out ones, of the normed rows the point before kept.
-/
module

public import proofs.«01_k».proof.Proof.Gen.PreIdeal.Frame
public import proofs.«01_k».proof.Proof.Pre.Slab
public import Idealize.ShloMosaic.Lib.Pipeline.Value

@[expose] public section

set_option maxRecDepth 16384

noncomputable section

namespace Cert.Pre.Term

open Idealize.ShloMosaic Idealize.ShloMosaic.TcCoe Idealize.ShloMosaic.Tactic
open Cert.PreIdeal Cert.PreIdeal.Gen

variable (m : (ℓ : Loc nD τ sig) → Buf (Elt Ideal) ℓ)

set_option maxHeartbeats 4000000 in
/-- The slabs of a later point. -/
theorem slabs (c : Dev nD) (t : Fin cfg0.N) (h0 : ¬t.val % 129 = 0) :
    (outsAt0 (F := Ideal) m c t.val t.isLt).2.1 = Body.slabs (iblk m c 6 t) (iblk m c 7 t) (iblk m c 8 t) (iblk m c 9 t) ((outsAt0 (F := Ideal) m c (t.val - 1) (Nat.lt_of_le_of_lt (Nat.sub_le _ _) t.isLt)).2.2.2) := by
  rw [outsAt0_B m c t h0]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _ _ _ _ _ _ _)]
  refine funext fun y => View.canon_apply_of_pieces _ _ ?_ y (cover0_B_11 c _ _ _ _ _ _ _ _ _ _ _ _ _ _ _ _ _ _ _ _ _ _ _ _ _ _ _ _ _ _ _ _ _ _ _ _ _ _ _ _ _ _ _ _ _ y)
  unfold kernelRun0_B
  dsimp only
  have z2 : (![0, 0] : Fin 2 → ℕ) = fun _ => 0 := by funext a; match a with | ⟨0, _⟩ => rfl | ⟨1, _⟩ => rfl
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize (outsAt0 (F := Ideal) m c (t.val - 1) (Nat.lt_of_le_of_lt (Nat.sub_le _ _) t.isLt)).2.2.2 = v
  have hv : View.read (Elt Ideal) (View.whole cc0_scratch2) ((Memref.isWhole_whole cc0_scratch2).unread v) = v := Memref.IsWhole.read_unread _ _
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v443 kernelRun0_B.sl.HS1_12
    rw [show ∀ u, k0_pay89 (F := Ideal) u = k0_pay7 u from fun _ => rfl]
    refine Slab.readR x6 x7 x8 x9 v 5 3 1408 (by omega) rfl inb_S6x2x512x128_S1x1x512x128_5_1_0_0 inb_S6x2x512x128_S1x1x128x128_5_1_3_0_s_1_1_4_1 inb_S1x4x128x1536_S1x1x128x128_0_3_0_1408 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v438 kernelRun0_B.sl.HS1_12
    rw [show ∀ u, k0_pay88 (F := Ideal) (k0_pay87 u) = k0_pay7 u from fun _ => rfl]
    refine Slab.readR x6 x7 x8 x9 v 5 2 1408 (by omega) rfl inb_S6x2x512x128_S1x1x512x128_5_1_0_0 inb_S6x2x512x128_S1x1x128x128_5_1_2_0_s_1_1_4_1 inb_S1x4x128x1536_S1x1x128x128_0_2_0_1408 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v433 kernelRun0_B.sl.HS1_12
    rw [show ∀ u, k0_pay86 (F := Ideal) u = k0_pay7 u from fun _ => rfl]
    refine Slab.readR x6 x7 x8 x9 v 5 1 1408 (by omega) rfl inb_S6x2x512x128_S1x1x512x128_5_1_0_0 inb_S6x2x512x128_S1x1x128x128_5_1_1_0_s_1_1_4_1 inb_S1x4x128x1536_S1x1x128x128_0_1_0_1408 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v428 kernelRun0_B.sl.HS1_12
    rw [show ∀ u, k0_pay85 (F := Ideal) u = k0_pay7 u from fun _ => rfl]
    refine Slab.readR x6 x7 x8 x9 v 5 0 1408 (by omega) rfl inb_S6x2x512x128_S1x1x512x128_5_1_0_0 inb_S6x2x512x128_S1x1x128x128_5_1_0_0_s_1_1_4_1 inb_S1x4x128x1536_S1x1x128x128_0_0_0_1408 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v419 kernelRun0_B.sl.HS1_11
    rw [show ∀ u, k0_pay83 (F := Ideal) u = k0_pay7 u from fun _ => rfl]
    refine Slab.readL x6 x7 x8 x9 v 5 3 1280 (by omega) rfl inb_S6x2x512x128_S1x1x512x128_5_0_0_0 inb_S6x2x512x128_S1x1x128x128_5_0_3_0_s_1_1_4_1 inb_S1x4x128x1536_S1x1x128x128_0_3_0_1280 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v414 kernelRun0_B.sl.HS1_11
    rw [show ∀ u, k0_pay82 (F := Ideal) u = k0_pay7 u from fun _ => rfl]
    refine Slab.readL x6 x7 x8 x9 v 5 2 1280 (by omega) rfl inb_S6x2x512x128_S1x1x512x128_5_0_0_0 inb_S6x2x512x128_S1x1x128x128_5_0_2_0_s_1_1_4_1 inb_S1x4x128x1536_S1x1x128x128_0_2_0_1280 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v409 kernelRun0_B.sl.HS1_11
    rw [show ∀ u, k0_pay81 (F := Ideal) u = k0_pay7 u from fun _ => rfl]
    refine Slab.readL x6 x7 x8 x9 v 5 1 1280 (by omega) rfl inb_S6x2x512x128_S1x1x512x128_5_0_0_0 inb_S6x2x512x128_S1x1x128x128_5_0_1_0_s_1_1_4_1 inb_S1x4x128x1536_S1x1x128x128_0_1_0_1280 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v404 kernelRun0_B.sl.HS1_11
    rw [show ∀ u, k0_pay80 (F := Ideal) u = k0_pay7 u from fun _ => rfl]
    refine Slab.readL x6 x7 x8 x9 v 5 0 1280 (by omega) rfl inb_S6x2x512x128_S1x1x512x128_5_0_0_0 inb_S6x2x512x128_S1x1x128x128_5_0_0_0_s_1_1_4_1 inb_S1x4x128x1536_S1x1x128x128_0_0_0_1280 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v379 kernelRun0_B.sl.HS1_10
    rw [show ∀ u, k0_pay74 (F := Ideal) u = k0_pay7 u from fun _ => rfl]
    refine Slab.readR x6 x7 x8 x9 v 4 3 1152 (by omega) rfl inb_S6x2x512x128_S1x1x512x128_4_1_0_0 inb_S6x2x512x128_S1x1x128x128_4_1_3_0_s_1_1_4_1 inb_S1x4x128x1536_S1x1x128x128_0_3_0_1152 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v374 kernelRun0_B.sl.HS1_10
    rw [show ∀ u, k0_pay73 (F := Ideal) u = k0_pay7 u from fun _ => rfl]
    refine Slab.readR x6 x7 x8 x9 v 4 2 1152 (by omega) rfl inb_S6x2x512x128_S1x1x512x128_4_1_0_0 inb_S6x2x512x128_S1x1x128x128_4_1_2_0_s_1_1_4_1 inb_S1x4x128x1536_S1x1x128x128_0_2_0_1152 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v369 kernelRun0_B.sl.HS1_10
    rw [show ∀ u, k0_pay72 (F := Ideal) u = k0_pay7 u from fun _ => rfl]
    refine Slab.readR x6 x7 x8 x9 v 4 1 1152 (by omega) rfl inb_S6x2x512x128_S1x1x512x128_4_1_0_0 inb_S6x2x512x128_S1x1x128x128_4_1_1_0_s_1_1_4_1 inb_S1x4x128x1536_S1x1x128x128_0_1_0_1152 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v364 kernelRun0_B.sl.HS1_10
    rw [show ∀ u, k0_pay71 (F := Ideal) u = k0_pay7 u from fun _ => rfl]
    refine Slab.readR x6 x7 x8 x9 v 4 0 1152 (by omega) rfl inb_S6x2x512x128_S1x1x512x128_4_1_0_0 inb_S6x2x512x128_S1x1x128x128_4_1_0_0_s_1_1_4_1 inb_S1x4x128x1536_S1x1x128x128_0_0_0_1152 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v355 kernelRun0_B.sl.HS1_9
    rw [show ∀ u, k0_pay69 (F := Ideal) u = k0_pay7 u from fun _ => rfl]
    refine Slab.readL x6 x7 x8 x9 v 4 3 1024 (by omega) rfl inb_S6x2x512x128_S1x1x512x128_4_0_0_0 inb_S6x2x512x128_S1x1x128x128_4_0_3_0_s_1_1_4_1 inb_S1x4x128x1536_S1x1x128x128_0_3_0_1024 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v350 kernelRun0_B.sl.HS1_9
    rw [show ∀ u, k0_pay68 (F := Ideal) u = k0_pay7 u from fun _ => rfl]
    refine Slab.readL x6 x7 x8 x9 v 4 2 1024 (by omega) rfl inb_S6x2x512x128_S1x1x512x128_4_0_0_0 inb_S6x2x512x128_S1x1x128x128_4_0_2_0_s_1_1_4_1 inb_S1x4x128x1536_S1x1x128x128_0_2_0_1024 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v345 kernelRun0_B.sl.HS1_9
    rw [show ∀ u, k0_pay67 (F := Ideal) u = k0_pay7 u from fun _ => rfl]
    refine Slab.readL x6 x7 x8 x9 v 4 1 1024 (by omega) rfl inb_S6x2x512x128_S1x1x512x128_4_0_0_0 inb_S6x2x512x128_S1x1x128x128_4_0_1_0_s_1_1_4_1 inb_S1x4x128x1536_S1x1x128x128_0_1_0_1024 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v340 kernelRun0_B.sl.HS1_9
    rw [show ∀ u, k0_pay66 (F := Ideal) u = k0_pay7 u from fun _ => rfl]
    refine Slab.readL x6 x7 x8 x9 v 4 0 1024 (by omega) rfl inb_S6x2x512x128_S1x1x512x128_4_0_0_0 inb_S6x2x512x128_S1x1x128x128_4_0_0_0_s_1_1_4_1 inb_S1x4x128x1536_S1x1x128x128_0_0_0_1024 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v315 kernelRun0_B.sl.HS1_8
    rw [show ∀ u, k0_pay62 (F := Ideal) (k0_pay61 u) = k0_pay7 u from fun _ => rfl]
    refine Slab.readR x6 x7 x8 x9 v 3 3 896 (by omega) rfl inb_S6x2x512x128_S1x1x512x128_3_1_0_0 inb_S6x2x512x128_S1x1x128x128_3_1_3_0_s_1_1_4_1 inb_S1x4x128x1536_S1x1x128x128_0_3_0_896 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v310 kernelRun0_B.sl.HS1_8
    rw [show ∀ u, k0_pay60 (F := Ideal) u = k0_pay7 u from fun _ => rfl]
    refine Slab.readR x6 x7 x8 x9 v 3 2 896 (by omega) rfl inb_S6x2x512x128_S1x1x512x128_3_1_0_0 inb_S6x2x512x128_S1x1x128x128_3_1_2_0_s_1_1_4_1 inb_S1x4x128x1536_S1x1x128x128_0_2_0_896 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v305 kernelRun0_B.sl.HS1_8
    rw [show ∀ u, k0_pay59 (F := Ideal) u = k0_pay7 u from fun _ => rfl]
    refine Slab.readR x6 x7 x8 x9 v 3 1 896 (by omega) rfl inb_S6x2x512x128_S1x1x512x128_3_1_0_0 inb_S6x2x512x128_S1x1x128x128_3_1_1_0_s_1_1_4_1 inb_S1x4x128x1536_S1x1x128x128_0_1_0_896 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v300 kernelRun0_B.sl.HS1_8
    rw [show ∀ u, k0_pay58 (F := Ideal) u = k0_pay7 u from fun _ => rfl]
    refine Slab.readR x6 x7 x8 x9 v 3 0 896 (by omega) rfl inb_S6x2x512x128_S1x1x512x128_3_1_0_0 inb_S6x2x512x128_S1x1x128x128_3_1_0_0_s_1_1_4_1 inb_S1x4x128x1536_S1x1x128x128_0_0_0_896 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v291 kernelRun0_B.sl.HS1_7
    rw [show ∀ u, k0_pay55 (F := Ideal) u = k0_pay7 u from fun _ => rfl]
    refine Slab.readL x6 x7 x8 x9 v 3 3 768 (by omega) rfl inb_S6x2x512x128_S1x1x512x128_3_0_0_0 inb_S6x2x512x128_S1x1x128x128_3_0_3_0_s_1_1_4_1 inb_S1x4x128x1536_S1x1x128x128_0_3_0_768 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v286 kernelRun0_B.sl.HS1_7
    rw [show ∀ u, k0_pay54 (F := Ideal) u = k0_pay7 u from fun _ => rfl]
    refine Slab.readL x6 x7 x8 x9 v 3 2 768 (by omega) rfl inb_S6x2x512x128_S1x1x512x128_3_0_0_0 inb_S6x2x512x128_S1x1x128x128_3_0_2_0_s_1_1_4_1 inb_S1x4x128x1536_S1x1x128x128_0_2_0_768 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v281 kernelRun0_B.sl.HS1_7
    rw [show ∀ u, k0_pay53 (F := Ideal) u = k0_pay7 u from fun _ => rfl]
    refine Slab.readL x6 x7 x8 x9 v 3 1 768 (by omega) rfl inb_S6x2x512x128_S1x1x512x128_3_0_0_0 inb_S6x2x512x128_S1x1x128x128_3_0_1_0_s_1_1_4_1 inb_S1x4x128x1536_S1x1x128x128_0_1_0_768 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v276 kernelRun0_B.sl.HS1_7
    rw [show ∀ u, k0_pay52 (F := Ideal) u = k0_pay7 u from fun _ => rfl]
    refine Slab.readL x6 x7 x8 x9 v 3 0 768 (by omega) rfl inb_S6x2x512x128_S1x1x512x128_3_0_0_0 inb_S6x2x512x128_S1x1x128x128_3_0_0_0_s_1_1_4_1 inb_S1x4x128x1536_S1x1x128x128_0_0_0_768 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    unfold kernelRun0_B.sl.r_16
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v238 kernelRun0_B.sl.HS1_6
    rw [show ∀ u, k0_pay47 (F := Ideal) (k0_pay46 u) = k0_pay7 u from fun _ => rfl]
    refine Slab.readR x6 x7 x8 x9 v 2 3 640 (by omega) rfl inb_S6x2x512x128_S1x1x512x128_2_1_0_0 inb_S6x2x512x128_S1x1x128x128_2_1_3_0_s_1_1_4_1 inb_S1x4x128x1536_S1x1x128x128_0_3_0_640 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v233 kernelRun0_B.sl.HS1_6
    rw [show ∀ u, k0_pay45 (F := Ideal) u = k0_pay7 u from fun _ => rfl]
    refine Slab.readR x6 x7 x8 x9 v 2 2 640 (by omega) rfl inb_S6x2x512x128_S1x1x512x128_2_1_0_0 inb_S6x2x512x128_S1x1x128x128_2_1_2_0_s_1_1_4_1 inb_S1x4x128x1536_S1x1x128x128_0_2_0_640 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v228 kernelRun0_B.sl.HS1_6
    rw [show ∀ u, k0_pay44 (F := Ideal) u = k0_pay7 u from fun _ => rfl]
    refine Slab.readR x6 x7 x8 x9 v 2 1 640 (by omega) rfl inb_S6x2x512x128_S1x1x512x128_2_1_0_0 inb_S6x2x512x128_S1x1x128x128_2_1_1_0_s_1_1_4_1 inb_S1x4x128x1536_S1x1x128x128_0_1_0_640 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v223 kernelRun0_B.sl.HS1_6
    rw [show ∀ u, k0_pay43 (F := Ideal) u = k0_pay7 u from fun _ => rfl]
    refine Slab.readR x6 x7 x8 x9 v 2 0 640 (by omega) rfl inb_S6x2x512x128_S1x1x512x128_2_1_0_0 inb_S6x2x512x128_S1x1x128x128_2_1_0_0_s_1_1_4_1 inb_S1x4x128x1536_S1x1x128x128_0_0_0_640 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    unfold kernelRun0_B.sl.r_15
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v214 kernelRun0_B.sl.HS1_5
    rw [show ∀ u, k0_pay41 (F := Ideal) (k0_pay40 u) = k0_pay7 u from fun _ => rfl]
    refine Slab.readL x6 x7 x8 x9 v 2 3 512 (by omega) rfl inb_S6x2x512x128_S1x1x512x128_2_0_0_0 inb_S6x2x512x128_S1x1x128x128_2_0_3_0_s_1_1_4_1 inb_S1x4x128x1536_S1x1x128x128_0_3_0_512 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v209 kernelRun0_B.sl.HS1_5
    rw [show ∀ u, k0_pay39 (F := Ideal) u = k0_pay7 u from fun _ => rfl]
    refine Slab.readL x6 x7 x8 x9 v 2 2 512 (by omega) rfl inb_S6x2x512x128_S1x1x512x128_2_0_0_0 inb_S6x2x512x128_S1x1x128x128_2_0_2_0_s_1_1_4_1 inb_S1x4x128x1536_S1x1x128x128_0_2_0_512 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v204 kernelRun0_B.sl.HS1_5
    rw [show ∀ u, k0_pay38 (F := Ideal) u = k0_pay7 u from fun _ => rfl]
    refine Slab.readL x6 x7 x8 x9 v 2 1 512 (by omega) rfl inb_S6x2x512x128_S1x1x512x128_2_0_0_0 inb_S6x2x512x128_S1x1x128x128_2_0_1_0_s_1_1_4_1 inb_S1x4x128x1536_S1x1x128x128_0_1_0_512 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v199 kernelRun0_B.sl.HS1_5
    rw [show ∀ u, k0_pay37 (F := Ideal) u = k0_pay7 u from fun _ => rfl]
    refine Slab.readL x6 x7 x8 x9 v 2 0 512 (by omega) rfl inb_S6x2x512x128_S1x1x512x128_2_0_0_0 inb_S6x2x512x128_S1x1x128x128_2_0_0_0_s_1_1_4_1 inb_S1x4x128x1536_S1x1x128x128_0_0_0_512 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v161 kernelRun0_B.sl.HS1_4
    rw [show ∀ u, k0_pay32 (F := Ideal) u = k0_pay7 u from fun _ => rfl]
    refine Slab.readR x6 x7 x8 x9 v 1 3 384 (by omega) rfl inb_S6x2x512x128_S1x1x512x128_1_1_0_0 inb_S6x2x512x128_S1x1x128x128_1_1_3_0_s_1_1_4_1 inb_S1x4x128x1536_S1x1x128x128_0_3_0_384 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v156 kernelRun0_B.sl.HS1_4
    rw [show ∀ u, k0_pay31 (F := Ideal) u = k0_pay7 u from fun _ => rfl]
    refine Slab.readR x6 x7 x8 x9 v 1 2 384 (by omega) rfl inb_S6x2x512x128_S1x1x512x128_1_1_0_0 inb_S6x2x512x128_S1x1x128x128_1_1_2_0_s_1_1_4_1 inb_S1x4x128x1536_S1x1x128x128_0_2_0_384 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v151 kernelRun0_B.sl.HS1_4
    rw [show ∀ u, k0_pay30 (F := Ideal) u = k0_pay7 u from fun _ => rfl]
    refine Slab.readR x6 x7 x8 x9 v 1 1 384 (by omega) rfl inb_S6x2x512x128_S1x1x512x128_1_1_0_0 inb_S6x2x512x128_S1x1x128x128_1_1_1_0_s_1_1_4_1 inb_S1x4x128x1536_S1x1x128x128_0_1_0_384 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v146 kernelRun0_B.sl.HS1_4
    rw [show ∀ u, k0_pay29 (F := Ideal) u = k0_pay7 u from fun _ => rfl]
    refine Slab.readR x6 x7 x8 x9 v 1 0 384 (by omega) rfl inb_S6x2x512x128_S1x1x512x128_1_1_0_0 inb_S6x2x512x128_S1x1x128x128_1_1_0_0_s_1_1_4_1 inb_S1x4x128x1536_S1x1x128x128_0_0_0_384 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    unfold kernelRun0_B.sl.r_12
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v137 kernelRun0_B.sl.HS1_3
    rw [show ∀ u, k0_pay27 (F := Ideal) (k0_pay26 u) = k0_pay7 u from fun _ => rfl]
    refine Slab.readL x6 x7 x8 x9 v 1 3 256 (by omega) rfl inb_S6x2x512x128_S1x1x512x128_1_0_0_0 inb_S6x2x512x128_S1x1x128x128_1_0_3_0_s_1_1_4_1 inb_S1x4x128x1536_S1x1x128x128_0_3_0_256 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v132 kernelRun0_B.sl.HS1_3
    rw [show ∀ u, k0_pay25 (F := Ideal) u = k0_pay7 u from fun _ => rfl]
    refine Slab.readL x6 x7 x8 x9 v 1 2 256 (by omega) rfl inb_S6x2x512x128_S1x1x512x128_1_0_0_0 inb_S6x2x512x128_S1x1x128x128_1_0_2_0_s_1_1_4_1 inb_S1x4x128x1536_S1x1x128x128_0_2_0_256 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v127 kernelRun0_B.sl.HS1_3
    rw [show ∀ u, k0_pay24 (F := Ideal) u = k0_pay7 u from fun _ => rfl]
    refine Slab.readL x6 x7 x8 x9 v 1 1 256 (by omega) rfl inb_S6x2x512x128_S1x1x512x128_1_0_0_0 inb_S6x2x512x128_S1x1x128x128_1_0_1_0_s_1_1_4_1 inb_S1x4x128x1536_S1x1x128x128_0_1_0_256 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v122 kernelRun0_B.sl.HS1_3
    rw [show ∀ u, k0_pay23 (F := Ideal) u = k0_pay7 u from fun _ => rfl]
    refine Slab.readL x6 x7 x8 x9 v 1 0 256 (by omega) rfl inb_S6x2x512x128_S1x1x512x128_1_0_0_0 inb_S6x2x512x128_S1x1x128x128_1_0_0_0_s_1_1_4_1 inb_S1x4x128x1536_S1x1x128x128_0_0_0_256 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v66 kernelRun0_B.sl.HS1_2
    rw [show ∀ u, k0_pay15 (F := Ideal) u = k0_pay7 u from fun _ => rfl]
    refine Slab.readR x6 x7 x8 x9 v 0 3 128 (by omega) rfl inb_S6x2x512x128_S1x1x512x128_0_1_0_0 inb_S6x2x512x128_S1x1x128x128_0_1_3_0_s_1_1_4_1 inb_S1x4x128x1536_S1x1x128x128_0_3_0_128 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v61 kernelRun0_B.sl.HS1_2
    rw [show ∀ u, k0_pay14 (F := Ideal) u = k0_pay7 u from fun _ => rfl]
    refine Slab.readR x6 x7 x8 x9 v 0 2 128 (by omega) rfl inb_S6x2x512x128_S1x1x512x128_0_1_0_0 inb_S6x2x512x128_S1x1x128x128_0_1_2_0_s_1_1_4_1 inb_S1x4x128x1536_S1x1x128x128_0_2_0_128 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v56 kernelRun0_B.sl.HS1_2
    rw [show ∀ u, k0_pay13 (F := Ideal) u = k0_pay7 u from fun _ => rfl]
    refine Slab.readR x6 x7 x8 x9 v 0 1 128 (by omega) rfl inb_S6x2x512x128_S1x1x512x128_0_1_0_0 inb_S6x2x512x128_S1x1x128x128_0_1_1_0_s_1_1_4_1 inb_S1x4x128x1536_S1x1x128x128_0_1_0_128 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    unfold kernelRun0_B.sl.r_5
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v51 kernelRun0_B.sl.HS1_2
    rw [show ∀ u, k0_pay12 (F := Ideal) (k0_pay11 u) = k0_pay7 u from fun _ => rfl]
    refine Slab.readR x6 x7 x8 x9 v 0 0 128 (by omega) rfl inb_S6x2x512x128_S1x1x512x128_0_1_0_0 inb_S6x2x512x128_S1x1x128x128_0_1_0_0_s_1_1_4_1 inb_S1x4x128x1536_S1x1x128x128_0_0_0_128 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v42 kernelRun0_B.sl.HS1_1
    rw [show ∀ u, k0_pay9 (F := Ideal) u = k0_pay7 u from fun _ => rfl]
    refine Slab.readL x6 x7 x8 x9 v 0 3 0 (by omega) rfl inb_S6x2x512x128_S1x1x512x128_0_0_0_0 inb_S6x2x512x128_S1x1x128x128_0_0_3_0_s_1_1_4_1 inb_S1x4x128x1536_S1x1x128x128_0_3_0_0 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v37 kernelRun0_B.sl.HS1_1
    rw [show ∀ u, k0_pay8 (F := Ideal) u = k0_pay7 u from fun _ => rfl]
    refine Slab.readL x6 x7 x8 x9 v 0 2 0 (by omega) rfl inb_S6x2x512x128_S1x1x512x128_0_0_0_0 inb_S6x2x512x128_S1x1x128x128_0_0_2_0_s_1_1_4_1 inb_S1x4x128x1536_S1x1x128x128_0_2_0_0 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v32 kernelRun0_B.sl.HS1_1
    refine Slab.readL x6 x7 x8 x9 v 0 1 0 (by omega) rfl inb_S6x2x512x128_S1x1x512x128_0_0_0_0 inb_S6x2x512x128_S1x1x128x128_0_0_1_0_s_1_1_4_1 inb_S1x4x128x1536_S1x1x128x128_0_1_0_0 ?_ x
    sl_unfold_words
    simp only [View.readAt_eq_ld, Memref.IsWhole.read_unread, hv, View.ld_unit_zero (S := S512x1024) z2, View.ld_unit_zero (S := S256x256) z2]
    rfl
  refine List.forall_mem_cons.mpr ⟨?_, ?_⟩
  · intro x
    dsimp only
    unfold kernelRun0_B.sl.r_3
    try (first | unfold kernelRun0_B.sl.r_17 | unfold kernelRun0_B.sl.r_18 | unfold kernelRun0_B.sl.r_19 | unfold kernelRun0_B.sl.r_20 | unfold kernelRun0_B.sl.r_21 | unfold kernelRun0_B.sl.r_22 | unfold kernelRun0_B.sl.r_23 | unfold kernelRun0_B.sl.r_24 | unfold kernelRun0_B.sl.r_25 | unfold kernelRun0_B.sl.r_26 | unfold kernelRun0_B.sl.r_27 | unfold kernelRun0_B.sl.r_28 | unfold kernelRun0_B.sl.r_29 | unfold kernelRun0_B.sl.r_30 | unfold kernelRun0_B.sl.r_31)
    unfold kernelRun0_B.sl.v27 kernelRun0_B.sl.HS1_1
    rw [show ∀ u, k0_pay6 (F := Ideal) (k0_pay5 u) = k0_pay7 u from fun _ => rfl]
    refine Slab.readL x6 x7 x8 x9 v 0 0 0 (by omega) rfl inb_S6x2x512x128_S1x1x512x128_0_0_0_0 inb_S6x2x512x128_S1x1x128x128_0_0_0_0_s_1_1_4_1 inb_S1x4x128x1536_S1x1x128x128_0_0_0_0 ?_ x
    sl_unfold_words
    simp only [View.readAt_eq_ld, Memref.IsWhole.read_unread, hv, View.ld_unit_zero (S := S512x1024) z2, View.ld_unit_zero (S := S256x256) z2]
    rfl
  exact List.forall_mem_nil _

end Cert.Pre.Term

end
-- ==== Proof.Pre.Final.lean ====
/-
  The three result arrays after the call: every block written back is the block of one array, the layer's first half
  token by token, and the blocks fill the arrays. The rows of a tile are written back at its own point; its projections at
  the point after, from the normed rows kept between the two.
-/
module

public import proofs.«01_k».proof.Proof.Gen.PreIdeal.Value
public import proofs.«01_k».proof.Proof.Pre.Stage
public import proofs.«01_k».proof.Proof.Pre.TermRes
public import proofs.«01_k».proof.Proof.Pre.TermRest
public import proofs.«01_k».proof.Proof.Pre.TermSlab

@[expose] public section

set_option maxRecDepth 16384

noncomputable section

namespace Cert.Pre.Final

open Idealize.ShloMosaic Idealize.ShloMosaic.TcCoe Idealize.ShloMosaic.ValueIdx
open Idealize.ShloMosaic.Pipeline (Dat)
open Cert.PreIdeal Cert.PreIdeal.Gen Idealize.SL.Sem
open Cert.Post.Rows Cert.Pre.Rows Cert.Pre.RefRow Cert.Pre.Tile Cert.Pre.Stage

variable (m : (ℓ : Loc nD τ sig) → Buf (Elt Ideal) ℓ) (c : Dev nD)

/-! ## What the arrays are shown to hold -/

/-- The residual rows. -/
abbrev rows0 (X0 : FVec Ideal ⟨2, ![65536, 1024]⟩ .f32) (X1 : FVec Ideal ⟨1, ![1024]⟩ .f32) (X2 X3 : FVec Ideal ⟨2, ![1024, 2816]⟩ .f32)
    (X4 : FVec Ideal ⟨2, ![2816, 1024]⟩ .f32) : FVec Ideal ⟨2, ![65536, 1024]⟩ .f32 :=
  fun i => hRow X0 X1 X2 X3 X4 (i 0) (i 1)

/-- Queries, keys and values, laid out in four slabs by token modulo 4. -/
abbrev rows1 (X0 : FVec Ideal ⟨2, ![65536, 1024]⟩ .f32) (X1 : FVec Ideal ⟨1, ![1024]⟩ .f32) (X2 X3 : FVec Ideal ⟨2, ![1024, 2816]⟩ .f32)
    (X4 : FVec Ideal ⟨2, ![2816, 1024]⟩ .f32) (X5 : FVec Ideal ⟨1, ![1024]⟩ .f32) (X6 : FVec Ideal ⟨2, ![1024, 3072]⟩ .f32)
    (X7 X8 : FVec Ideal ⟨2, ![8, 64]⟩ .f32) : FVec Ideal ⟨4, ![8, 4, 2048, 1536]⟩ .f32 :=
  fun i => aRow X0 X1 X2 X3 X4 X5 X6 X7 X8 (token (i 0) (i 1) (i 2)) (i 3)

/-- The other columns of the projection. -/
abbrev rows2 (X0 : FVec Ideal ⟨2, ![65536, 1024]⟩ .f32) (X1 : FVec Ideal ⟨1, ![1024]⟩ .f32) (X2 X3 : FVec Ideal ⟨2, ![1024, 2816]⟩ .f32)
    (X4 : FVec Ideal ⟨2, ![2816, 1024]⟩ .f32) (X5 : FVec Ideal ⟨1, ![1024]⟩ .f32) (X6 : FVec Ideal ⟨2, ![1024, 3072]⟩ .f32) : FVec Ideal ⟨2, ![65536, 1536]⟩ .f32 :=
  fun i => restRow (zRow X0 X1 X2 X3 X4 X5 X6 (i 0)) (i 1)

abbrev res0 : Buf (Elt Ideal) ((c : Thread nD τ).loc main_v8_0) :=
  rows0 (m ((c : Thread nD τ).loc main_arg0)) (m ((c : Thread nD τ).loc main_arg1)) (m ((c : Thread nD τ).loc main_arg2)) (m ((c : Thread nD τ).loc main_arg3)) (m ((c : Thread nD τ).loc main_arg4))

abbrev res1 : Buf (Elt Ideal) ((c : Thread nD τ).loc main_v8_1) :=
  rows1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

abbrev res2 : Buf (Elt Ideal) ((c : Thread nD τ).loc main_v8_2) :=
  rows2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## When the later blocks are written back -/

theorem late11 : ∀ t : Fin cfg0.N, (cfg0.win 11).flush t = true → ¬t.val % 129 = 0 :=
  (by decide +kernel : ∀ t : Fin grid0.N, win0_11.flush t = true → ¬t.val % 129 = 0)

theorem late12 : ∀ t : Fin cfg0.N, (cfg0.win 12).flush t = true → ¬t.val % 129 = 0 :=
  (by decide +kernel : ∀ t : Fin grid0.N, win0_12.flush t = true → ¬t.val % 129 = 0)

theorem point10 : ∀ p : Fin 128, ∃ t : Fin cfg0.N, (cfg0.win 10).flush t = true ∧ min t.val 127 = p.val :=
  (by decide +kernel : ∀ p : Fin 128, ∃ t : Fin grid0.N, win0_10.flush t = true ∧ min t.val 127 = p.val)

theorem point11 : ∀ p : Fin 128, ∃ t : Fin cfg0.N, (cfg0.win 11).flush t = true ∧ t.val = p.val + 1 :=
  (by decide +kernel : ∀ p : Fin 128, ∃ t : Fin grid0.N, win0_11.flush t = true ∧ t.val = p.val + 1)

theorem point12 : ∀ p : Fin 128, ∃ t : Fin cfg0.N, (cfg0.win 12).flush t = true ∧ t.val = p.val + 1 :=
  (by decide +kernel : ∀ p : Fin 128, ∃ t : Fin grid0.N, win0_12.flush t = true ∧ t.val = p.val + 1)

/-! ## The residual rows -/

theorem place10 (t : Fin cfg0.N) (r : Fin 512) (d : Fin 1024) :
    ((cfg0.win 10).blk t).view.emb (ix2 r d) = ix2 (tok (pOf t) r) d := by
  refine funext fun a => Fin.ext ?_
  refine (Pipeline.Window.rect_emb_val win0_10 t (ix2 r d) a).trans ?_
  rw [(idx_rows t).2]
  match a with
  | ⟨0, _⟩ => show (pOf t).val * 512 + r.val = 512 * (pOf t).val + r.val; omega
  | ⟨1, _⟩ => show 0 * 1024 + d.val = d.val; omega

theorem flushed10 (t : Fin cfg0.N) :
    (dats m 0 c).flushed 10 t = ((cfg0.win 10).blk t).view.read (Elt Ideal) (res0 m c) := by
  rw [Value.flushed10, Term.res]
  refine funext fun (y : S512x1024.Idx) => ?_
  obtain ⟨r, d, rfl⟩ : ∃ (r : Fin 512) (d : Fin 1024), y = ix2 r d := ⟨y 0, y 1, eq_ix2 y⟩
  refine (Tile.res_eq (Stage.rows1 m c t) r d).trans ?_
  show _ = res0 m c (((cfg0.win 10).blk t).view.emb (ix2 r d))
  rw [place10]

theorem cover10 (i : S65536x1024.Idx) : ∃ t : Fin cfg0.N, (cfg0.win 10).flush t = true ∧ i ∈ ((cfg0.win 10).blk t).view.set := by
  have h0 : (i 0 : ℕ) < 65536 := (i 0).isLt
  have h1 : (i 1 : ℕ) < 1024 := (i 1).isLt
  obtain ⟨t, hf, ht⟩ := point10 ⟨(i 0 : ℕ) / 512, by omega⟩
  refine ⟨t, hf, ?_⟩
  have e : ((cfg0.win 10).blk t).view.emb (ix2 (⟨(i 0 : ℕ) % 512, by omega⟩ : Fin 512) (⟨(i 1 : ℕ), h1⟩ : Fin 1024)) = i := by
    rw [place10]
    refine funext fun a => Fin.ext ?_
    match a with
    | ⟨0, _⟩ => show 512 * (min t.val 127) + (i 0 : ℕ) % 512 = (i 0 : ℕ); rw [ht]; show 512 * ((i 0 : ℕ) / 512) + _ = _; omega
    | ⟨1, _⟩ => rfl
  rw [← e]
  exact ((cfg0.win 10).blk t).view.emb_mem_set _

theorem final0 : (dats m 0 c).arrAt 10 cfg0.N = res0 m c :=
  (dats m 0 c).arrAt_eq_of_cover 10 (res0 m c) (fun t _ => flushed10 m c t) cover10

/-! ## Queries, keys and values -/

theorem place11 (t : Fin cfg0.N) (h0 : ¬t.val % 129 = 0) (s : Fin 4) (j : Fin 128) (e : Fin 1536) :
    ((cfg0.win 11).blk t).view.emb (ix4 0 s j e)
      = ix4 (⟨(qOf t h0).val / 16, by omega⟩ : Fin 8) s (⟨128 * ((qOf t h0).val % 16) + j.val, by omega⟩ : Fin 2048) e := by
  refine funext fun a => Fin.ext ?_
  refine (Pipeline.Window.rect_emb_val win0_11 t (ix4 0 s j e) a).trans ?_
  rw [(idx_late t).1]
  match a with
  | ⟨0, _⟩ => show (t.val - 1) / 16 * 1 + 0 = (t.val - 1) / 16; omega
  | ⟨1, _⟩ => show 0 * 4 + s.val = s.val; omega
  | ⟨2, _⟩ => show (t.val - 1) % 16 * 128 + j.val = 128 * ((t.val - 1) % 16) + j.val; omega
  | ⟨3, _⟩ => show 0 * 1536 + e.val = e.val; omega

theorem flushed11 (t : Fin cfg0.N) (h0 : ¬t.val % 129 = 0) :
    (dats m 0 c).flushed 11 t = ((cfg0.win 11).blk t).view.read (Elt Ideal) (res1 m c) := by
  rw [Value.flushed11, Term.slabs m c t h0]
  refine funext fun (y : S1x4x128x1536.Idx) => ?_
  obtain ⟨s, hs⟩ : ∃ s : Fin 4, s = y 1 := ⟨_, rfl⟩
  obtain ⟨j, hj⟩ : ∃ j : Fin 128, j = y 2 := ⟨_, rfl⟩
  obtain ⟨e, he⟩ : ∃ e : Fin 1536, e = y 3 := ⟨_, rfl⟩
  obtain rfl : y = ix4 (0 : Fin 1) s j e := by
    refine funext fun a => ?_
    match a with
    | ⟨0, _⟩ => exact Subsingleton.elim (α := Fin 1) _ _
    | ⟨1, _⟩ => exact hs.symm
    | ⟨2, _⟩ => exact hj.symm
    | ⟨3, _⟩ => exact he.symm
  refine (Tile.slabs_eq (Stage.rows2 m c t h0) s j e).trans ?_
  show _ = res1 m c (((cfg0.win 11).blk t).view.emb (ix4 0 s j e))
  rw [place11 t h0]
  have ht : tok (qOf t h0) ⟨4 * j.val + s.val, by omega⟩
      = token (⟨(qOf t h0).val / 16, by omega⟩ : Fin 8) s (⟨128 * ((qOf t h0).val % 16) + j.val, by omega⟩ : Fin 2048) :=
    Fin.ext (by
      show 512 * (t.val - 1) + (4 * j.val + s.val) = ((t.val - 1) / 16 * 2048 + (128 * ((t.val - 1) % 16) + j.val)) * 4 + s.val
      omega)
  rw [ht]

theorem cover11 (i : S8x4x2048x1536.Idx) : ∃ t : Fin cfg0.N, (cfg0.win 11).flush t = true ∧ i ∈ ((cfg0.win 11).blk t).view.set := by
  have h0 : (i 0 : ℕ) < 8 := (i 0).isLt
  have h1 : (i 1 : ℕ) < 4 := (i 1).isLt
  have h2 : (i 2 : ℕ) < 2048 := (i 2).isLt
  have h3 : (i 3 : ℕ) < 1536 := (i 3).isLt
  obtain ⟨t, hf, ht⟩ := point11 ⟨16 * (i 0 : ℕ) + (i 2 : ℕ) / 128, by omega⟩
  have ht' : t.val - 1 = 16 * (i 0 : ℕ) + (i 2 : ℕ) / 128 := by rw [ht]; rfl
  refine ⟨t, hf, ?_⟩
  have e : ((cfg0.win 11).blk t).view.emb (ix4 (0 : Fin 1) (⟨(i 1 : ℕ), h1⟩ : Fin 4) (⟨(i 2 : ℕ) % 128, by omega⟩ : Fin 128) (⟨(i 3 : ℕ), h3⟩ : Fin 1536)) = i := by
    rw [place11 t (late11 t hf)]
    refine funext fun a => Fin.ext ?_
    match a with
    | ⟨0, _⟩ => show (t.val - 1) / 16 = (i 0 : ℕ); omega
    | ⟨1, _⟩ => rfl
    | ⟨2, _⟩ => show 128 * ((t.val - 1) % 16) + (i 2 : ℕ) % 128 = (i 2 : ℕ); omega
    | ⟨3, _⟩ => rfl
  rw [← e]
  exact ((cfg0.win 11).blk t).view.emb_mem_set _

theorem final1 : (dats m 0 c).arrAt 11 cfg0.N = res1 m c :=
  (dats m 0 c).arrAt_eq_of_cover 11 (res1 m c) (fun t hf => flushed11 m c t (late11 t hf)) cover11

/-! ## The other columns -/

theorem place12 (t : Fin cfg0.N) (h0 : ¬t.val % 129 = 0) (r : Fin 512) (e : Fin 1536) :
    ((cfg0.win 12).blk t).view.emb (ix2 r e) = ix2 (tok (qOf t h0) r) e := by
  refine funext fun a => Fin.ext ?_
  refine (Pipeline.Window.rect_emb_val win0_12 t (ix2 r e) a).trans ?_
  rw [(idx_late t).2]
  match a with
  | ⟨0, _⟩ => show (t.val - 1) * 512 + r.val = 512 * (t.val - 1) + r.val; omega
  | ⟨1, _⟩ => show 0 * 1536 + e.val = e.val; omega

theorem flushed12 (t : Fin cfg0.N) (h0 : ¬t.val % 129 = 0) :
    (dats m 0 c).flushed 12 t = ((cfg0.win 12).blk t).view.read (Elt Ideal) (res2 m c) := by
  rw [Value.flushed12, Term.rest m c t h0]
  refine funext fun (y : S512x1536.Idx) => ?_
  obtain ⟨r, e, rfl⟩ : ∃ (r : Fin 512) (e : Fin 1536), y = ix2 r e := ⟨y 0, y 1, eq_ix2 y⟩
  refine (Tile.rest_eq (Stage.rows2 m c t h0) r e).trans ?_
  show _ = res2 m c (((cfg0.win 12).blk t).view.emb (ix2 r e))
  rw [place12 t h0]

theorem cover12 (i : S65536x1536.Idx) : ∃ t : Fin cfg0.N, (cfg0.win 12).flush t = true ∧ i ∈ ((cfg0.win 12).blk t).view.set := by
  have h0 : (i 0 : ℕ) < 65536 := (i 0).isLt
  have h1 : (i 1 : ℕ) < 1536 := (i 1).isLt
  obtain ⟨t, hf, ht⟩ := point12 ⟨(i 0 : ℕ) / 512, by omega⟩
  have ht' : t.val - 1 = (i 0 : ℕ) / 512 := by rw [ht]; rfl
  refine ⟨t, hf, ?_⟩
  have e : ((cfg0.win 12).blk t).view.emb (ix2 (⟨(i 0 : ℕ) % 512, by omega⟩ : Fin 512) (⟨(i 1 : ℕ), h1⟩ : Fin 1536)) = i := by
    rw [place12 t (late12 t hf)]
    refine funext fun a => Fin.ext ?_
    match a with
    | ⟨0, _⟩ => show 512 * (t.val - 1) + (i 0 : ℕ) % 512 = (i 0 : ℕ); omega
    | ⟨1, _⟩ => rfl
  rw [← e]
  exact ((cfg0.win 12).blk t).view.emb_mem_set _

theorem final2 : (dats m 0 c).arrAt 12 cfg0.N = res2 m c :=
  (dats m 0 c).arrAt_eq_of_cover 12 (res2 m c) (fun t hf => flushed12 m c t (late12 t hf)) cover12

end Cert.Pre.Final

end
-- ==== Proof.Pre.Claim.lean ====
/-
  The value claim of the layer's first half: the call's three result arrays and the reference's are the same functions of
  arguments that agree.
-/
module

public import proofs.«01_k».proof.Defs
public import proofs.«01_k».proof.Proof.Pre.Final
public import proofs.«01_k».proof.Proof.Gen.PreRefIdeal.Run
public import proofs.«01_k».proof.Proof.Gen.PreRefIdeal.Read

@[expose] public section

noncomputable section

namespace Cert.Pre.Claim

open Idealize.ShloMosaic Idealize.ShloMosaic.TcCoe Idealize.ShloMosaic.ValueIdx Idealize.SL.Sem

/-! ## The reference's result arrays, from its arguments -/

theorem residual_eq (x0 x1 x2 x3 x4) : Cert.PreRefIdeal.Read.val_main_v20 (F := Ideal) x0 x1 x2 x3 x4 = Final.rows0 x0 x1 x2 x3 x4 := by
  funext i
  obtain ⟨t, d, rfl⟩ : ∃ (t : Fin 65536) (d : Fin 1024), i = ix2 t d := ⟨i 0, i 1, eq_ix2 i⟩
  exact RefRow.residual x0 x1 x2 x3 x4 t d

theorem slabs_eq (x0 x1 x2 x3 x4 x5 x6 x7 x8) : Cert.PreRefIdeal.Read.val_main_v72 (F := Ideal) x0 x1 x2 x3 x4 x5 x6 x7 x8 = Final.rows1 x0 x1 x2 x3 x4 x5 x6 x7 x8 := by
  funext i
  obtain ⟨b, r, s, e, rfl⟩ : ∃ (b : Fin 8) (r : Fin 4) (s : Fin 2048) (e : Fin 1536), i = ix4 b r s e := ⟨i 0, i 1, i 2, i 3, eq_ix4 i⟩
  exact RefRow.slabs x0 x1 x2 x3 x4 x5 x6 x7 x8 b r s e

theorem rest_eq (x0 x1 x2 x3 x4 x5 x6) : Cert.PreRefIdeal.Read.val_main_v73 (F := Ideal) x0 x1 x2 x3 x4 x5 x6 = Final.rows2 x0 x1 x2 x3 x4 x5 x6 := by
  funext i
  obtain ⟨t, e, rfl⟩ : ∃ (t : Fin 65536) (e : Fin 1536), i = ix2 t e := ⟨i 0, i 1, eq_ix2 i⟩
  exact RefRow.rest x0 x1 x2 x3 x4 x5 x6 t e

/-! ## Rows of equal arrays -/

theorem rows0_congr {x0 y0 x1 y1 x2 y2 x3 y3 x4 y4} (h0 : x0 = y0) (h1 : x1 = y1) (h2 : x2 = y2) (h3 : x3 = y3) (h4 : x4 = y4) :
    Final.rows0 x0 x1 x2 x3 x4 = Final.rows0 y0 y1 y2 y3 y4 := by
  subst h0 h1 h2 h3 h4
  rfl

theorem rows1_congr {x0 y0 x1 y1 x2 y2 x3 y3 x4 y4 x5 y5 x6 y6 x7 y7 x8 y8} (h0 : x0 = y0) (h1 : x1 = y1) (h2 : x2 = y2) (h3 : x3 = y3) (h4 : x4 = y4) (h5 : x5 = y5) (h6 : x6 = y6) (h7 : x7 = y7) (h8 : x8 = y8) :
    Final.rows1 x0 x1 x2 x3 x4 x5 x6 x7 x8 = Final.rows1 y0 y1 y2 y3 y4 y5 y6 y7 y8 := by
  subst h0 h1 h2 h3 h4 h5 h6 h7 h8
  rfl

theorem rows2_congr {x0 y0 x1 y1 x2 y2 x3 y3 x4 y4 x5 y5 x6 y6} (h0 : x0 = y0) (h1 : x1 = y1) (h2 : x2 = y2) (h3 : x3 = y3) (h4 : x4 = y4) (h5 : x5 = y5) (h6 : x6 = y6) :
    Final.rows2 x0 x1 x2 x3 x4 x5 x6 = Final.rows2 y0 y1 y2 y3 y4 y5 y6 := by
  subst h0 h1 h2 h3 h4 h5 h6
  rfl

theorem algebraic : Cert.algebraic_PreIdeal_PreRefIdeal (hPreIdeal := Cert.PreIdeal.Gen.facts) (hPreRefIdeal := Cert.PreRefIdeal.Gen.facts) := by
  intro m ρ m' ρ' _ hagree
  refine ⟨fun c => Final.res0 m c, fun c => Final.res1 m c, fun c => Final.res2 m c, ?_, ?_⟩
  · exact (θ_run Cert.PreIdeal.defs _ _).mono
      (fun _ h c => ⟨(h c).1.trans (Final.final0 m c), (h c).2.1.trans (Final.final1 m c), (h c).2.2.1.trans (Final.final2 m c), (h c).2.2.2⟩)
      (Cert.PreIdeal.Value.run_blocks (F := Ideal) m ρ)
  refine (θ_run Cert.PreRefIdeal.defs _ _).mono
    (fun _ h c => ⟨(h c).1.trans ?_, (h c).2.1.trans ?_, (h c).2.2.1.trans ?_, (h c).2.2.2⟩) (Cert.PreRefIdeal.Value.run (F := Ideal) m' ρ')
  all_goals obtain ⟨h0, h1, h2, h3, h4, h5, h6, h7, h8⟩ := hagree c
  · exact (Cert.PreRefIdeal.Read.val_main_v20_eq _ _ _ _ _).trans ((residual_eq _ _ _ _ _).trans (rows0_congr h0 h1 h2 h3 h4))
  · exact (Cert.PreRefIdeal.Read.val_main_v72_eq m' c).trans ((slabs_eq _ _ _ _ _ _ _ _ _).trans (rows1_congr h0 h1 h2 h3 h4 h5 h6 h7 h8))
  · exact (Cert.PreRefIdeal.Read.val_main_v73_eq m' c).trans ((rest_eq _ _ _ _ _ _ _).trans (rows2_congr h0 h1 h2 h3 h4 h5 h6))

end Cert.Pre.Claim

end
-- ==== Proof.lean ====
module

public import proofs.«01_k».proof.Defs
public import proofs.«01_k».proof.Proof.Frames.Post.Frame
public import proofs.«01_k».proof.Proof.Frames.PostIdeal.Frame
public import proofs.«01_k».proof.Proof.Gen.PostRefIdeal.Run
public import proofs.«01_k».proof.Proof.Post.Claim
public import proofs.«01_k».proof.Proof.Pre.Claim
public import proofs.«01_k».proof.Proof.Gen.Pre.Frame
public import proofs.«01_k».proof.Proof.Gen.PreIdeal.Value
public import proofs.«01_k».proof.Proof.Gen.PreIdeal.Frame
public import proofs.«01_k».proof.Proof.Gen.PreRefIdeal
public import proofs.«01_k».proof.Proof.Gen.PreRefIdeal.Run
public import proofs.«01_k».proof.Proof.Gen.PreRefIdeal.Read
public import Idealize.ShloMosaic.Lib.Quiescent

@[expose] public section

noncomputable section

namespace Cert.Proof

open Idealize.ShloMosaic Idealize.SL.Sem

/-- The reference's run read at its arguments; it declares no semaphore. -/
theorem frame_reference : Cert.quiescent_PostRefIdeal (hPostRefIdeal := Cert.PostRefIdeal.Gen.facts) := fun m ρ _ =>
  (θ_run Cert.PostRefIdeal.defs _ _).mono (fun r h => ⟨fun c => (h c).2, sem_eq_zero_of_no_sems (by decide) r.2⟩)
    (Cert.PostRefIdeal.Value.run (F := Ideal) m ρ)

/-- The same of the other reference. -/
theorem frame_reference2 : Cert.quiescent_PreRefIdeal (hPreRefIdeal := Cert.PreRefIdeal.Gen.facts) := fun m ρ _ =>
  (θ_run Cert.PreRefIdeal.defs _ _).mono (fun r h => ⟨fun c => (h c).2.2.2, sem_eq_zero_of_no_sems (by decide) r.2⟩)
    (Cert.PreRefIdeal.Value.run (F := Ideal) m ρ)

theorem claim : Cert.Claim := ⟨Cert.Post.Gen.facts, Cert.PostIdeal.Gen.facts, Cert.PostRefIdeal.Gen.facts,
  Cert.Pre.Gen.facts, Cert.PreIdeal.Gen.facts, Cert.PreRefIdeal.Gen.facts,
  fun m ρ _ => Cert.Post.Gen.frame m ρ, fun m ρ _ => Cert.PostIdeal.Gen.frame m ρ, frame_reference,
  fun m ρ _ => Cert.Pre.Gen.frame m ρ, fun m ρ _ => Cert.PreIdeal.Gen.frame m ρ, frame_reference2,
  trivial, Cert.Post.Claim.algebraic, trivial, Cert.Pre.Claim.algebraic⟩

end Cert.Proof

end
